-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v9_1)) (v1 : (c : Dev Cert.Kernel7Ideal.nD) → Buf (Elt Ideal) ((c.tc : Thread Cert.Kernel7Ideal.nD Cert.Kernel7Ideal.τ).loc Cert.Kernel7Ideal.main_v9_2)) (v2 : (c : Dev Cert.Kernel7Ideal.nD) → Buf (Elt Ideal) ((c.tc : Thread Cert.Kernel7Ideal.nD Cert.Kernel7Ideal.τ).loc Cert.Kernel7Ideal.main_v9_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_1) = v0 c
          ∧ r.2.mem ((c.tc : Thread Cert.Kernel7Ideal.nD Cert.Kernel7Ideal.τ).loc Cert.Kernel7Ideal.main_v9_2) = v1 c
          ∧ r.2.mem ((c.tc : Thread Cert.Kernel7Ideal.nD Cert.Kernel7Ideal.τ).loc Cert.Kernel7Ideal.main_v9_3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_v64) = v1 c
          ∧ r.2.mem ((c.tc : Thread Cert.Reference7Ideal.nD Cert.Reference7Ideal.τ).loc Cert.Reference7Ideal.main_v65) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S9216x12288 : Shape := ⟨2, ![9216, 12288]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S9216x2048 : Shape := ⟨2, ![9216, 2048]⟩
abbrev S128x1024 : Shape := ⟨2, ![128, 1024]⟩
abbrev S128x2048 : Shape := ⟨2, ![128, 2048]⟩
abbrev S8x128x256 : Shape := ⟨3, ![8, 128, 256]⟩
abbrev S128x256 : Shape := ⟨2, ![128, 256]⟩
abbrev S1x128x256 : Shape := ⟨3, ![1, 128, 256]⟩
abbrev S1x128x1 : Shape := ⟨3, ![1, 128, 1]⟩
abbrev S1x1x1 : Shape := ⟨3, ![1, 1, 1]⟩
abbrev S1x1 : Shape := ⟨2, ![1, 1]⟩

abbrev nBuf : Space → Nat
  | .hbm => 146
  | .vmem => 17
  | .smem => 0
  | _ => 0

abbrev hbmTy0_0 (i : Nat) : BufTy := match i % 128 with
  | 0 => ⟨S9216x12288, .bf16⟩
  | 1 => ⟨S32, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S2048, .i32⟩
  | 10 => ⟨S_, .i32⟩
  | 11 => ⟨S_, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i1⟩
  | 18 => ⟨S2048, .i32⟩
  | 19 => ⟨S2048, .i32⟩
  | 20 => ⟨S_, .i32⟩
  | 21 => ⟨S2048, .i32⟩
  | 22 => ⟨S2048, .i1⟩
  | 23 => ⟨S2048, .i1⟩
  | 24 => ⟨S_, .i32⟩
  | 25 => ⟨S2048, .i32⟩
  | 26 => ⟨S2048, .i32⟩
  | 27 => ⟨S2048, .i32⟩
  | 28 => ⟨S2048, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i1⟩
  | 43 => ⟨S_, .i32⟩
  | 44 => ⟨S_, .i1⟩
  | 45 => ⟨S2048, .i1⟩
  | 46 => ⟨S2048, .i1⟩
  | 47 => ⟨S2048, .i1⟩
  | 48 => ⟨S2048, .i32⟩
  | 49 => ⟨S2048, .i32⟩
  | 50 => ⟨S2048, .i32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S2048x32, .f32⟩
  | 64 => ⟨S2048x32, .f32⟩
  | 65 => ⟨S2048x32, .f32⟩
  | 66 => ⟨S2048x128, .f32⟩
  | 67 => ⟨S2048x32, .f32⟩
  | 68 => ⟨S2048x32, .f32⟩
  | 69 => ⟨S2048x32, .f32⟩
  | 70 => ⟨S2048x32, .f32⟩
  | 71 => ⟨S2048x32, .f32⟩
  | 72 => ⟨S2048x32, .f32⟩
  | 73 => ⟨S2048x128, .f32⟩
  | 74 => ⟨S_, .f32⟩
  | 75 => ⟨S256x128, .f32⟩
  | 76 => ⟨S2304x128, .f32⟩
  | 77 => ⟨S_, .f32⟩
  | 78 => ⟨S256x128, .f32⟩
  | 79 => ⟨S2304x128, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S_, .f32⟩
  | 92 => ⟨S8, .f32⟩
  | 93 => ⟨S8, .f32⟩
  | 94 => ⟨S8, .f32⟩
  | 95 => ⟨S8, .f32⟩
  | 96 => ⟨S8, .f32⟩
  | 97 => ⟨S128, .f32⟩
  | 98 => ⟨S128x1, .f32⟩
  | 99 => ⟨S1x128, .f32⟩
  | 100 => ⟨S128x128, .f32⟩
  | 101 => ⟨S128x128, .f32⟩
  | 102 => ⟨S128x128, .f32⟩
  | 103 => ⟨S_, .f32⟩
  | 104 => ⟨S128x128, .f32⟩
  | 105 => ⟨S128x128, .i1⟩
  | 106 => ⟨S_, .f32⟩
  | 107 => ⟨S128x128, .f32⟩
  | 108 => ⟨S128x128, .f32⟩
  | 109 => ⟨S1x128x128, .f32⟩
  | 110 => ⟨S8x1x1, .f32⟩
  | 111 => ⟨S8x128x128, .f32⟩
  | 112 => ⟨S8x128x128, .f32⟩
  | 113 => ⟨S8x128x128, .f32⟩
  | 114 => ⟨S8x128x128, .f32⟩
  | 115 => ⟨S_, .f32⟩
  | 116 => ⟨S_, .f32⟩
  | 117 => ⟨S8x128x128, .i1⟩
  | 118 => ⟨S8x128x128, .f32⟩
  | 119 => ⟨S8x128x128, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S1x128, .f32⟩
  | 127 => ⟨S8x1, .f32⟩
  | _ => ⟨S9216x12288, .bf16⟩

abbrev hbmTy0_1 (i : Nat) : BufTy := match i % 128 with
  | 0 => ⟨S8x128, .f32⟩
  | 1 => ⟨S8x128, .f32⟩
  | 2 => ⟨S8x128, .f32⟩
  | 3 => ⟨S8x128, .f32⟩
  | 4 => ⟨S8x128x1, .f32⟩
  | 5 => ⟨S1x128, .f32⟩
  | 6 => ⟨S8x1, .f32⟩
  | 7 => ⟨S8x128, .f32⟩
  | 8 => ⟨S8x128, .f32⟩
  | 9 => ⟨S8x128, .f32⟩
  | 10 => ⟨S8x128, .f32⟩
  | 11 => ⟨S8x128x1, .f32⟩
  | 12 => ⟨S_, .f32⟩
  | 13 => ⟨S8, .f32⟩
  | 14 => ⟨S8, .f32⟩
  | 15 => ⟨S8, .f32⟩
  | 16 => ⟨S8x1x1, .f32⟩
  | 17 => ⟨S9216x2048, .bf16⟩
  | _ => ⟨S9216x12288, .bf16⟩

abbrev hbmTy (i : Nat) : BufTy := match i / 128 with
  | 0 => hbmTy0_0 i
  | 1 => hbmTy0_1 i
  | _ => ⟨S9216x12288, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x128, .f32⟩
  | .local _ .vmem, ⟨11, _⟩ => ⟨S8x128x1, .f32⟩
  | .local _ .vmem, ⟨12, _⟩ => ⟨S8x128x1, .f32⟩
  | .local _ .vmem, ⟨13, _⟩ => ⟨S8x1x1, .f32⟩
  | .local _ .vmem, ⟨14, _⟩ => ⟨S128x2048, .bf16⟩
  | .local _ .vmem, ⟨15, _⟩ => ⟨S128x2048, .bf16⟩
  | .local _ .vmem, ⟨16, _⟩ => ⟨S8x128x256, .f32⟩
  | _, _ => ⟨S9216x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_2 : Ref sig .tc := ⟨.hbm, 74, rfl⟩
abbrev main_v33 : Ref sig .tc := ⟨.hbm, 75, rfl⟩
abbrev main_v34 : Ref sig .tc := ⟨.hbm, 76, rfl⟩
abbrev main_cst_3 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_v39 : Ref sig .tc := ⟨.hbm, 83, rfl⟩
abbrev main_cst_5 : Ref sig .tc := ⟨.hbm, 84, rfl⟩
abbrev main_v40 : Ref sig .tc := ⟨.hbm, 85, rfl⟩
abbrev main_v41 : Ref sig .tc := ⟨.hbm, 86, rfl⟩
abbrev main_cst_6 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_7 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_8 : Ref sig .tc := ⟨.hbm, 103, rfl⟩
abbrev main_v56 : Ref sig .tc := ⟨.hbm, 104, rfl⟩
abbrev main_v57 : Ref sig .tc := ⟨.hbm, 105, rfl⟩
abbrev main_cst_9 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_10 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v66 : Ref sig .tc := ⟨.hbm, 119, rfl⟩
abbrev main_cst_11 : Ref sig .tc := ⟨.hbm, 120, rfl⟩
abbrev main_v67 : Ref sig .tc := ⟨.hbm, 121, rfl⟩
abbrev main_v68 : Ref sig .tc := ⟨.hbm, 122, rfl⟩
abbrev main_cst_12 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_13 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c64_i32 : BitVec 32 := 64#32
  let v2 : BitVec 32 := Scalar.addi c64_i32 v1
  let v3 : BitVec 32 := Scalar.addi v2 arg1
  let c16_i32 : BitVec 32 := 16#32
  let v4 : BitVec 32 := Scalar.muli arg0 c16_i32
  let v5 : BitVec 32 := Scalar.addi v4 arg1
  let c2_i32_1 : BitVec 32 := 2#32
  let v6 : BitVec 32 := Scalar.subi v5 c2_i32_1
  let v7 : BitVec 32 := Scalar.select v0 v3 v6
  let c0_i32 : BitVec 32 := 0#32
  let c0_i32_2 : BitVec 32 := 0#32
  ![v7.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c64_i32 : BitVec 32 := 64#32
  let v2 : BitVec 32 := Scalar.addi c64_i32 v1
  let v3 : BitVec 32 := Scalar.addi v2 arg1
  let c16_i32 : BitVec 32 := 16#32
  let v4 : BitVec 32 := Scalar.muli arg0 c16_i32
  let v5 : BitVec 32 := Scalar.addi v4 arg1
  let c2_i32_1 : BitVec 32 := 2#32
  let v6 : BitVec 32 := Scalar.subi v5 c2_i32_1
  let v7 : BitVec 32 := Scalar.select v0 v3 v6
  let c1_i32 : BitVec 32 := 1#32
  let c0_i32 : BitVec 32 := 0#32
  ![v7.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c64_i32 : BitVec 32 := 64#32
  let v2 : BitVec 32 := Scalar.addi c64_i32 v1
  let v3 : BitVec 32 := Scalar.addi v2 arg1
  let c16_i32 : BitVec 32 := 16#32
  let v4 : BitVec 32 := Scalar.muli arg0 c16_i32
  let v5 : BitVec 32 := Scalar.addi v4 arg1
  let c2_i32_1 : BitVec 32 := 2#32
  let v6 : BitVec 32 := Scalar.subi v5 c2_i32_1
  let v7 : BitVec 32 := Scalar.select v0 v3 v6
  let c1_i32 : BitVec 32 := 1#32
  let c0_i32 : BitVec 32 := 0#32
  ![v7.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c64_i32 : BitVec 32 := 64#32
  let v2 : BitVec 32 := Scalar.addi c64_i32 v1
  let v3 : BitVec 32 := Scalar.addi v2 arg1
  let c16_i32 : BitVec 32 := 16#32
  let v4 : BitVec 32 := Scalar.muli arg0 c16_i32
  let v5 : BitVec 32 := Scalar.addi v4 arg1
  let c2_i32_1 : BitVec 32 := 2#32
  let v6 : BitVec 32 := Scalar.subi v5 c2_i32_1
  let v7 : BitVec 32 := Scalar.select v0 v3 v6
  let c0_i32 : BitVec 32 := 0#32
  let c0_i32_2 : BitVec 32 := 0#32
  ![v7.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S9216x12288 : Shape := ⟨2, ![9216, 12288]⟩
abbrev S8192x12288 : Shape := ⟨2, ![8192, 12288]⟩
abbrev S4x2048x12288 : Shape := ⟨3, ![4, 2048, 12288]⟩
abbrev S4x2048x1024 : Shape := ⟨3, ![4, 2048, 1024]⟩
abbrev S4x2048x2048 : Shape := ⟨3, ![4, 2048, 2048]⟩
abbrev S4x2048x8x128 : Shape := ⟨4, ![4, 2048, 8, 128]⟩
abbrev S4x8x2048x128 : Shape := ⟨4, ![4, 8, 2048, 128]⟩
abbrev S2048 : Shape := ⟨1, ![2048]⟩
abbrev S_ : Shape := ⟨0, ![]⟩
abbrev S4x8x2048x64 : Shape := ⟨4, ![4, 8, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S4x8x2048x32 : Shape := ⟨4, ![4, 8, 2048, 32]⟩
abbrev S1x1x2048x32 : Shape := ⟨4, ![1, 1, 2048, 32]⟩
abbrev S4x2048x8x256 : Shape := ⟨4, ![4, 2048, 8, 256]⟩
abbrev S4x8x2048x256 : Shape := ⟨4, ![4, 8, 2048, 256]⟩
abbrev S1024x12288 : Shape := ⟨2, ![1024, 12288]⟩
abbrev S4x256x12288 : Shape := ⟨3, ![4, 256, 12288]⟩
abbrev S4x256x1024 : Shape := ⟨3, ![4, 256, 1024]⟩
abbrev S4x256x2048 : Shape := ⟨3, ![4, 256, 2048]⟩
abbrev S4x256x8x128 : Shape := ⟨4, ![4, 256, 8, 128]⟩
abbrev S4x8x256x128 : Shape := ⟨4, ![4, 8, 256, 128]⟩
abbrev S4x256x8x256 : Shape := ⟨4, ![4, 256, 8, 256]⟩
abbrev S4x8x256x256 : Shape := ⟨4, ![4, 8, 256, 256]⟩
abbrev S4x8x2304x128 : Shape := ⟨4, ![4, 8, 2304, 128]⟩
abbrev S4x8x2304x256 : Shape := ⟨4, ![4, 8, 2304, 256]⟩
abbrev S4x8x128x256 : Shape := ⟨4, ![4, 8, 128, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S4x8x18x128x128 : Shape := ⟨5, ![4, 8, 18, 128, 128]⟩
abbrev S18x4x8x128x128 : Shape := ⟨5, ![18, 4, 8, 128, 128]⟩
abbrev S4x8x18x128x256 : Shape := ⟨5, ![4, 8, 18, 128, 256]⟩
abbrev S18x4x8x128x256 : Shape := ⟨5, ![18, 4, 8, 128, 256]⟩
abbrev S1x4x8x128x128 : Shape := ⟨5, ![1, 4, 8, 128, 128]⟩
abbrev S4x8x128x128 : Shape := ⟨4, ![4, 8, 128, 128]⟩
abbrev S1x4x8x128x256 : Shape := ⟨5, ![1, 4, 8, 128, 256]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 352
  | .vmem => 0
  | .smem => 0
  | _ => 0

abbrev hbmTy0_0 (i : Nat) : BufTy := match i % 128 with
  | 0 => ⟨S9216x12288, .bf16⟩
  | 1 => ⟨S8192x12288, .bf16⟩
  | 2 => ⟨S4x2048x12288, .bf16⟩
  | 3 => ⟨S4x2048x12288, .f32⟩
  | 4 => ⟨S4x2048x1024, .f32⟩
  | 5 => ⟨S4x2048x1024, .f32⟩
  | 6 => ⟨S4x2048x2048, .f32⟩
  | 7 => ⟨S4x2048x8x128, .f32⟩
  | 8 => ⟨S4x8x2048x128, .f32⟩
  | 9 => ⟨S4x2048x8x128, .f32⟩
  | 10 => ⟨S4x8x2048x128, .f32⟩
  | 11 => ⟨S2048, .i32⟩
  | 12 => ⟨S_, .i32⟩
  | 13 => ⟨S_, .i32⟩
  | 14 => ⟨S2048, .i32⟩
  | 15 => ⟨S2048, .i32⟩
  | 16 => ⟨S2048, .i32⟩
  | 17 => ⟨S_, .i32⟩
  | 18 => ⟨S2048, .i32⟩
  | 19 => ⟨S2048, .i1⟩
  | 20 => ⟨S2048, .i32⟩
  | 21 => ⟨S2048, .i32⟩
  | 22 => ⟨S_, .i32⟩
  | 23 => ⟨S2048, .i32⟩
  | 24 => ⟨S2048, .i1⟩
  | 25 => ⟨S2048, .i1⟩
  | 26 => ⟨S_, .i32⟩
  | 27 => ⟨S2048, .i32⟩
  | 28 => ⟨S2048, .i32⟩
  | 29 => ⟨S2048, .i32⟩
  | 30 => ⟨S2048, .f32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i1⟩
  | 42 => ⟨S_, .i32⟩
  | 43 => ⟨S2048, .i32⟩
  | 44 => ⟨S2048, .i1⟩
  | 45 => ⟨S_, .i32⟩
  | 46 => ⟨S_, .i1⟩
  | 47 => ⟨S2048, .i1⟩
  | 48 => ⟨S2048, .i1⟩
  | 49 => ⟨S2048, .i1⟩
  | 50 => ⟨S2048, .i32⟩
  | 51 => ⟨S2048, .i32⟩
  | 52 => ⟨S2048, .i32⟩
  | 53 => ⟨S2048, .f32⟩
  | 54 => ⟨S4x8x2048x64, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S2048x1, .f32⟩
  | 64 => ⟨S1x32, .f32⟩
  | 65 => ⟨S2048x32, .f32⟩
  | 66 => ⟨S2048x32, .f32⟩
  | 67 => ⟨S2048x32, .f32⟩
  | 68 => ⟨S2048x32, .f32⟩
  | 69 => ⟨S2048x32, .f32⟩
  | 70 => ⟨S4x8x2048x32, .f32⟩
  | 71 => ⟨S4x8x2048x32, .f32⟩
  | 72 => ⟨S1x1x2048x32, .f32⟩
  | 73 => ⟨S4x8x2048x32, .f32⟩
  | 74 => ⟨S4x8x2048x32, .f32⟩
  | 75 => ⟨S1x1x2048x32, .f32⟩
  | 76 => ⟨S4x8x2048x32, .f32⟩
  | 77 => ⟨S4x8x2048x32, .f32⟩
  | 78 => ⟨S4x8x2048x32, .f32⟩
  | 79 => ⟨S1x1x2048x32, .f32⟩
  | 80 => ⟨S4x8x2048x32, .f32⟩
  | 81 => ⟨S4x8x2048x32, .f32⟩
  | 82 => ⟨S1x1x2048x32, .f32⟩
  | 83 => ⟨S4x8x2048x32, .f32⟩
  | 84 => ⟨S4x8x2048x32, .f32⟩
  | 85 => ⟨S4x8x2048x32, .f32⟩
  | 86 => ⟨S4x8x2048x64, .f32⟩
  | 87 => ⟨S4x8x2048x64, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S2048x1, .f32⟩
  | 97 => ⟨S1x32, .f32⟩
  | 98 => ⟨S2048x32, .f32⟩
  | 99 => ⟨S2048x32, .f32⟩
  | 100 => ⟨S2048x32, .f32⟩
  | 101 => ⟨S2048x32, .f32⟩
  | 102 => ⟨S2048x32, .f32⟩
  | 103 => ⟨S4x8x2048x32, .f32⟩
  | 104 => ⟨S4x8x2048x32, .f32⟩
  | 105 => ⟨S1x1x2048x32, .f32⟩
  | 106 => ⟨S4x8x2048x32, .f32⟩
  | 107 => ⟨S4x8x2048x32, .f32⟩
  | 108 => ⟨S1x1x2048x32, .f32⟩
  | 109 => ⟨S4x8x2048x32, .f32⟩
  | 110 => ⟨S4x8x2048x32, .f32⟩
  | 111 => ⟨S4x8x2048x32, .f32⟩
  | 112 => ⟨S1x1x2048x32, .f32⟩
  | 113 => ⟨S4x8x2048x32, .f32⟩
  | 114 => ⟨S4x8x2048x32, .f32⟩
  | 115 => ⟨S1x1x2048x32, .f32⟩
  | 116 => ⟨S4x8x2048x32, .f32⟩
  | 117 => ⟨S4x8x2048x32, .f32⟩
  | 118 => ⟨S4x8x2048x32, .f32⟩
  | 119 => ⟨S4x8x2048x64, .f32⟩
  | 120 => ⟨S4x8x2048x128, .f32⟩
  | 121 => ⟨S4x8x2048x64, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S9216x12288, .bf16⟩

abbrev hbmTy0_1 (i : Nat) : BufTy := match i % 128 with
  | 0 => ⟨S32, .f32⟩
  | 1 => ⟨S32, .f32⟩
  | 2 => ⟨S2048x1, .f32⟩
  | 3 => ⟨S1x32, .f32⟩
  | 4 => ⟨S2048x32, .f32⟩
  | 5 => ⟨S2048x32, .f32⟩
  | 6 => ⟨S2048x32, .f32⟩
  | 7 => ⟨S2048x32, .f32⟩
  | 8 => ⟨S2048x32, .f32⟩
  | 9 => ⟨S4x8x2048x32, .f32⟩
  | 10 => ⟨S4x8x2048x32, .f32⟩
  | 11 => ⟨S1x1x2048x32, .f32⟩
  | 12 => ⟨S4x8x2048x32, .f32⟩
  | 13 => ⟨S4x8x2048x32, .f32⟩
  | 14 => ⟨S1x1x2048x32, .f32⟩
  | 15 => ⟨S4x8x2048x32, .f32⟩
  | 16 => ⟨S4x8x2048x32, .f32⟩
  | 17 => ⟨S4x8x2048x32, .f32⟩
  | 18 => ⟨S1x1x2048x32, .f32⟩
  | 19 => ⟨S4x8x2048x32, .f32⟩
  | 20 => ⟨S4x8x2048x32, .f32⟩
  | 21 => ⟨S1x1x2048x32, .f32⟩
  | 22 => ⟨S4x8x2048x32, .f32⟩
  | 23 => ⟨S4x8x2048x32, .f32⟩
  | 24 => ⟨S4x8x2048x32, .f32⟩
  | 25 => ⟨S4x8x2048x64, .f32⟩
  | 26 => ⟨S4x8x2048x64, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S2048x1, .f32⟩
  | 36 => ⟨S1x32, .f32⟩
  | 37 => ⟨S2048x32, .f32⟩
  | 38 => ⟨S2048x32, .f32⟩
  | 39 => ⟨S2048x32, .f32⟩
  | 40 => ⟨S2048x32, .f32⟩
  | 41 => ⟨S2048x32, .f32⟩
  | 42 => ⟨S4x8x2048x32, .f32⟩
  | 43 => ⟨S4x8x2048x32, .f32⟩
  | 44 => ⟨S1x1x2048x32, .f32⟩
  | 45 => ⟨S4x8x2048x32, .f32⟩
  | 46 => ⟨S4x8x2048x32, .f32⟩
  | 47 => ⟨S1x1x2048x32, .f32⟩
  | 48 => ⟨S4x8x2048x32, .f32⟩
  | 49 => ⟨S4x8x2048x32, .f32⟩
  | 50 => ⟨S4x8x2048x32, .f32⟩
  | 51 => ⟨S1x1x2048x32, .f32⟩
  | 52 => ⟨S4x8x2048x32, .f32⟩
  | 53 => ⟨S4x8x2048x32, .f32⟩
  | 54 => ⟨S1x1x2048x32, .f32⟩
  | 55 => ⟨S4x8x2048x32, .f32⟩
  | 56 => ⟨S4x8x2048x32, .f32⟩
  | 57 => ⟨S4x8x2048x32, .f32⟩
  | 58 => ⟨S4x8x2048x64, .f32⟩
  | 59 => ⟨S4x8x2048x128, .f32⟩
  | 60 => ⟨S4x2048x8x256, .f32⟩
  | 61 => ⟨S4x8x2048x256, .f32⟩
  | 62 => ⟨S1024x12288, .bf16⟩
  | 63 => ⟨S4x256x12288, .bf16⟩
  | 64 => ⟨S4x256x12288, .f32⟩
  | 65 => ⟨S4x256x1024, .f32⟩
  | 66 => ⟨S4x256x1024, .f32⟩
  | 67 => ⟨S4x256x2048, .f32⟩
  | 68 => ⟨S4x256x8x128, .f32⟩
  | 69 => ⟨S4x8x256x128, .f32⟩
  | 70 => ⟨S4x256x8x128, .f32⟩
  | 71 => ⟨S4x8x256x128, .f32⟩
  | 72 => ⟨S4x256x8x256, .f32⟩
  | 73 => ⟨S4x8x256x256, .f32⟩
  | 74 => ⟨S4x8x2304x128, .f32⟩
  | 75 => ⟨S4x8x2304x128, .f32⟩
  | 76 => ⟨S4x8x2304x256, .f32⟩
  | 77 => ⟨S_, .f32⟩
  | 78 => ⟨S4x8x128x256, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S8, .f32⟩
  | 95 => ⟨S8, .f32⟩
  | 96 => ⟨S_, .f32⟩
  | 97 => ⟨S4x8x2304x128, .f32⟩
  | 98 => ⟨S4x8x2304x128, .f32⟩
  | 99 => ⟨S128, .f32⟩
  | 100 => ⟨S128x1, .f32⟩
  | 101 => ⟨S1x128, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .i1⟩
  | 108 => ⟨S_, .f32⟩
  | 109 => ⟨S128x128, .f32⟩
  | 110 => ⟨S128x128, .f32⟩
  | 111 => ⟨S1x128x128, .f32⟩
  | 112 => ⟨S8x1x1, .f32⟩
  | 113 => ⟨S8x128x128, .f32⟩
  | 114 => ⟨S8x128x128, .f32⟩
  | 115 => ⟨S8x128x128, .f32⟩
  | 116 => ⟨S8x128x128, .f32⟩
  | 117 => ⟨S_, .f32⟩
  | 118 => ⟨S_, .f32⟩
  | 119 => ⟨S8x128x128, .i1⟩
  | 120 => ⟨S8x128x128, .f32⟩
  | 121 => ⟨S8x128x128, .f32⟩
  | 122 => ⟨S1x128, .f32⟩
  | 123 => ⟨S_, .f32⟩
  | 124 => ⟨S1x128, .f32⟩
  | 125 => ⟨S1x128, .f32⟩
  | 126 => ⟨S8x1, .f32⟩
  | 127 => ⟨S8x128, .f32⟩
  | _ => ⟨S9216x12288, .bf16⟩

abbrev hbmTy0_2 (i : Nat) : BufTy := match i % 128 with
  | 0 => ⟨S8x128, .f32⟩
  | 1 => ⟨S8x128, .f32⟩
  | 2 => ⟨S8x128, .f32⟩
  | 3 => ⟨S8x128x1, .f32⟩
  | 4 => ⟨S1x128, .f32⟩
  | 5 => ⟨S_, .f32⟩
  | 6 => ⟨S1x128, .f32⟩
  | 7 => ⟨S1x128, .f32⟩
  | 8 => ⟨S8x1, .f32⟩
  | 9 => ⟨S8x128, .f32⟩
  | 10 => ⟨S8x128, .f32⟩
  | 11 => ⟨S8x128, .f32⟩
  | 12 => ⟨S8x128, .f32⟩
  | 13 => ⟨S8x128x1, .f32⟩
  | 14 => ⟨S_, .f32⟩
  | 15 => ⟨S8, .f32⟩
  | 16 => ⟨S8, .f32⟩
  | 17 => ⟨S8, .f32⟩
  | 18 => ⟨S8x1x1, .f32⟩
  | 19 => ⟨S4x8x18x128x128, .f32⟩
  | 20 => ⟨S18x4x8x128x128, .f32⟩
  | 21 => ⟨S4x8x18x128x128, .f32⟩
  | 22 => ⟨S18x4x8x128x128, .f32⟩
  | 23 => ⟨S4x8x18x128x256, .f32⟩
  | 24 => ⟨S18x4x8x128x256, .f32⟩
  | 25 => ⟨S_, .f32⟩
  | 26 => ⟨S18x4x8x128x256, .f32⟩
  | 27 => ⟨S_, .i32⟩
  | 28 => ⟨S18x4x8x128x128, .f32⟩
  | 29 => ⟨S18x4x8x128x128, .f32⟩
  | 30 => ⟨S18x4x8x128x256, .f32⟩
  | 31 => ⟨S8x128x128, .f32⟩
  | 32 => ⟨S8x128x1, .f32⟩
  | 33 => ⟨S8x1x1, .f32⟩
  | 34 => ⟨S8x128x1, .f32⟩
  | 35 => ⟨S_, .i32⟩
  | 36 => ⟨S4x8x128x256, .f32⟩
  | 37 => ⟨S18x4x8x128x256, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x4x8x128x128, .f32⟩
  | 45 => ⟨S4x8x128x128, .f32⟩
  | 46 => ⟨S_, .i32⟩
  | 47 => ⟨S_, .i32⟩
  | 48 => ⟨S_, .i32⟩
  | 49 => ⟨S_, .i32⟩
  | 50 => ⟨S1x4x8x128x128, .f32⟩
  | 51 => ⟨S4x8x128x128, .f32⟩
  | 52 => ⟨S_, .i32⟩
  | 53 => ⟨S_, .i32⟩
  | 54 => ⟨S_, .i32⟩
  | 55 => ⟨S_, .i32⟩
  | 56 => ⟨S1x4x8x128x256, .f32⟩
  | 57 => ⟨S4x8x128x256, .f32⟩
  | 58 => ⟨S4x8x128x128, .f32⟩
  | 59 => ⟨S1x8x128x128, .f32⟩
  | 60 => ⟨S4x8x128x128, .f32⟩
  | 61 => ⟨S4x8x128x128, .f32⟩
  | 62 => ⟨S4x8x128x256, .f32⟩
  | 63 => ⟨S1x8x128x1, .f32⟩
  | 64 => ⟨S4x8x128x128, .f32⟩
  | 65 => ⟨S4x8x128x128, .f32⟩
  | 66 => ⟨S4x8x128x256, .f32⟩
  | 67 => ⟨S4x8x128x256, .f32⟩
  | 68 => ⟨S1x8x1x1, .f32⟩
  | 69 => ⟨S4x8x128x256, .f32⟩
  | 70 => ⟨S4x8x128x256, .f32⟩
  | 71 => ⟨S1x8x128x1, .f32⟩
  | 72 => ⟨S4x8x128x128, .f32⟩
  | 73 => ⟨S4x8x128x128, .f32⟩
  | 74 => ⟨S4x8x128x256, .f32⟩
  | 75 => ⟨S4x8x128x256, .f32⟩
  | 76 => ⟨S1x4x8x128x256, .f32⟩
  | 77 => ⟨S_, .i32⟩
  | 78 => ⟨S_, .i32⟩
  | 79 => ⟨S_, .i32⟩
  | 80 => ⟨S_, .i32⟩
  | 81 => ⟨S18x4x8x128x256, .f32⟩
  | 82 => ⟨S_, .i32⟩
  | 83 => ⟨S_, .i32⟩
  | 84 => ⟨S4x8x18x128x256, .f32⟩
  | 85 => ⟨S4x8x2304x256, .f32⟩
  | 86 => ⟨S4x8x2048x256, .f32⟩
  | 87 => ⟨S4x2048x8x256, .f32⟩
  | 88 => ⟨S4x2048x2048, .f32⟩
  | 89 => ⟨S8192x2048, .f32⟩
  | 90 => ⟨S4x8x256x256, .f32⟩
  | 91 => ⟨S4x256x8x256, .f32⟩
  | 92 => ⟨S4x256x2048, .f32⟩
  | 93 => ⟨S1024x2048, .f32⟩
  | 94 => ⟨S9216x2048, .f32⟩
  | 95 => ⟨S9216x2048, .bf16⟩
  | _ => ⟨S9216x12288, .bf16⟩

abbrev hbmTy (i : Nat) : BufTy := match i / 128 with
  | 0 => hbmTy0_0 i
  | 1 => hbmTy0_1 i
  | 2 => hbmTy0_2 i
  | _ => ⟨S9216x12288, .bf16⟩

abbrev bufTy : (tb : Table) → Fin (tcTables nBuf tb) → BufTy
  | .hbm, ⟨i, _⟩ => hbmTy i
  | _, _ => ⟨S9216x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_2 : Ref sig .tc := ⟨.hbm, 90, rfl⟩
abbrev main_v49 : Ref sig .tc := ⟨.hbm, 91, rfl⟩
abbrev main_v50 : Ref sig .tc := ⟨.hbm, 92, rfl⟩
abbrev main_cst_3 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_4 : Ref sig .tc := ⟨.hbm, 124, rfl⟩
abbrev main_v81 : Ref sig .tc := ⟨.hbm, 125, rfl⟩
abbrev main_v82 : Ref sig .tc := ⟨.hbm, 126, rfl⟩
abbrev main_cst_5 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_6 : Ref sig .tc := ⟨.hbm, 157, rfl⟩
abbrev main_v112 : Ref sig .tc := ⟨.hbm, 158, rfl⟩
abbrev main_v113 : Ref sig .tc := ⟨.hbm, 159, rfl⟩
abbrev main_cst_7 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_8 : Ref sig .tc := ⟨.hbm, 205, rfl⟩
abbrev main_v158 : Ref sig .tc := ⟨.hbm, 206, rfl⟩
abbrev main_v159 : Ref sig .tc := ⟨.hbm, 207, rfl⟩
abbrev main_cst_9 : Ref sig .tc := ⟨.hbm, 208, rfl⟩
abbrev main_v160 : Ref sig .tc := ⟨.hbm, 209, rfl⟩
abbrev main_v161 : Ref sig .tc := ⟨.hbm, 210, rfl⟩
abbrev main_cst_10 : Ref sig .tc := ⟨.hbm, 211, rfl⟩
abbrev main_v162 : Ref sig .tc := ⟨.hbm, 212, rfl⟩
abbrev main_v163 : Ref sig .tc := ⟨.hbm, 213, rfl⟩
abbrev main_cst_11 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_12 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_13 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_cst_14 : Ref sig .tc := ⟨.hbm, 233, rfl⟩
abbrev main_v180 : Ref sig .tc := ⟨.hbm, 234, rfl⟩
abbrev main_v181 : Ref sig .tc := ⟨.hbm, 235, rfl⟩
abbrev main_cst_15 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_16 : Ref sig .tc := ⟨.hbm, 245, rfl⟩
abbrev main_call2_v0 : Ref sig .tc := ⟨.hbm, 246, rfl⟩
abbrev main_call2_v1 : Ref sig .tc := ⟨.hbm, 247, rfl⟩
abbrev main_call2_v2 : Ref sig .tc := ⟨.hbm, 248, rfl⟩
abbrev main_v190 : Ref sig .tc := ⟨.hbm, 249, rfl⟩
abbrev main_v191 : Ref sig .tc := ⟨.hbm, 250, rfl⟩
abbrev main_cst_17 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_cst_18 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_cst_19 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_cst_20 : Ref sig .tc := ⟨.hbm, 281, rfl⟩
abbrev main_v219 : Ref sig .tc := ⟨.hbm, 282, rfl⟩
abbrev main_c_21 : Ref sig .tc := ⟨.hbm, 283, rfl⟩
abbrev main_v220_0 : Ref sig .tc := ⟨.hbm, 284, rfl⟩
abbrev main_v220_1 : Ref sig .tc := ⟨.hbm, 285, rfl⟩
abbrev main_v220_2 : Ref sig .tc := ⟨.hbm, 286, rfl⟩
abbrev main_v220_3 : Ref sig .tc := ⟨.hbm, 287, rfl⟩
abbrev main_v220_4 : Ref sig .tc := ⟨.hbm, 288, rfl⟩
abbrev main_v220_5 : Ref sig .tc := ⟨.hbm, 289, rfl⟩
abbrev main_v220_6 : Ref sig .tc := ⟨.hbm, 290, rfl⟩
abbrev main_v220_7 : Ref sig .tc := ⟨.hbm, 291, rfl⟩
abbrev main_v220_8 : Ref sig .tc := ⟨.hbm, 292, rfl⟩
abbrev main_v220_9 : Ref sig .tc := ⟨.hbm, 293, rfl⟩
abbrev main_while0c_c_31 : Ref sig .tc := ⟨.hbm, 294, rfl⟩
abbrev main_while0c_v233 : Ref sig .tc := ⟨.hbm, 295, rfl⟩
abbrev main_while0b_call3_c : Ref sig .tc := ⟨.hbm, 296, rfl⟩
abbrev main_while0b_call3_c_0 : Ref sig .tc := ⟨.hbm, 297, rfl⟩
abbrev main_while0b_call3_c_1 : Ref sig .tc := ⟨.hbm, 298, rfl⟩
abbrev main_while0b_call3_c_2 : Ref sig .tc := ⟨.hbm, 299, rfl⟩
abbrev main_while0b_call3_v0 : Ref sig .tc := ⟨.hbm, 300, rfl⟩
abbrev main_while0b_v233 : Ref sig .tc := ⟨.hbm, 301, rfl⟩
abbrev main_while0b_call4_c : Ref sig .tc := ⟨.hbm, 302, rfl⟩
abbrev main_while0b_call4_c_0 : Ref sig .tc := ⟨.hbm, 303, rfl⟩
abbrev main_while0b_call4_c_1 : Ref sig .tc := ⟨.hbm, 304, rfl⟩
abbrev main_while0b_call4_c_2 : Ref sig .tc := ⟨.hbm, 305, rfl⟩
abbrev main_while0b_call4_v0 : Ref sig .tc := ⟨.hbm, 306, rfl⟩
abbrev main_while0b_v234 : Ref sig .tc := ⟨.hbm, 307, rfl⟩
abbrev main_while0b_call5_c : Ref sig .tc := ⟨.hbm, 308, rfl⟩
abbrev main_while0b_call5_c_0 : Ref sig .tc := ⟨.hbm, 309, rfl⟩
abbrev main_while0b_call5_c_1 : Ref sig .tc := ⟨.hbm, 310, rfl⟩
abbrev main_while0b_call5_c_2 : Ref sig .tc := ⟨.hbm, 311, rfl⟩
abbrev main_while0b_call5_v0 : Ref sig .tc := ⟨.hbm, 312, rfl⟩
abbrev main_while0b_v235 : Ref sig .tc := ⟨.hbm, 313, rfl⟩
abbrev main_while0b_v236 : Ref sig .tc := ⟨.hbm, 314, rfl⟩
abbrev main_while0b_v237 : Ref sig .tc := ⟨.hbm, 315, rfl⟩
abbrev main_while0b_v238 : Ref sig .tc := ⟨.hbm, 316, rfl⟩
abbrev main_while0b_v239 : Ref sig .tc := ⟨.hbm, 317, rfl⟩
abbrev main_while0b_v240 : Ref sig .tc := ⟨.hbm, 318, rfl⟩
abbrev main_while0b_v241 : Ref sig .tc := ⟨.hbm, 319, rfl⟩
abbrev main_while0b_v242 : Ref sig .tc := ⟨.hbm, 320, rfl⟩
abbrev main_while0b_v243 : Ref sig .tc := ⟨.hbm, 321, rfl⟩
abbrev main_while0b_v244 : Ref sig .tc := ⟨.hbm, 322, rfl⟩
abbrev main_while0b_v245 : Ref sig .tc := ⟨.hbm, 323, rfl⟩
abbrev main_while0b_v246 : Ref sig .tc := ⟨.hbm, 324, rfl⟩
abbrev main_while0b_v247 : Ref sig .tc := ⟨.hbm, 325, rfl⟩
abbrev main_while0b_v248 : Ref sig .tc := ⟨.hbm, 326, rfl⟩
abbrev main_while0b_v249 : Ref sig .tc := ⟨.hbm, 327, rfl⟩
abbrev main_while0b_v250 : Ref sig .tc := ⟨.hbm, 328, rfl⟩
abbrev main_while0b_v251 : Ref sig .tc := ⟨.hbm, 329, rfl⟩
abbrev main_while0b_v252 : Ref sig .tc := ⟨.hbm, 330, rfl⟩
abbrev main_while0b_v253 : Ref sig .tc := ⟨.hbm, 331, rfl⟩
abbrev main_while0b_call6_v0 : Ref sig .tc := ⟨.hbm, 332, rfl⟩
abbrev main_while0b_call6_c : Ref sig .tc := ⟨.hbm, 333, rfl⟩
abbrev main_while0b_call6_c_0 : Ref sig .tc := ⟨.hbm, 334, rfl⟩
abbrev main_while0b_call6_c_1 : Ref sig .tc := ⟨.hbm, 335, rfl⟩
abbrev main_while0b_call6_c_2 : Ref sig .tc := ⟨.hbm, 336, rfl⟩
abbrev main_while0b_v254 : Ref sig .tc := ⟨.hbm, 337, rfl⟩
abbrev main_while0b_c_31 : Ref sig .tc := ⟨.hbm, 338, rfl⟩
abbrev main_while0b_v255 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩

abbrev nD : Nat := 1
abbrev τ : Topo := Topo.v7x

variable {F : FTy → Type} [FloatOps F]

abbrev main_while0_count : Scf.Loop 32 := ⟨0#32, 18#32, 1#32⟩
-- ==== Kernel2.lean ====
abbrev S4x2048x4096 : Shape := ⟨3, ![4, 2048, 4096]⟩
abbrev S4096 : Shape := ⟨1, ![4096]⟩
abbrev S8x1x4096 : Shape := ⟨3, ![8, 1, 4096]⟩
abbrev S4096x16384 : Shape := ⟨2, ![4096, 16384]⟩
abbrev S16384x4096 : Shape := ⟨2, ![16384, 4096]⟩
abbrev S8192x4096 : Shape := ⟨2, ![8192, 4096]⟩
abbrev S1x4096 : Shape := ⟨2, ![1, 4096]⟩
abbrev S512x4096 : Shape := ⟨2, ![512, 4096]⟩
abbrev S1x1x4096 : Shape := ⟨3, ![1, 1, 4096]⟩
abbrev S4096x512 : Shape := ⟨2, ![4096, 512]⟩
abbrev S32x512 : Shape := ⟨2, ![32, 512]⟩
abbrev S32 : Shape := ⟨1, ![32]⟩
abbrev S32x1 : Shape := ⟨2, ![32, 1]⟩
abbrev S1x512 : Shape := ⟨2, ![1, 512]⟩
abbrev S1x1x512 : Shape := ⟨3, ![1, 1, 512]⟩
abbrev S512x512 : Shape := ⟨2, ![512, 512]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4096x16384, .f32⟩
  | .hbm, ⟨5, _⟩ => ⟨S16384x4096, .f32⟩
  | .hbm, ⟨6, _⟩ => ⟨S8x1x4096, .f32⟩
  | .hbm, ⟨7, _⟩ => ⟨S4096, .f32⟩
  | .hbm, ⟨8, _⟩ => ⟨S8192x4096, .f32⟩
  | .hbm, ⟨9, _⟩ => ⟨S1x4096, .f32⟩
  | .hbm, ⟨10, _⟩ => ⟨S4096x16384, .bf16⟩
  | .hbm, ⟨11, _⟩ => ⟨S16384x4096, .bf16⟩
  | .hbm, ⟨12, _⟩ => ⟨S1x4096, .f32⟩
  | .hbm, ⟨13, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x512, .bf16⟩
  | .local _ .vmem, ⟨8, _⟩ => ⟨S4096x512, .bf16⟩
  | .local _ .vmem, ⟨9, _⟩ => ⟨S512x4096, .bf16⟩
  | .local _ .vmem, ⟨10, _⟩ => ⟨S512x4096, .bf16⟩
  | .local _ .vmem, ⟨11, _⟩ => ⟨S1x1x4096, .f32⟩
  | .local _ .vmem, ⟨12, _⟩ => ⟨S1x1x4096, .f32⟩
  | .local _ .vmem, ⟨13, _⟩ => ⟨S1x4096, .f32⟩
  | .local _ .vmem, ⟨14, _⟩ => ⟨S512x4096, .f32⟩
  | .local _ .vmem, ⟨15, _⟩ => ⟨S512x4096, .f32⟩
  | .local _ .vmem, ⟨16, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c16_i32 : BitVec 32 := 16#32
  let v21 : BitVec 32 := Scalar.addi c0_i32_13 c16_i32
  let c1_i32 : BitVec 32 := 1#32
  ⟨c0_i32_13, v21, c1_i32⟩
def k0_mult1 (k0_t1 : Fin k0_t1_loop.trips) : BitVec 32 :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  v24
def k0_off1 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v26 : Index := Scalar.indexCast v25
  let c0_18 : Index := 0#32
  ![v26.toNat, 0]
def k0_off2 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v30 : Index := Scalar.indexCast v25
  let c512 : Index := 512#32
  ![v30.toNat, 512]
def k0_off3 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v35 : Index := Scalar.indexCast v25
  let c1024 : Index := 1024#32
  ![v35.toNat, 1024]
def k0_off4 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v40 : Index := Scalar.indexCast v25
  let c1536 : Index := 1536#32
  ![v40.toNat, 1536]
def k0_off5 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v45 : Index := Scalar.indexCast v25
  let c2048 : Index := 2048#32
  ![v45.toNat, 2048]
def k0_off6 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v50 : Index := Scalar.indexCast v25
  let c2560 : Index := 2560#32
  ![v50.toNat, 2560]
def k0_off7 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v55 : Index := Scalar.indexCast v25
  let c3072 : Index := 3072#32
  ![v55.toNat, 3072]
def k0_off8 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c32_i32 : BitVec 32 := 32#32
  let v24 : BitVec 32 := Scalar.muli arg12 c32_i32
  let v25 : BitVec 32 := v24
  let v60 : Index := Scalar.indexCast v25
  let c3584 : Index := 3584#32
  ![v60.toNat, 3584]
def k0_cond2 (i : grid0.Coords) : BitVec 1 :=
  let arg1 : BitVec 32 := BitVec.ofNat 32 (i 1).val
  let c31_i32 : BitVec 32 := 31#32
  let v18 : BitVec 1 := Scalar.cmpi .eq arg1 c31_i32
  let v19 : BitVec 32 := Scalar.extui v18
  let c0_i32_12 : BitVec 32 := 0#32
  let v20 : BitVec 1 := Scalar.cmpi .ne v19 c0_i32_12
  v20

@[reducible] def k0_t2_loop : Scf.Loop 32 :=
  let c0_i32_13 : BitVec 32 := 0#32
  let c16_i32 : BitVec 32 := 16#32
  let v21 : BitVec 32 := Scalar.addi c0_i32_13 c16_i32
  let c1_i32 : BitVec 32 := 1#32
  ⟨c0_i32_13, v21, c1_i32⟩
def k0_mult2 (k0_t2 : Fin k0_t2_loop.trips) : BitVec 32 :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  v22
def k0_off9 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v24 : Index := Scalar.indexCast v23
  let c0_15 : Index := 0#32
  ![v24.toNat, 0]
def k0_off10 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v28 : Index := Scalar.indexCast v23
  let c512 : Index := 512#32
  ![v28.toNat, 512]
def k0_off11 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v33 : Index := Scalar.indexCast v23
  let c1024 : Index := 1024#32
  ![v33.toNat, 1024]
def k0_off12 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v38 : Index := Scalar.indexCast v23
  let c1536 : Index := 1536#32
  ![v38.toNat, 1536]
def k0_off13 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v43 : Index := Scalar.indexCast v23
  let c2048 : Index := 2048#32
  ![v43.toNat, 2048]
def k0_off14 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v48 : Index := Scalar.indexCast v23
  let c2560 : Index := 2560#32
  ![v48.toNat, 2560]
def k0_off15 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v53 : Index := Scalar.indexCast v23
  let c3072 : Index := 3072#32
  ![v53.toNat, 3072]
def k0_off16 (k0_t2 : Fin k0_t2_loop.trips) : Fin 2 → Nat :=
  let c0_i32_13 : BitVec 32 := 0#32
  let c1_i32 : BitVec 32 := 1#32
  let arg12 : BitVec 32 := Scf.iv c0_i32_13 c1_i32 k0_t2
  let c32_i32 : BitVec 32 := 32#32
  let v22 : BitVec 32 := Scalar.muli arg12 c32_i32
  let v23 : BitVec 32 := v22
  let v58 : Index := Scalar.indexCast v23
  let c3584 : Index := 3584#32
  ![v58.toNat, 3584]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c0_i32_4 : BitVec 32 := 0#32
  let c0_i32_5 : BitVec 32 := 0#32
  let c0_i32_6 : BitVec 32 := 0#32
  ![v19.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4x2048x4096 : Shape := ⟨3, ![4, 2048, 4096]⟩
abbrev S4096 : Shape := ⟨1, ![4096]⟩
abbrev S8x1x4096 : Shape := ⟨3, ![8, 1, 4096]⟩
abbrev S4096x16384 : Shape := ⟨2, ![4096, 16384]⟩
abbrev S16384x4096 : Shape := ⟨2, ![16384, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x16384 : Shape := ⟨3, ![4, 2048, 16384]⟩
abbrev S8192x4096 : Shape := ⟨2, ![8192, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4096x16384, .f32⟩
  | .hbm, ⟨5, _⟩ => ⟨S16384x4096, .f32⟩
  | .hbm, ⟨6, _⟩ => ⟨S8x1x4096, .f32⟩
  | .hbm, ⟨7, _⟩ => ⟨S4096, .f32⟩
  | .hbm, ⟨8, _⟩ => ⟨S4x1x4096, .f32⟩
  | .hbm, ⟨9, _⟩ => ⟨S4x1x4096, .f32⟩
  | .hbm, ⟨10, _⟩ => ⟨S4x2048x4096, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x1x4096, .f32⟩
  | .hbm, ⟨28, _⟩ => ⟨S4x1x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x16384, .f32⟩
  | .hbm, ⟨34, _⟩ => ⟨S_, .f32⟩
  | .hbm, ⟨35, _⟩ => ⟨S4x2048x16384, .f32⟩
  | .hbm, ⟨36, _⟩ => ⟨S4x2048x16384, .f32⟩
  | .hbm, ⟨37, _⟩ => ⟨S4x2048x16384, .f32⟩
  | .hbm, ⟨38, _⟩ => ⟨S4x2048x4096, .f32⟩
  | .hbm, ⟨39, _⟩ => ⟨S4x1x4096, .f32⟩
  | .hbm, ⟨40, _⟩ => ⟨S4x2048x4096, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x4096, .f32⟩
  | .hbm, ⟨52, _⟩ => ⟨S4x2048x4096, .f32⟩
  | .hbm, ⟨53, _⟩ => ⟨S1x1x4096, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S4x2048x4096, .f32⟩
  | .hbm, ⟨58, _⟩ => ⟨S4x2048x4096, .f32⟩
  | .hbm, ⟨59, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel3.lean ====
abbrev S6x9216x4096 : Shape := ⟨3, ![6, 9216, 4096]⟩
abbrev S3x4096x4096 : Shape := ⟨3, ![3, 4096, 4096]⟩
abbrev S3x9216x4096 : Shape := ⟨3, ![3, 9216, 4096]⟩
abbrev S1x512x4096 : Shape := ⟨3, ![1, 512, 4096]⟩
abbrev S1x4096x1024 : Shape := ⟨3, ![1, 4096, 1024]⟩
abbrev S1x512x1024 : Shape := ⟨3, ![1, 512, 1024]⟩
abbrev S4096x1024 : Shape := ⟨2, ![4096, 1024]⟩
abbrev S1x256x1024 : Shape := ⟨3, ![1, 256, 1024]⟩
abbrev S256x1024 : Shape := ⟨2, ![256, 1024]⟩
abbrev S512x4096 : Shape := ⟨2, ![512, 4096]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S6x9216x4096, .bf16⟩
  | .hbm, ⟨1, _⟩ => ⟨S3x4096x4096, .f32⟩
  | .hbm, ⟨2, _⟩ => ⟨S3x9216x4096, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S4096x1024, .bf16⟩
  | _, _ => ⟨S6x9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 18], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v11 : BitVec 32 := Scalar.addi c0_i32_8 c16_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c256_i32 : BitVec 32 := 256#32
  let v12 : BitVec 32 := Scalar.muli arg7 c256_i32
  v12
def k0_off1 (k0_t1 : Fin k0_t1_loop.trips) : Fin 3 → Nat :=
  let c0_10 : Index := 0#32
  let c0_i32_8 : BitVec 32 := 0#32
  let c1_i32 : BitVec 32 := 1#32
  let arg7 : BitVec 32 := Scf.iv c0_i32_8 c1_i32 k0_t1
  let c256_i32 : BitVec 32 := 256#32
  let v12 : BitVec 32 := Scalar.muli arg7 c256_i32
  let v13 : BitVec 32 := v12
  let v14 : Index := Scalar.indexCast v13
  let c0_11 : Index := 0#32
  ![0, v14.toNat, 0]
def k0_off2 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c256_i32 : BitVec 32 := 256#32
  let v12 : BitVec 32 := Scalar.muli arg7 c256_i32
  let v13 : BitVec 32 := v12
  let v18 : Index := Scalar.indexCast v13
  let c0_12 : Index := 0#32
  ![v18.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference3Ideal.lean ====
abbrev S6x9216x4096 : Shape := ⟨3, ![6, 9216, 4096]⟩
abbrev S3x4096x4096 : Shape := ⟨3, ![3, 4096, 4096]⟩
abbrev S1x9216x4096 : Shape := ⟨3, ![1, 9216, 4096]⟩
abbrev S9216x4096 : Shape := ⟨2, ![9216, 4096]⟩
abbrev S1x4096x4096 : Shape := ⟨3, ![1, 4096, 4096]⟩
abbrev S4096x4096 : Shape := ⟨2, ![4096, 4096]⟩
abbrev S3x9216x4096 : Shape := ⟨3, ![3, 9216, 4096]⟩

abbrev nBuf : Space → Nat
  | .hbm => 25
  | .vmem => 0
  | .smem => 0
  | _ => 0

abbrev bufTy : (tb : Table) → Fin (tcTables nBuf tb) → BufTy
  | .hbm, ⟨0, _⟩ => ⟨S6x9216x4096, .bf16⟩
  | .hbm, ⟨1, _⟩ => ⟨S3x4096x4096, .f32⟩
  | .hbm, ⟨2, _⟩ => ⟨S1x9216x4096, .bf16⟩
  | .hbm, ⟨3, _⟩ => ⟨S9216x4096, .bf16⟩
  | .hbm, ⟨4, _⟩ => ⟨S9216x4096, .f32⟩
  | .hbm, ⟨5, _⟩ => ⟨S1x9216x4096, .bf16⟩
  | .hbm, ⟨6, _⟩ => ⟨S9216x4096, .bf16⟩
  | .hbm, ⟨7, _⟩ => ⟨S9216x4096, .f32⟩
  | .hbm, ⟨8, _⟩ => ⟨S1x9216x4096, .bf16⟩
  | .hbm, ⟨9, _⟩ => ⟨S9216x4096, .bf16⟩
  | .hbm, ⟨10, _⟩ => ⟨S9216x4096, .f32⟩
  | .hbm, ⟨11, _⟩ => ⟨S1x4096x4096, .f32⟩
  | .hbm, ⟨12, _⟩ => ⟨S4096x4096, .f32⟩
  | .hbm, ⟨13, _⟩ => ⟨S9216x4096, .f32⟩
  | .hbm, ⟨14, _⟩ => ⟨S1x4096x4096, .f32⟩
  | .hbm, ⟨15, _⟩ => ⟨S4096x4096, .f32⟩
  | .hbm, ⟨16, _⟩ => ⟨S9216x4096, .f32⟩
  | .hbm, ⟨17, _⟩ => ⟨S1x4096x4096, .f32⟩
  | .hbm, ⟨18, _⟩ => ⟨S4096x4096, .f32⟩
  | .hbm, ⟨19, _⟩ => ⟨S9216x4096, .f32⟩
  | .hbm, ⟨20, _⟩ => ⟨S1x9216x4096, .f32⟩
  | .hbm, ⟨21, _⟩ => ⟨S1x9216x4096, .f32⟩
  | .hbm, ⟨22, _⟩ => ⟨S1x9216x4096, .f32⟩
  | .hbm, ⟨23, _⟩ => ⟨S3x9216x4096, .f32⟩
  | .hbm, ⟨24, _⟩ => ⟨S3x9216x4096, .bf16⟩
  | _, _ => ⟨S6x9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Kernel4.lean ====
abbrev S9216x4096 : Shape := ⟨2, ![9216, 4096]⟩
abbrev S4096 : Shape := ⟨1, ![4096]⟩
abbrev S8x1x4096 : Shape := ⟨3, ![8, 1, 4096]⟩
abbrev S4096x12320 : Shape := ⟨2, ![4096, 12320]⟩
abbrev S32 : Shape := ⟨1, ![32]⟩
abbrev S4096x32 : Shape := ⟨2, ![4096, 32]⟩
abbrev S_ : Shape := ⟨0, ![]⟩
abbrev S4096x128 : Shape := ⟨2, ![4096, 128]⟩
abbrev S128 : Shape := ⟨1, ![128]⟩
abbrev S1x128 : Shape := ⟨2, ![1, 128]⟩
abbrev S1x4096 : Shape := ⟨2, ![1, 4096]⟩
abbrev S9216x12288 : Shape := ⟨2, ![9216, 12288]⟩
abbrev S9216x128 : Shape := ⟨2, ![9216, 128]⟩
abbrev S512x4096 : Shape := ⟨2, ![512, 4096]⟩
abbrev S1x1x4096 : Shape := ⟨3, ![1, 1, 4096]⟩
abbrev S4096x1024 : Shape := ⟨2, ![4096, 1024]⟩
abbrev S512x1024 : Shape := ⟨2, ![512, 1024]⟩
abbrev S512x128 : Shape := ⟨2, ![512, 128]⟩
abbrev S32x512 : Shape := ⟨2, ![32, 512]⟩
abbrev S32x1 : Shape := ⟨2, ![32, 1]⟩
abbrev S1x512 : Shape := ⟨2, ![1, 512]⟩
abbrev S1x1x512 : Shape := ⟨3, ![1, 1, 512]⟩

abbrev nBuf : Space → Nat
  | .hbm => 18
  | .vmem => 16
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4096x12320, .f32⟩
  | .hbm, ⟨5, _⟩ => ⟨S32, .f32⟩
  | .hbm, ⟨6, _⟩ => ⟨S4096x12320, .bf16⟩
  | .hbm, ⟨7, _⟩ => ⟨S4096x32, .bf16⟩
  | .hbm, ⟨8, _⟩ => ⟨S_, .i32⟩
  | .hbm, ⟨9, _⟩ => ⟨S_, .bf16⟩
  | .hbm, ⟨10, _⟩ => ⟨S4096x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x4096, .f32⟩
  | .hbm, ⟨16, _⟩ => ⟨S9216x12288, .bf16⟩
  | .hbm, ⟨17, _⟩ => ⟨S9216x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x1024, .bf16⟩
  | .local _ .vmem, ⟨8, _⟩ => ⟨S4096x1024, .bf16⟩
  | .local _ .vmem, ⟨9, _⟩ => ⟨S4096x128, .bf16⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | .local _ .vmem, ⟨15, _⟩ => ⟨S512x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![18, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v9 : BitVec 32 := Scalar.addi c0_i32_6 c16_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  v19
def k0_off1 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v21 : Index := Scalar.indexCast v20
  let c0_17 : Index := 0#32
  ![v21.toNat, 0]
def k0_off2 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v24 : Index := Scalar.indexCast v20
  let c512 : Index := 512#32
  ![v24.toNat, 512]
def k0_off3 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v28 : Index := Scalar.indexCast v20
  let c1024 : Index := 1024#32
  ![v28.toNat, 1024]
def k0_off4 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v32 : Index := Scalar.indexCast v20
  let c1536 : Index := 1536#32
  ![v32.toNat, 1536]
def k0_off5 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v36 : Index := Scalar.indexCast v20
  let c2048 : Index := 2048#32
  ![v36.toNat, 2048]
def k0_off6 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v40 : Index := Scalar.indexCast v20
  let c2560 : Index := 2560#32
  ![v40.toNat, 2560]
def k0_off7 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v44 : Index := Scalar.indexCast v20
  let c3072 : Index := 3072#32
  ![v44.toNat, 3072]
def k0_off8 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c32_i32 : BitVec 32 := 32#32
  let v19 : BitVec 32 := Scalar.muli arg12 c32_i32
  let v20 : BitVec 32 := v19
  let v48 : Index := Scalar.indexCast v20
  let c3584 : Index := 3584#32
  ![v48.toNat, 3584]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S9216x4096 : Shape := ⟨2, ![9216, 4096]⟩
abbrev S4096 : Shape := ⟨1, ![4096]⟩
abbrev S8x1x4096 : Shape := ⟨3, ![8, 1, 4096]⟩
abbrev S4096x12320 : Shape := ⟨2, ![4096, 12320]⟩
abbrev S32 : Shape := ⟨1, ![32]⟩
abbrev S8192x4096 : Shape := ⟨2, ![8192, 4096]⟩
abbrev S4x2048x4096 : Shape := ⟨3, ![4, 2048, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1024x4096 : Shape := ⟨2, ![1024, 4096]⟩
abbrev S4x256x4096 : Shape := ⟨3, ![4, 256, 4096]⟩
abbrev S1x4096 : Shape := ⟨2, ![1, 4096]⟩
abbrev S4x256 : Shape := ⟨2, ![4, 256]⟩
abbrev S4x256x1 : Shape := ⟨3, ![4, 256, 1]⟩
abbrev S9216x12320 : Shape := ⟨2, ![9216, 12320]⟩
abbrev S9216x32 : Shape := ⟨2, ![9216, 32]⟩
abbrev S1x32 : Shape := ⟨2, ![1, 32]⟩
abbrev S9216x12288 : Shape := ⟨2, ![9216, 12288]⟩
abbrev S9216x128 : Shape := ⟨2, ![9216, 128]⟩

abbrev nBuf : Space → Nat
  | .hbm => 77
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4096x12320, .f32⟩
  | .hbm, ⟨5, _⟩ => ⟨S32, .f32⟩
  | .hbm, ⟨6, _⟩ => ⟨S8192x4096, .f32⟩
  | .hbm, ⟨7, _⟩ => ⟨S4x2048x4096, .f32⟩
  | .hbm, ⟨8, _⟩ => ⟨S4x1x4096, .f32⟩
  | .hbm, ⟨9, _⟩ => ⟨S4x1x4096, .f32⟩
  | .hbm, ⟨10, _⟩ => ⟨S4x2048x4096, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x1x4096, .f32⟩
  | .hbm, ⟨28, _⟩ => ⟨S4x1x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S8192x4096, .f32⟩
  | .hbm, ⟨34, _⟩ => ⟨S1024x4096, .f32⟩
  | .hbm, ⟨35, _⟩ => ⟨S4x256x4096, .f32⟩
  | .hbm, ⟨36, _⟩ => ⟨S1x1x4096, .f32⟩
  | .hbm, ⟨37, _⟩ => ⟨S1x4096, .f32⟩
  | .hbm, ⟨38, _⟩ => ⟨S1x1x4096, .f32⟩
  | .hbm, ⟨39, _⟩ => ⟨S1x4096, .f32⟩
  | .hbm, ⟨40, _⟩ => ⟨S4x256x4096, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S4x256x1, .f32⟩
  | .hbm, ⟨51, _⟩ => ⟨S4x256x4096, .f32⟩
  | .hbm, ⟨52, _⟩ => ⟨S4x256x4096, .f32⟩
  | .hbm, ⟨53, _⟩ => ⟨S1x1x4096, .f32⟩
  | .hbm, ⟨54, _⟩ => ⟨S4x256x4096, .f32⟩
  | .hbm, ⟨55, _⟩ => ⟨S4x256x4096, .f32⟩
  | .hbm, ⟨56, _⟩ => ⟨S_, .f32⟩
  | .hbm, ⟨57, _⟩ => ⟨S1x4096, .f32⟩
  | .hbm, ⟨58, _⟩ => ⟨S1x4096, .f32⟩
  | .hbm, ⟨59, _⟩ => ⟨S1x1x4096, .f32⟩
  | .hbm, ⟨60, _⟩ => ⟨S4x256x4096, .f32⟩
  | .hbm, ⟨61, _⟩ => ⟨S4x256x4096, .f32⟩
  | .hbm, ⟨62, _⟩ => ⟨S1x1x4096, .f32⟩
  | .hbm, ⟨63, _⟩ => ⟨S4x256x4096, .f32⟩
  | .hbm, ⟨64, _⟩ => ⟨S4x256x4096, .f32⟩
  | .hbm, ⟨65, _⟩ => ⟨S1024x4096, .f32⟩
  | .hbm, ⟨66, _⟩ => ⟨S9216x4096, .f32⟩
  | .hbm, ⟨67, _⟩ => ⟨S9216x12320, .f32⟩
  | .hbm, ⟨68, _⟩ => ⟨S9216x32, .f32⟩
  | .hbm, ⟨69, _⟩ => ⟨S1x32, .f32⟩
  | .hbm, ⟨70, _⟩ => ⟨S9216x32, .f32⟩
  | .hbm, ⟨71, _⟩ => ⟨S9216x32, .f32⟩
  | .hbm, ⟨72, _⟩ => ⟨S9216x12288, .f32⟩
  | .hbm, ⟨73, _⟩ => ⟨S9216x12288, .bf16⟩
  | .hbm, ⟨74, _⟩ => ⟨S_, .i32⟩
  | .hbm, ⟨75, _⟩ => ⟨S_, .f32⟩
  | .hbm, ⟨76, _⟩ => ⟨S9216x128, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c : Ref sig .tc := ⟨.hbm, 74, rfl⟩
abbrev main_call0_v0 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel5.lean ====
abbrev S6x9216x4096 : Shape := ⟨3, ![6, 9216, 4096]⟩
abbrev S2x4096x128 : Shape := ⟨3, ![2, 4096, 128]⟩
abbrev S4096x480 : Shape := ⟨2, ![4096, 480]⟩
abbrev S_ : Shape := ⟨0, ![]⟩
abbrev S1x4096x128 : Shape := ⟨3, ![1, 4096, 128]⟩
abbrev S4096x128 : Shape := ⟨2, ![4096, 128]⟩
abbrev S4096x256 : Shape := ⟨2, ![4096, 256]⟩
abbrev S4096x512 : Shape := ⟨2, ![4096, 512]⟩
abbrev S1x4096x512 : Shape := ⟨3, ![1, 4096, 512]⟩
abbrev S3x4096x512 : Shape := ⟨3, ![3, 4096, 512]⟩
abbrev S3x9216x512 : Shape := ⟨3, ![3, 9216, 512]⟩
abbrev S1x512x4096 : Shape := ⟨3, ![1, 512, 4096]⟩
abbrev S1x512x512 : Shape := ⟨3, ![1, 512, 512]⟩
abbrev S1x256x512 : Shape := ⟨3, ![1, 256, 512]⟩
abbrev S256x512 : Shape := ⟨2, ![256, 512]⟩
abbrev S512x4096 : Shape := ⟨2, ![512, 4096]⟩
abbrev S512x512 : Shape := ⟨2, ![512, 512]⟩

abbrev nBuf : Space → Nat
  | .hbm => 35
  | .vmem => 7
  | .smem => 0
  | _ => 0

abbrev bufTy : (tb : Table) → Fin (tcTables nBuf tb) → BufTy
  | .hbm, ⟨0, _⟩ => ⟨S6x9216x4096, .bf16⟩
  | .hbm, ⟨1, _⟩ => ⟨S2x4096x128, .f32⟩
  | .hbm, ⟨2, _⟩ => ⟨S2x4096x128, .f32⟩
  | .hbm, ⟨3, _⟩ => ⟨S4096x480, .f32⟩
  | .hbm, ⟨4, _⟩ => ⟨S_, .i32⟩
  | .hbm, ⟨5, _⟩ => ⟨S_, .f32⟩
  | .hbm, ⟨6, _⟩ => ⟨S2x4096x128, .f32⟩
  | .hbm, ⟨7, _⟩ => ⟨S1x4096x128, .f32⟩
  | .hbm, ⟨8, _⟩ => ⟨S4096x128, .f32⟩
  | .hbm, ⟨9, _⟩ => ⟨S1x4096x128, .f32⟩
  | .hbm, ⟨10, _⟩ => ⟨S4096x128, .f32⟩
  | .hbm, ⟨11, _⟩ => ⟨S4096x256, .f32⟩
  | .hbm, ⟨12, _⟩ => ⟨S_, .i32⟩
  | .hbm, ⟨13, _⟩ => ⟨S_, .f32⟩
  | .hbm, ⟨14, _⟩ => ⟨S4096x512, .f32⟩
  | .hbm, ⟨15, _⟩ => ⟨S_, .i32⟩
  | .hbm, ⟨16, _⟩ => ⟨S_, .f32⟩
  | .hbm, ⟨17, _⟩ => ⟨S2x4096x128, .f32⟩
  | .hbm, ⟨18, _⟩ => ⟨S1x4096x128, .f32⟩
  | .hbm, ⟨19, _⟩ => ⟨S4096x128, .f32⟩
  | .hbm, ⟨20, _⟩ => ⟨S1x4096x128, .f32⟩
  | .hbm, ⟨21, _⟩ => ⟨S4096x128, .f32⟩
  | .hbm, ⟨22, _⟩ => ⟨S4096x256, .f32⟩
  | .hbm, ⟨23, _⟩ => ⟨S_, .i32⟩
  | .hbm, ⟨24, _⟩ => ⟨S_, .f32⟩
  | .hbm, ⟨25, _⟩ => ⟨S4096x512, .f32⟩
  | .hbm, ⟨26, _⟩ => ⟨S_, .i32⟩
  | .hbm, ⟨27, _⟩ => ⟨S_, .f32⟩
  | .hbm, ⟨28, _⟩ => ⟨S4096x512, .f32⟩
  | .hbm, ⟨29, _⟩ => ⟨S1x4096x512, .f32⟩
  | .hbm, ⟨30, _⟩ => ⟨S1x4096x512, .f32⟩
  | .hbm, ⟨31, _⟩ => ⟨S1x4096x512, .f32⟩
  | .hbm, ⟨32, _⟩ => ⟨S3x4096x512, .f32⟩
  | .hbm, ⟨33, _⟩ => ⟨S3x4096x512, .bf16⟩
  | .hbm, ⟨34, _⟩ => ⟨S3x9216x512, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512x512, .f32⟩
  | .local _ .vmem, ⟨5, _⟩ => ⟨S1x512x512, .f32⟩
  | .local _ .vmem, ⟨6, _⟩ => ⟨S4096x512, .bf16⟩
  | _, _ => ⟨S6x9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call3_v0 : Ref sig .tc := ⟨.hbm, 24, rfl⟩
abbrev main_v13 : Ref sig .tc := ⟨.hbm, 25, rfl⟩
abbrev main_c_3 : Ref sig .tc := ⟨.hbm, 26, rfl⟩
abbrev main_call4_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 18], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v10 : BitVec 32 := Scalar.addi c0_i32_8 c16_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c256_i32 : BitVec 32 := 256#32
  let v11 : BitVec 32 := Scalar.muli arg7 c256_i32
  v11
def k0_off1 (k0_t1 : Fin k0_t1_loop.trips) : Fin 3 → Nat :=
  let c0_10 : Index := 0#32
  let c0_i32_8 : BitVec 32 := 0#32
  let c1_i32 : BitVec 32 := 1#32
  let arg7 : BitVec 32 := Scf.iv c0_i32_8 c1_i32 k0_t1
  let c256_i32 : BitVec 32 := 256#32
  let v11 : BitVec 32 := Scalar.muli arg7 c256_i32
  let v12 : BitVec 32 := v11
  let v13 : Index := Scalar.indexCast v12
  let c0_11 : Index := 0#32
  ![0, v13.toNat, 0]
def k0_off2 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c256_i32 : BitVec 32 := 256#32
  let v11 : BitVec 32 := Scalar.muli arg7 c256_i32
  let v12 : BitVec 32 := v11
  let v16 : Index := Scalar.indexCast v12
  let c0_12 : Index := 0#32
  ![v16.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  let c0_i32_0 : BitVec 32 := 0#32
  ![v0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference5Ideal.lean ====
abbrev S6x9216x4096 : Shape := ⟨3, ![6, 9216, 4096]⟩
abbrev S2x4096x128 : Shape := ⟨3, ![2, 4096, 128]⟩
abbrev S4096x480 : Shape := ⟨2, ![4096, 480]⟩
abbrev S1x9216x4096 : Shape := ⟨3, ![1, 9216, 4096]⟩
abbrev S9216x4096 : Shape := ⟨2, ![9216, 4096]⟩
abbrev S1x4096x128 : Shape := ⟨3, ![1, 4096, 128]⟩
abbrev S4096x128 : Shape := ⟨2, ![4096, 128]⟩
abbrev S9216x128 : Shape := ⟨2, ![9216, 128]⟩
abbrev S9216x256 : Shape := ⟨2, ![9216, 256]⟩
abbrev S_ : Shape := ⟨0, ![]⟩
abbrev S9216x512 : Shape := ⟨2, ![9216, 512]⟩
abbrev S9216x480 : Shape := ⟨2, ![9216, 480]⟩
abbrev S1x9216x512 : Shape := ⟨3, ![1, 9216, 512]⟩
abbrev S3x9216x512 : Shape := ⟨3, ![3, 9216, 512]⟩

abbrev nBuf : Space → Nat
  | .hbm => 41
  | .vmem => 0
  | .smem => 0
  | _ => 0

abbrev bufTy : (tb : Table) → Fin (tcTables nBuf tb) → BufTy
  | .hbm, ⟨0, _⟩ => ⟨S6x9216x4096, .bf16⟩
  | .hbm, ⟨1, _⟩ => ⟨S2x4096x128, .f32⟩
  | .hbm, ⟨2, _⟩ => ⟨S2x4096x128, .f32⟩
  | .hbm, ⟨3, _⟩ => ⟨S4096x480, .f32⟩
  | .hbm, ⟨4, _⟩ => ⟨S1x9216x4096, .bf16⟩
  | .hbm, ⟨5, _⟩ => ⟨S9216x4096, .bf16⟩
  | .hbm, ⟨6, _⟩ => ⟨S9216x4096, .f32⟩
  | .hbm, ⟨7, _⟩ => ⟨S1x9216x4096, .bf16⟩
  | .hbm, ⟨8, _⟩ => ⟨S9216x4096, .bf16⟩
  | .hbm, ⟨9, _⟩ => ⟨S9216x4096, .f32⟩
  | .hbm, ⟨10, _⟩ => ⟨S1x9216x4096, .bf16⟩
  | .hbm, ⟨11, _⟩ => ⟨S9216x4096, .bf16⟩
  | .hbm, ⟨12, _⟩ => ⟨S9216x4096, .f32⟩
  | .hbm, ⟨13, _⟩ => ⟨S1x4096x128, .f32⟩
  | .hbm, ⟨14, _⟩ => ⟨S4096x128, .f32⟩
  | .hbm, ⟨15, _⟩ => ⟨S9216x128, .f32⟩
  | .hbm, ⟨16, _⟩ => ⟨S1x4096x128, .f32⟩
  | .hbm, ⟨17, _⟩ => ⟨S4096x128, .f32⟩
  | .hbm, ⟨18, _⟩ => ⟨S9216x128, .f32⟩
  | .hbm, ⟨19, _⟩ => ⟨S9216x256, .f32⟩
  | .hbm, ⟨20, _⟩ => ⟨S_, .i32⟩
  | .hbm, ⟨21, _⟩ => ⟨S_, .f32⟩
  | .hbm, ⟨22, _⟩ => ⟨S9216x512, .f32⟩
  | .hbm, ⟨23, _⟩ => ⟨S1x4096x128, .f32⟩
  | .hbm, ⟨24, _⟩ => ⟨S4096x128, .f32⟩
  | .hbm, ⟨25, _⟩ => ⟨S9216x128, .f32⟩
  | .hbm, ⟨26, _⟩ => ⟨S1x4096x128, .f32⟩
  | .hbm, ⟨27, _⟩ => ⟨S4096x128, .f32⟩
  | .hbm, ⟨28, _⟩ => ⟨S9216x128, .f32⟩
  | .hbm, ⟨29, _⟩ => ⟨S9216x256, .f32⟩
  | .hbm, ⟨30, _⟩ => ⟨S_, .i32⟩
  | .hbm, ⟨31, _⟩ => ⟨S_, .f32⟩
  | .hbm, ⟨32, _⟩ => ⟨S9216x512, .f32⟩
  | .hbm, ⟨33, _⟩ => ⟨S9216x480, .f32⟩
  | .hbm, ⟨34, _⟩ => ⟨S_, .i32⟩
  | .hbm, ⟨35, _⟩ => ⟨S_, .f32⟩
  | .hbm, ⟨36, _⟩ => ⟨S9216x512, .f32⟩
  | .hbm, ⟨37, _⟩ => ⟨S1x9216x512, .f32⟩
  | .hbm, ⟨38, _⟩ => ⟨S1x9216x512, .f32⟩
  | .hbm, ⟨39, _⟩ => ⟨S1x9216x512, .f32⟩
  | .hbm, ⟨40, _⟩ => ⟨S3x9216x512, .f32⟩
  | _, _ => ⟨S6x9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_0 : Ref sig .tc := ⟨.hbm, 30, rfl⟩
abbrev main_call1_v0 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_call2_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel6.lean ====
abbrev S4x4096 : Shape := ⟨2, ![4, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S2x1x24576, .f32⟩
  | .hbm, ⟨9, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x4096 : Shape := ⟨2, ![4, 4096]⟩
abbrev S4096 : Shape := ⟨1, ![4096]⟩
abbrev S2x4096x24576 : Shape := ⟨3, ![2, 4096, 24576]⟩
abbrev S2x24576 : Shape := ⟨2, ![2, 24576]⟩
abbrev S_ : Shape := ⟨0, ![]⟩
abbrev S1x4096 : Shape := ⟨2, ![1, 4096]⟩
abbrev S3x4096 : Shape := ⟨2, ![3, 4096]⟩
abbrev S8x4096 : Shape := ⟨2, ![8, 4096]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 45
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S1x4096, .f32⟩
  | .hbm, ⟨23, _⟩ => ⟨S_, .f32⟩
  | .hbm, ⟨24, _⟩ => ⟨S3x4096, .f32⟩
  | .hbm, ⟨25, _⟩ => ⟨S8x4096, .f32⟩
  | .hbm, ⟨26, _⟩ => ⟨S1x4096x24576, .f32⟩
  | .hbm, ⟨27, _⟩ => ⟨S4096x24576, .f32⟩
  | .hbm, ⟨28, _⟩ => ⟨S8x24576, .f32⟩
  | .hbm, ⟨29, _⟩ => ⟨S1x24576, .f32⟩
  | .hbm, ⟨30, _⟩ => ⟨S24576, .f32⟩
  | .hbm, ⟨31, _⟩ => ⟨S1x24576, .f32⟩
  | .hbm, ⟨32, _⟩ => ⟨S8x24576, .f32⟩
  | .hbm, ⟨33, _⟩ => ⟨S8x24576, .f32⟩
  | .hbm, ⟨34, _⟩ => ⟨S1x4096x24576, .f32⟩
  | .hbm, ⟨35, _⟩ => ⟨S4096x24576, .f32⟩
  | .hbm, ⟨36, _⟩ => ⟨S8x24576, .f32⟩
  | .hbm, ⟨37, _⟩ => ⟨S1x24576, .f32⟩
  | .hbm, ⟨38, _⟩ => ⟨S24576, .f32⟩
  | .hbm, ⟨39, _⟩ => ⟨S1x24576, .f32⟩
  | .hbm, ⟨40, _⟩ => ⟨S8x24576, .f32⟩
  | .hbm, ⟨41, _⟩ => ⟨S8x24576, .f32⟩
  | .hbm, ⟨42, _⟩ => ⟨S1x8x24576, .f32⟩
  | .hbm, ⟨43, _⟩ => ⟨S1x8x24576, .f32⟩
  | .hbm, ⟨44, _⟩ => ⟨S2x8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel7.lean ====
abbrev S3x9216x4096 : Shape := ⟨3, ![3, 9216, 4096]⟩
abbrev S3x9216x512 : Shape := ⟨3, ![3, 9216, 512]⟩
abbrev S2x128x4096 : Shape := ⟨3, ![2, 128, 4096]⟩
abbrev S480x4096 : Shape := ⟨2, ![480, 4096]⟩
abbrev S2x4096 : Shape := ⟨2, ![2, 4096]⟩
abbrev S4096 : Shape := ⟨1, ![4096]⟩
abbrev S_ : Shape := ⟨0, ![]⟩
abbrev S512x4096 : Shape := ⟨2, ![512, 4096]⟩
abbrev S2x1x4096 : Shape := ⟨3, ![2, 1, 4096]⟩
abbrev S1x4096 : Shape := ⟨2, ![1, 4096]⟩
abbrev S2x9216x4096 : Shape := ⟨3, ![2, 9216, 4096]⟩
abbrev S9216x4096 : Shape := ⟨2, ![9216, 4096]⟩
abbrev S1x256x1024 : Shape := ⟨3, ![1, 256, 1024]⟩
abbrev S3x256x512 : Shape := ⟨3, ![3, 256, 512]⟩
abbrev S2x128x1024 : Shape := ⟨3, ![2, 128, 1024]⟩
abbrev S512x1024 : Shape := ⟨2, ![512, 1024]⟩
abbrev S2x1x1024 : Shape := ⟨3, ![2, 1, 1024]⟩
abbrev S1x1024 : Shape := ⟨2, ![1, 1024]⟩
abbrev S2x256x1024 : Shape := ⟨3, ![2, 256, 1024]⟩
abbrev S256x1024 : Shape := ⟨2, ![256, 1024]⟩
abbrev S128x128 : Shape := ⟨2, ![128, 128]⟩
abbrev S1x256x512 : Shape := ⟨3, ![1, 256, 512]⟩
abbrev S256x512 : Shape := ⟨2, ![256, 512]⟩
abbrev S256x128 : Shape := ⟨2, ![256, 128]⟩
abbrev S1x1x1024 : Shape := ⟨3, ![1, 1, 1024]⟩
abbrev S1x128x1024 : Shape := ⟨3, ![1, 128, 1024]⟩
abbrev S128x1024 : Shape := ⟨2, ![128, 1024]⟩

abbrev nBuf : Space → Nat
  | .hbm => 27
  | .vmem => 24
  | .smem => 0
  | _ => 0

abbrev bufTy : (tb : Table) → Fin (tcTables nBuf tb) → BufTy
  | .hbm, ⟨0, _⟩ => ⟨S3x9216x4096, .bf16⟩
  | .hbm, ⟨1, _⟩ => ⟨S3x9216x512, .f32⟩
  | .hbm, ⟨2, _⟩ => ⟨S2x128x4096, .f32⟩
  | .hbm, ⟨3, _⟩ => ⟨S2x128x4096, .f32⟩
  | .hbm, ⟨4, _⟩ => ⟨S480x4096, .f32⟩
  | .hbm, ⟨5, _⟩ => ⟨S2x4096, .f32⟩
  | .hbm, ⟨6, _⟩ => ⟨S2x4096, .f32⟩
  | .hbm, ⟨7, _⟩ => ⟨S4096, .f32⟩
  | .hbm, ⟨8, _⟩ => ⟨S_, .i32⟩
  | .hbm, ⟨9, _⟩ => ⟨S_, .f32⟩
  | .hbm, ⟨10, _⟩ => ⟨S2x128x4096, .f32⟩
  | .hbm, ⟨11, _⟩ => ⟨S2x128x4096, .bf16⟩
  | .hbm, ⟨12, _⟩ => ⟨S_, .i32⟩
  | .hbm, ⟨13, _⟩ => ⟨S_, .f32⟩
  | .hbm, ⟨14, _⟩ => ⟨S2x128x4096, .f32⟩
  | .hbm, ⟨15, _⟩ => ⟨S2x128x4096, .bf16⟩
  | .hbm, ⟨16, _⟩ => ⟨S_, .i32⟩
  | .hbm, ⟨17, _⟩ => ⟨S_, .f32⟩
  | .hbm, ⟨18, _⟩ => ⟨S512x4096, .f32⟩
  | .hbm, ⟨19, _⟩ => ⟨S512x4096, .bf16⟩
  | .hbm, ⟨20, _⟩ => ⟨S2x1x4096, .f32⟩
  | .hbm, ⟨21, _⟩ => ⟨S2x1x4096, .f32⟩
  | .hbm, ⟨22, _⟩ => ⟨S1x4096, .f32⟩
  | .hbm, ⟨23, _⟩ => ⟨S2x9216x4096, .f32⟩
  | .hbm, ⟨24, _⟩ => ⟨S2x9216x4096, .bf16⟩
  | .hbm, ⟨25, _⟩ => ⟨S9216x4096, .bf16⟩
  | .hbm, ⟨26, _⟩ => ⟨S9216x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S3x256x512, .f32⟩
  | .local _ .vmem, ⟨3, _⟩ => ⟨S3x256x512, .f32⟩
  | .local _ .vmem, ⟨4, _⟩ => ⟨S2x128x1024, .bf16⟩
  | .local _ .vmem, ⟨5, _⟩ => ⟨S2x128x1024, .bf16⟩
  | .local _ .vmem, ⟨6, _⟩ => ⟨S2x128x1024, .bf16⟩
  | .local _ .vmem, ⟨7, _⟩ => ⟨S2x128x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1x1024, .f32⟩
  | .local _ .vmem, ⟨11, _⟩ => ⟨S2x1x1024, .f32⟩
  | .local _ .vmem, ⟨12, _⟩ => ⟨S2x1x1024, .f32⟩
  | .local _ .vmem, ⟨13, _⟩ => ⟨S2x1x1024, .f32⟩
  | .local _ .vmem, ⟨14, _⟩ => ⟨S1x1024, .f32⟩
  | .local _ .vmem, ⟨15, _⟩ => ⟨S1x1024, .f32⟩
  | .local _ .vmem, ⟨16, _⟩ => ⟨S2x256x1024, .f32⟩
  | .local _ .vmem, ⟨17, _⟩ => ⟨S2x256x1024, .f32⟩
  | .local _ .vmem, ⟨18, _⟩ => ⟨S2x256x1024, .bf16⟩
  | .local _ .vmem, ⟨19, _⟩ => ⟨S2x256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | _, _ => ⟨S3x9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![36, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference7Ideal.lean ====
abbrev S3x9216x4096 : Shape := ⟨3, ![3, 9216, 4096]⟩
abbrev S3x9216x512 : Shape := ⟨3, ![3, 9216, 512]⟩
abbrev S2x128x4096 : Shape := ⟨3, ![2, 128, 4096]⟩
abbrev S480x4096 : Shape := ⟨2, ![480, 4096]⟩
abbrev S2x4096 : Shape := ⟨2, ![2, 4096]⟩
abbrev S4096 : Shape := ⟨1, ![4096]⟩
abbrev S1x4096 : Shape := ⟨2, ![1, 4096]⟩
abbrev S1x9216x512 : Shape := ⟨3, ![1, 9216, 512]⟩
abbrev S9216x512 : Shape := ⟨2, ![9216, 512]⟩
abbrev S9216x128 : Shape := ⟨2, ![9216, 128]⟩
abbrev S1x128x4096 : Shape := ⟨3, ![1, 128, 4096]⟩
abbrev S128x4096 : Shape := ⟨2, ![128, 4096]⟩
abbrev S9216x4096 : Shape := ⟨2, ![9216, 4096]⟩
abbrev S_ : Shape := ⟨0, ![]⟩
abbrev S9216x480 : Shape := ⟨2, ![9216, 480]⟩
abbrev S1x9216x4096 : Shape := ⟨3, ![1, 9216, 4096]⟩
abbrev S9216x64x64 : Shape := ⟨3, ![9216, 64, 64]⟩
abbrev S9216x64 : Shape := ⟨2, ![9216, 64]⟩
abbrev S9216x64x1 : Shape := ⟨3, ![9216, 64, 1]⟩
abbrev S2x9216x4096 : Shape := ⟨3, ![2, 9216, 4096]⟩

abbrev nBuf : Space → Nat
  | .hbm => 82
  | .vmem => 0
  | .smem => 0
  | _ => 0

abbrev bufTy : (tb : Table) → Fin (tcTables nBuf tb) → BufTy
  | .hbm, ⟨0, _⟩ => ⟨S3x9216x4096, .bf16⟩
  | .hbm, ⟨1, _⟩ => ⟨S3x9216x512, .f32⟩
  | .hbm, ⟨2, _⟩ => ⟨S2x128x4096, .f32⟩
  | .hbm, ⟨3, _⟩ => ⟨S2x128x4096, .f32⟩
  | .hbm, ⟨4, _⟩ => ⟨S480x4096, .f32⟩
  | .hbm, ⟨5, _⟩ => ⟨S2x4096, .f32⟩
  | .hbm, ⟨6, _⟩ => ⟨S2x4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S1x9216x512, .f32⟩
  | .hbm, ⟨11, _⟩ => ⟨S9216x512, .f32⟩
  | .hbm, ⟨12, _⟩ => ⟨S9216x128, .f32⟩
  | .hbm, ⟨13, _⟩ => ⟨S1x128x4096, .f32⟩
  | .hbm, ⟨14, _⟩ => ⟨S128x4096, .f32⟩
  | .hbm, ⟨15, _⟩ => ⟨S9216x4096, .f32⟩
  | .hbm, ⟨16, _⟩ => ⟨S1x4096, .f32⟩
  | .hbm, ⟨17, _⟩ => ⟨S9216x4096, .f32⟩
  | .hbm, ⟨18, _⟩ => ⟨S9216x4096, .f32⟩
  | .hbm, ⟨19, _⟩ => ⟨S9216x4096, .f32⟩
  | .hbm, ⟨20, _⟩ => ⟨S9216x4096, .f32⟩
  | .hbm, ⟨21, _⟩ => ⟨S_, .f32⟩
  | .hbm, ⟨22, _⟩ => ⟨S9216x4096, .f32⟩
  | .hbm, ⟨23, _⟩ => ⟨S9216x4096, .f32⟩
  | .hbm, ⟨24, _⟩ => ⟨S_, .f32⟩
  | .hbm, ⟨25, _⟩ => ⟨S9216x4096, .f32⟩
  | .hbm, ⟨26, _⟩ => ⟨S9216x4096, .f32⟩
  | .hbm, ⟨27, _⟩ => ⟨S1x4096, .f32⟩
  | .hbm, ⟨28, _⟩ => ⟨S4096, .f32⟩
  | .hbm, ⟨29, _⟩ => ⟨S1x9216x512, .f32⟩
  | .hbm, ⟨30, _⟩ => ⟨S9216x512, .f32⟩
  | .hbm, ⟨31, _⟩ => ⟨S9216x128, .f32⟩
  | .hbm, ⟨32, _⟩ => ⟨S1x128x4096, .f32⟩
  | .hbm, ⟨33, _⟩ => ⟨S128x4096, .f32⟩
  | .hbm, ⟨34, _⟩ => ⟨S9216x4096, .f32⟩
  | .hbm, ⟨35, _⟩ => ⟨S1x4096, .f32⟩
  | .hbm, ⟨36, _⟩ => ⟨S9216x4096, .f32⟩
  | .hbm, ⟨37, _⟩ => ⟨S9216x4096, .f32⟩
  | .hbm, ⟨38, _⟩ => ⟨S9216x4096, .f32⟩
  | .hbm, ⟨39, _⟩ => ⟨S9216x4096, .f32⟩
  | .hbm, ⟨40, _⟩ => ⟨S_, .f32⟩
  | .hbm, ⟨41, _⟩ => ⟨S9216x4096, .f32⟩
  | .hbm, ⟨42, _⟩ => ⟨S9216x4096, .f32⟩
  | .hbm, ⟨43, _⟩ => ⟨S_, .f32⟩
  | .hbm, ⟨44, _⟩ => ⟨S9216x4096, .f32⟩
  | .hbm, ⟨45, _⟩ => ⟨S9216x4096, .f32⟩
  | .hbm, ⟨46, _⟩ => ⟨S1x9216x512, .f32⟩
  | .hbm, ⟨47, _⟩ => ⟨S9216x512, .f32⟩
  | .hbm, ⟨48, _⟩ => ⟨S9216x480, .f32⟩
  | .hbm, ⟨49, _⟩ => ⟨S9216x480, .f32⟩
  | .hbm, ⟨50, _⟩ => ⟨S9216x480, .f32⟩
  | .hbm, ⟨51, _⟩ => ⟨S_, .f32⟩
  | .hbm, ⟨52, _⟩ => ⟨S9216x480, .f32⟩
  | .hbm, ⟨53, _⟩ => ⟨S9216x480, .f32⟩
  | .hbm, ⟨54, _⟩ => ⟨S_, .f32⟩
  | .hbm, ⟨55, _⟩ => ⟨S9216x480, .f32⟩
  | .hbm, ⟨56, _⟩ => ⟨S9216x480, .f32⟩
  | .hbm, ⟨57, _⟩ => ⟨S9216x4096, .f32⟩
  | .hbm, ⟨58, _⟩ => ⟨S1x9216x4096, .bf16⟩
  | .hbm, ⟨59, _⟩ => ⟨S9216x4096, .bf16⟩
  | .hbm, ⟨60, _⟩ => ⟨S9216x4096, .f32⟩
  | .hbm, ⟨61, _⟩ => ⟨S1x4096, .f32⟩
  | .hbm, ⟨62, _⟩ => ⟨S9216x4096, .f32⟩
  | .hbm, ⟨63, _⟩ => ⟨S9216x4096, .f32⟩
  | .hbm, ⟨64, _⟩ => ⟨S9216x64x64, .f32⟩
  | .hbm, ⟨65, _⟩ => ⟨S9216x64x64, .f32⟩
  | .hbm, ⟨66, _⟩ => ⟨S_, .f32⟩
  | .hbm, ⟨67, _⟩ => ⟨S9216x64, .f32⟩
  | .hbm, ⟨68, _⟩ => ⟨S9216x64x1, .f32⟩
  | .hbm, ⟨69, _⟩ => ⟨S_, .f32⟩
  | .hbm, ⟨70, _⟩ => ⟨S9216x64x1, .f32⟩
  | .hbm, ⟨71, _⟩ => ⟨S9216x64x1, .f32⟩
  | .hbm, ⟨72, _⟩ => ⟨S9216x64x1, .f32⟩
  | .hbm, ⟨73, _⟩ => ⟨S9216x64x64, .f32⟩
  | .hbm, ⟨74, _⟩ => ⟨S9216x64x64, .f32⟩
  | .hbm, ⟨75, _⟩ => ⟨S1x9216x4096, .f32⟩
  | .hbm, ⟨76, _⟩ => ⟨S1x9216x4096, .f32⟩
  | .hbm, ⟨77, _⟩ => ⟨S2x9216x4096, .f32⟩
  | .hbm, ⟨78, _⟩ => ⟨S2x9216x4096, .bf16⟩
  | .hbm, ⟨79, _⟩ => ⟨S9216x4096, .f32⟩
  | .hbm, ⟨80, _⟩ => ⟨S9216x4096, .bf16⟩
  | .hbm, ⟨81, _⟩ => ⟨S9216x4096, .bf16⟩
  | _, _ => ⟨S3x9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Proof.RetSpec.lean ====
/- The retention recurrence of one head in plain terms: the rotation of a row of queries or keys, the output of one chunk of 128 tokens
   from the state before it, and the state after it. -/
module

public import proofs.«01_k».proof.Proof.Gen.KernelIdeal.Skeleton
public import Idealize.ShloMosaic.Lib.Pipeline.ValueKit

@[expose] public section

set_option maxRecDepth 16384

noncomputable section

open Idealize.ShloMosaic

namespace Cert.Proof.Ret

/-- The column a column is paired with by the rotation: the other half of its group of 64. -/
def partner (e : Fin 128) : Fin 128 :=
  if h : e.val % 64 < 32 then ⟨e.val + 32, by omega⟩ else ⟨e.val - 32, by omega⟩

/-- A row of 128 values rotated by a row of cosines and a row of signed sines. -/
def rope (x cs sn : Fin 128 → EReal) (e : Fin 128) : EReal := x e * cs e + x (partner e) * sn e

/-- The factor the keys are multiplied by. -/
def kscale : EReal := Ideal.ofBits FTy.f32 1035273459#32

/-- One head's output of one chunk at token `i` and value column `v`: the decayed scores against the chunk's own values, and the
    decayed queries against the state `S` before the chunk. -/
def chunkOut (Q K : Fin 128 → Fin 128 → EReal) (V S : Fin 128 → Fin 256 → EReal) (I : Fin 128 → Fin 128 → EReal) (qd : Fin 128 → EReal)
    (i : Fin 128) (v : Fin 256) : EReal :=
  (∑ j, (∑ e, Q i e * K j e) * I i j * V j v) + ∑ e, Q i e * qd i * S e v

/-- One head's state after one chunk: the state before it, decayed, and the chunk's decayed keys against its values. -/
def chunkState (K : Fin 128 → Fin 128 → EReal) (V S : Fin 128 → Fin 256 → EReal) (kd : Fin 128 → EReal) (cd : EReal)
    (e : Fin 128) (v : Fin 256) : EReal :=
  S e v * cd + ∑ j, K j e * kd j * V j v

/-! ### The fixed tables -/

/-- Head `h`'s logarithm of its decay per token. -/
def logDecay (h : Fin 8) : EReal :=
  Ideal.log1p (-Ideal.exp (Ideal.ofBits FTy.f32 1060205080#32 * -(Ideal.ofBits FTy.f32 1084227584#32 +
    Ideal.ofBits FTy.f32 1088421888#32 * Ideal.div (FloatOps.sitofp (F := Ideal) FTy.f32 (BitVec.ofNat 32 h.val)) (Ideal.ofBits FTy.f32 1088421888#32))))

/-- A token's position in its chunk, as a number. -/
def place (p : Fin 128) : EReal := FloatOps.sitofp (F := Ideal) FTy.f32 (BitVec.ofNat 32 p.val)

/-- The weight of key token `j` for query token `i` of the same chunk: the decay over their distance, zero for a later key. -/
def inner (h : Fin 8) (i j : Fin 128) : EReal :=
  if 0 ≤ place i - place j then Ideal.exp (max (place i - place j) 0 * logDecay h) else 0

/-- The decay of the state seen by token `p` of a chunk. -/
def queryDecay (h : Fin 8) (p : Fin 128) : EReal := Ideal.exp ((place p + 1) * logDecay h)

/-- The decay of token `p`'s contribution by the end of its chunk. -/
def keyDecay (h : Fin 8) (p : Fin 128) : EReal := Ideal.exp ((Ideal.ofBits FTy.f32 1123942400#32 - place p) * logDecay h)

/-- The decay of the state over one chunk. -/
def chunkDecay (h : Fin 8) : EReal := Ideal.exp (Ideal.ofBits FTy.f32 1124073472#32 * logDecay h)

/-- The quotient of a token number by the grid's width, rounded down. -/
def gridRow (w d : BitVec 32) : BitVec 32 :=
  Scalar.select (IntOp.andi
      (IntOp.cmpi CmpIPredicate.ne (if w = 0 then 0 else if w.msb = true then -1 else 1 : BitVec 32)
        (if d = 0 then 0 else if d.msb = true then -1 else 1))
      (IntOp.cmpi CmpIPredicate.ne (IntOp.remsi ArithUnit.host w d) 0#32))
    (IntOp.subi (IntOp.divsi ArithUnit.host w d) 1#32) (IntOp.divsi ArithUnit.host w d)

/-- The divisor of the remainder below, one in place of zero. -/
def divisor (d : BitVec 32) : BitVec 32 := Scalar.select (IntOp.cmpi CmpIPredicate.eq d 0#32) 1#32 d

/-- The remainder of a token number by the grid's width, of the width's sign. -/
def gridCol (w d : BitVec 32) : BitVec 32 :=
  Scalar.select (IntOp.andi
      (IntOp.cmpi CmpIPredicate.ne (IntOp.cmpi CmpIPredicate.slt (IntOp.remsi ArithUnit.host w (divisor d)) 0#32)
        (IntOp.cmpi CmpIPredicate.slt (divisor d) 0#32))
      (IntOp.cmpi CmpIPredicate.ne (IntOp.remsi ArithUnit.host w (divisor d)) 0#32))
    (IntOp.addi (IntOp.remsi ArithUnit.host w (divisor d)) (divisor d)) (IntOp.remsi ArithUnit.host w (divisor d))

/-- The rotation's frequency number `k`. -/
def freq (k : Nat) : EReal :=
  Ideal.pow (Ideal.ofBits FTy.f32 1176256512#32)
    (Ideal.div (-(FloatOps.sitofp (F := Ideal) FTy.f32 (BitVec.ofNat 32 k) : EReal)) (Ideal.ofBits FTy.f32 1107296256#32))

/-- The angle of latent token `t` at frequency `k` in the row group of columns. -/
def rowAngle (t k : Nat) : EReal := FloatOps.sitofp (F := Ideal) FTy.f32 (gridRow (BitVec.ofNat 32 t) 64#32) * freq k

/-- The angle of latent token `t` at frequency `k` in the column group of columns. -/
def colAngle (t k : Nat) : EReal := FloatOps.sitofp (F := Ideal) FTy.f32 (gridCol (BitVec.ofNat 32 t) 64#32) * freq k

/-- The cosine of token `t` at column `e`: one for the 256 context tokens, which are not rotated. -/
def cosAt (t : Nat) (e : Fin 128) : EReal :=
  if t < 256 then 1 else if e.val < 32 then Ideal.cos (rowAngle (t - 256) e.val)
  else if e.val - 32 < 32 then Ideal.cos (rowAngle (t - 256) (e.val - 32))
  else if e.val - 32 - 32 < 32 then Ideal.cos (colAngle (t - 256) (e.val - 32 - 32))
  else Ideal.cos (colAngle (t - 256) (e.val - 32 - 32 - 32))

/-- The signed sine of token `t` at column `e`: zero for the context tokens, negative in the first half of each group. -/
def sinAt (t : Nat) (e : Fin 128) : EReal :=
  if t < 256 then 0 else if e.val < 32 then -Ideal.sin (rowAngle (t - 256) e.val)
  else if e.val - 32 < 32 then Ideal.sin (rowAngle (t - 256) (e.val - 32))
  else if e.val - 32 - 32 < 32 then -Ideal.sin (colAngle (t - 256) (e.val - 32 - 32))
  else Ideal.sin (colAngle (t - 256) (e.val - 32 - 32 - 32))

/-- A row rotated at latent token `t`, each group of 64 columns as two halves of 32: the first half times the cosine minus the second
    times the sine, and the first half times the sine plus the second times the cosine. -/
def turnedAt (x : Fin 128 → EReal) (t : Nat) (e : Fin 128) : EReal :=
  if h₁ : e.val < 64 then
    if h₂ : e.val < 32 then
      x ⟨e.val, by omega⟩ * Ideal.cos (rowAngle t e.val) - x ⟨32 + e.val, by omega⟩ * Ideal.sin (rowAngle t e.val)
    else
      x ⟨e.val - 32, by omega⟩ * Ideal.sin (rowAngle t (e.val - 32))
        + x ⟨32 + (e.val - 32), by omega⟩ * Ideal.cos (rowAngle t (e.val - 32))
  else
    if h₂ : e.val - 64 < 32 then
      x ⟨64 + (e.val - 64), by omega⟩ * Ideal.cos (colAngle t (e.val - 64))
        - x ⟨64 + (32 + (e.val - 64)), by omega⟩ * Ideal.sin (colAngle t (e.val - 64))
    else
      x ⟨64 + (e.val - 64 - 32), by omega⟩ * Ideal.sin (colAngle t (e.val - 64 - 32))
        + x ⟨64 + (32 + (e.val - 64 - 32)), by omega⟩ * Ideal.cos (colAngle t (e.val - 64 - 32))

/-- A context token's row is left as it is. -/
theorem rope_context (x : Fin 128 → EReal) (t : Nat) (ht : t < 256) (e : Fin 128) : rope x (cosAt t) (sinAt t) e = x e := by
  simp only [rope, cosAt, sinAt, if_pos ht, mul_one, mul_zero, add_zero]

/-- A latent token's row is rotated in halves. -/
theorem rope_latent (x : Fin 128 → EReal) (t : Nat) (ht : ¬t < 256) (e : Fin 128) :
    rope x (cosAt t) (sinAt t) e = turnedAt x (t - 256) e := by
  have at_eq : ∀ {a b : Fin 128}, a.val = b.val → x a = x b := fun h => congrArg x (Fin.ext h)
  have hk : e.val - 32 - 32 = e.val - 64 := by omega
  have hk' : e.val - 32 - 32 - 32 = e.val - 64 - 32 := by omega
  by_cases h₁ : e.val < 32
  · have hp : partner e = ⟨32 + e.val, by omega⟩ := by
      unfold partner; rw [dif_pos (by omega)]; exact Fin.ext (Nat.add_comm _ _)
    simp only [rope, cosAt, sinAt, turnedAt, if_neg ht, if_pos h₁, dif_pos h₁, dif_pos (show e.val < 64 by omega), hp,
      mul_neg, sub_eq_add_neg]
  by_cases h₂ : e.val - 32 < 32
  · have hp : partner e = ⟨e.val - 32, by omega⟩ := by
      unfold partner; rw [dif_neg (by omega)]
    rw [turnedAt, dif_pos (by omega), dif_neg h₁, add_comm,
      at_eq (a := ⟨32 + (e.val - 32), by omega⟩) (b := e) (by show 32 + (e.val - 32) = e.val; omega)]
    simp only [rope, cosAt, sinAt, if_neg ht, if_neg h₁, if_pos h₂, hp]
  by_cases h₃ : e.val - 64 < 32
  · have hp : partner e = ⟨64 + (32 + (e.val - 64)), by omega⟩ := by
      unfold partner; rw [dif_pos (by omega)]; exact Fin.ext (by show e.val + 32 = 64 + (32 + (e.val - 64)); omega)
    rw [turnedAt, dif_neg (by omega), dif_pos h₃,
      at_eq (a := ⟨64 + (e.val - 64), by omega⟩) (b := e) (by show 64 + (e.val - 64) = e.val; omega)]
    simp only [rope, cosAt, sinAt, if_neg ht, if_neg h₁, if_neg h₂, hk, if_pos h₃, hp, mul_neg, sub_eq_add_neg]
  · have hp : partner e = ⟨64 + (e.val - 64 - 32), by omega⟩ := by
      unfold partner; rw [dif_neg (by omega)]; exact Fin.ext (by show e.val - 32 = 64 + (e.val - 64 - 32); omega)
    rw [turnedAt, dif_neg (by omega), dif_neg h₃, add_comm,
      at_eq (a := ⟨64 + (32 + (e.val - 64 - 32)), by omega⟩) (b := e) (by show 64 + (32 + (e.val - 64 - 32)) = e.val; omega)]
    simp only [rope, cosAt, sinAt, if_neg ht, if_neg h₁, if_neg h₂, hk, if_neg h₃, hp, hk']

/-! ### The layer on its projected input -/

/-- The input: 8192 rows of latent tokens (four batch entries of 2048), then 1024 of context tokens (four of 256). -/
abbrev Input : Type := (⟨2, ![9216, 12288]⟩ : Shape).Idx → EReal

/-- The input row of token `p` of chunk `n` of batch entry `b`; the 256 context tokens come first. -/
def tokenRow (b : Fin 4) (n : Fin 18) (p : Fin 128) : Fin 9216 :=
  if h : n.val * 128 + p.val < 256 then ⟨8192 + (b.val * 256 + (n.val * 128 + p.val)), by omega⟩
  else ⟨b.val * 2048 + (n.val * 128 + p.val - 256), by omega⟩

/-- A rotated row of the input, by whether the token is a context token or a latent one. -/
theorem rope_split (P : Input) (b : Fin 4) (n : Fin 18) (p : Fin 128) (off : Fin 128 → Fin 12288) (e : Fin 128) :
    rope (fun e => P (ix2 (tokenRow b n p) (off e))) (cosAt (n.val * 128 + p.val)) (sinAt (n.val * 128 + p.val)) e
      = if h : n.val * 128 + p.val < 256 then P (ix2 ⟨8192 + (b.val * 256 + (n.val * 128 + p.val)), by omega⟩ (off e))
        else turnedAt (fun e => P (ix2 ⟨b.val * 2048 + (n.val * 128 + p.val - 256), by omega⟩ (off e))) (n.val * 128 + p.val - 256) e := by
  by_cases h : n.val * 128 + p.val < 256
  · rw [rope_context _ _ h, dif_pos h, tokenRow, dif_pos h]
  · rw [rope_latent _ _ h, dif_neg h, tokenRow, dif_neg h]

/-- Head `h`'s query at token `p` of chunk `n`, rotated. -/
def queryRow (P : Input) (b : Fin 4) (n : Fin 18) (h : Fin 8) (p e : Fin 128) : EReal :=
  rope (fun e => P (ix2 (tokenRow b n p) ⟨h.val * 128 + e.val, by omega⟩)) (cosAt (n.val * 128 + p.val)) (sinAt (n.val * 128 + p.val)) e

/-- Head `h`'s key at token `p` of chunk `n`, rotated and scaled. -/
def keyRow (P : Input) (b : Fin 4) (n : Fin 18) (h : Fin 8) (p e : Fin 128) : EReal :=
  rope (fun e => P (ix2 (tokenRow b n p) ⟨1024 + (h.val * 128 + e.val), by omega⟩)) (cosAt (n.val * 128 + p.val))
    (sinAt (n.val * 128 + p.val)) e * kscale

/-- Head `h`'s value at token `p` of chunk `n`. -/
def valueRow (P : Input) (b : Fin 4) (n : Fin 18) (h : Fin 8) (p : Fin 128) (w : Fin 256) : EReal :=
  P (ix2 (tokenRow b n p) ⟨2048 + (h.val * 256 + w.val), by omega⟩)

/-- Head `h`'s state of batch entry `b` before chunk `n`. -/
def stateAt (P : Input) (b : Fin 4) (h : Fin 8) : Nat → Fin 128 → Fin 256 → EReal
  | 0 => fun _ _ => 0
  | n + 1 => if hn : n < 18 then
      chunkState (keyRow P b ⟨n, hn⟩ h) (valueRow P b ⟨n, hn⟩ h) (stateAt P b h n) (keyDecay h) (chunkDecay h)
    else stateAt P b h n

/-- Head `h`'s output for chunk `n` of batch entry `b`. -/
def outAt (P : Input) (b : Fin 4) (n : Fin 18) (h : Fin 8) : Fin 128 → Fin 256 → EReal :=
  chunkOut (queryRow P b n h) (keyRow P b n h) (valueRow P b n h) (stateAt P b h n.val) (inner h) (queryDecay h)

/-- The batch entry the result's row `r` belongs to. -/
def rowEntry (r : Fin 9216) : Fin 4 := if h : r.val < 8192 then ⟨r.val / 2048, by omega⟩ else ⟨(r.val - 8192) / 256, by omega⟩

/-- The chunk the result's row `r` belongs to. -/
def rowChunk (r : Fin 9216) : Fin 18 :=
  if h : r.val < 8192 then ⟨(256 + r.val % 2048) / 128, by omega⟩ else ⟨(r.val - 8192) % 256 / 128, by omega⟩

/-- The place of the result's row `r` in its chunk. -/
def rowToken (r : Fin 9216) : Fin 128 :=
  if h : r.val < 8192 then ⟨(256 + r.val % 2048) % 128, by omega⟩ else ⟨(r.val - 8192) % 256 % 128, by omega⟩

theorem stateAt_succ (P : Input) (b : Fin 4) (n : Fin 18) (h : Fin 8) :
    stateAt P b h (n.val + 1)
      = chunkState (keyRow P b n h) (valueRow P b n h) (stateAt P b h n.val) (keyDecay h) (chunkDecay h) := by
  rw [stateAt, dif_pos n.isLt]

end Cert.Proof.Ret
end
-- ==== Proof.RetTables.lean ====
/- The fixed tables the retention program prepares before its call (cosines, signed sines, decays), entry by entry. -/
module

public import proofs.«01_k».proof.Proof.RetSpec
public import proofs.«01_k».proof.Proof.Gen.KernelIdeal.Frame
public import Idealize.ShloMosaic.Lib.StableHlo.ReadAt

@[expose] public section

set_option maxRecDepth 16384

noncomputable section

open Idealize.ShloMosaic Idealize.ShloMosaic.TcCoe Idealize.SL.Sem

namespace Cert.Proof.Ret
open Cert.KernelIdeal Cert.KernelIdeal.Gen

variable (m : (ℓ : Loc nD τ sig) → Buf (Elt Ideal) ℓ) (c : Dev nD)

theorem inner_table (h : Fin 8) (i j : Fin 128) : V m c main_v66 (ix3 h i j) = inner h i j := by
  simp only [V, List.flatten_cons, List.flatten_nil, List.append_nil, StableHlo.after_append]
  after_reads_simp
  simp only [id, StableHlo.TRef.toBuf, StableHlo.TRef.ofBuf, cast_cast, cast_eq]
  pointwise []
  rfl

theorem queryDecay_table (h : Fin 8) (p : Fin 128) : V m c main_v77 (ix3 h p 0) = queryDecay h p := by
  simp only [V, List.flatten_cons, List.flatten_nil, List.append_nil, StableHlo.after_append]
  after_reads_at
  rfl

theorem keyDecay_table (h : Fin 8) (p : Fin 128) : V m c main_v84 (ix3 h p 0) = keyDecay h p := by
  simp only [V, List.flatten_cons, List.flatten_nil, List.append_nil, StableHlo.after_append]
  after_reads_at
  rfl

theorem chunkDecay_table (h : Fin 8) : V m c main_v88 (ix3 h 0 0) = chunkDecay h := by
  simp only [V, List.flatten_cons, List.flatten_nil, List.append_nil, StableHlo.after_append]
  after_reads_at
  rfl

theorem cos_table (t : Fin 2304) (e : Fin 128) : V m c main_v34 (ix2 t e) = cosAt t.val e := by
  simp only [V, List.flatten_cons, List.flatten_nil, List.append_nil, StableHlo.after_append]
  after_reads_at
  after_reads_at
  rfl

theorem sin_table (t : Fin 2304) (e : Fin 128) : V m c main_v36 (ix2 t e) = sinAt t.val e := by
  simp only [V, List.flatten_cons, List.flatten_nil, List.append_nil, StableHlo.after_append]
  after_reads_at
  after_reads_at
  rfl

end Cert.Proof.Ret
end
-- ==== Proof.RetHead.lean ====
/- One head of one grid point: the values the body stores for it, as the recurrence of one chunk. -/
module

public import proofs.«01_k».proof.Proof.RetSpec

@[expose] public section

set_option maxRecDepth 16384

noncomputable section

open Idealize.ShloMosaic Idealize.ShloMosaic.TcCoe Idealize.SL.Sem

namespace Cert.Proof.Ret
open Cert.KernelIdeal Cert.KernelIdeal.Gen

/-- The lanes of the first half of each group of 64 are the marked ones. -/
theorem mask_at (p e : Fin 128) : k0_pay6 (ix2 p e) = if e.val % 64 < 32 then 1#1 else 0#1 := by
  have h : ∀ e : Fin 128, k0_pay6 (ix2 0 e) = if e.val % 64 < 32 then 1#1 else 0#1 := by decide +kernel
  exact (show k0_pay6 (ix2 p e) = k0_pay6 (ix2 0 e) from rfl).trans (h e)

/-- Choosing between the two turns of a row by the mark gives the paired column. -/
theorem turned (x : Fin 128 → EReal) (e : Fin 128) (h1 : (e.val + 128 - 96) % 128 < 128) (h2 : (e.val + 128 - 32) % 128 < 128) :
    Scalar.select (if e.val % 64 < 32 then 1#1 else 0#1) (x ⟨(e.val + 128 - 96) % 128, h1⟩) (x ⟨(e.val + 128 - 32) % 128, h2⟩) =
      x (partner e) := by
  unfold partner
  by_cases h : e.val % 64 < 32
  · rw [if_pos h, dif_pos h]
    exact congrArg x (Fin.ext (by show (e.val + 128 - 96) % 128 = e.val + 32; omega))
  · rw [if_neg h, dif_neg h]
    exact congrArg x (Fin.ext (by show (e.val + 128 - 32) % 128 = e.val - 32; omega))

/-- The rotated queries of a head. -/
theorem query_at (cs sn : Vec Ideal S128x128 .f32) (q : Vec Ideal S128x128 .bf16) (p e : Fin 128) :
    k0_pay7 cs sn q (ix2 p e) = rope (fun e => q (ix2 p e)) (fun e => cs (ix2 p e)) (fun e => sn (ix2 p e)) e := by
  pointwise [k0_pay7, k0_pay4, k0_pay5, mask_at, rope]
  exact congrArg (fun z => q (ix2 p e) * cs (ix2 p e) + z * sn (ix2 p e)) (turned (fun e => q (ix2 p e)) e _ _)

/-- The rotated and scaled keys of a head. -/
theorem key_at (cs sn : Vec Ideal S128x128 .f32) (k : Vec Ideal S128x128 .bf16) (p e : Fin 128) :
    k0_pay10 (k0_pay4 cs) (k0_pay5 sn) k0_pay6 (k0_pay8 k) (k0_pay9 k) (ix2 p e) =
      rope (fun e => k (ix2 p e)) (fun e => cs (ix2 p e)) (fun e => sn (ix2 p e)) e * kscale := by
  pointwise [k0_pay10, k0_pay8, k0_pay9, k0_pay4, k0_pay5, mask_at, rope]
  exact congrArg (fun z => (k (ix2 p e) * cs (ix2 p e) + z * sn (ix2 p e)) * kscale) (turned (fun e => k (ix2 p e)) e _ _)

/-- What the body stores of a head's output, of the blocks it loads. -/
def headOut (cs sn : Vec Ideal S128x128 .f32) (q k : Vec Ideal S128x128 .bf16) (v : Vec Ideal S128x256 .bf16) (s : Vec Ideal S1x128x256 .f32)
    (I : Vec Ideal S1x128x128 .f32) (qd : Vec Ideal S1x128x1 .f32) : FVec Ideal S128x256 .bf16 :=
  k0_pay15 (k0_pay12 (k0_pay4 cs) (k0_pay5 sn) k0_pay6 (k0_pay7 cs sn q) (k0_pay8 k) (k0_pay9 k) v s I qd)

/-- What the body stores of a head's state, of the blocks it loads. -/
def headState (cs sn : Vec Ideal S128x128 .f32) (k : Vec Ideal S128x128 .bf16) (v : Vec Ideal S128x256 .bf16) (s : Vec Ideal S1x128x256 .f32)
    (cd : Vec Ideal S1x1x1 .f32) (kd : Vec Ideal S1x128x1 .f32) : FVec Ideal S1x128x256 .f32 :=
  k0_pay14 (k0_pay13 (k0_pay4 cs) (k0_pay5 sn) k0_pay6 (k0_pay8 k) (k0_pay9 k) v s cd kd)

theorem headOut_at (cs sn : Vec Ideal S128x128 .f32) (q k : Vec Ideal S128x128 .bf16) (v : Vec Ideal S128x256 .bf16)
    (s : Vec Ideal S1x128x256 .f32) (I : Vec Ideal S1x128x128 .f32) (qd : Vec Ideal S1x128x1 .f32) (p : Fin 128) (w : Fin 256) :
    headOut cs sn q k v s I qd (ix2 p w) =
      chunkOut (fun p => rope (fun e => q (ix2 p e)) (fun e => cs (ix2 p e)) (fun e => sn (ix2 p e)))
        (fun p e => rope (fun e => k (ix2 p e)) (fun e => cs (ix2 p e)) (fun e => sn (ix2 p e)) e * kscale)
        (fun j w => v (ix2 j w)) (fun e w => s (ix3 0 e w)) (fun p j => I (ix3 0 p j)) (fun p => qd (ix3 0 p 0)) p w := by
  pointwise [headOut, k0_pay15, k0_pay12, k0_pay11, query_at, key_at, chunkOut]

theorem headState_at (cs sn : Vec Ideal S128x128 .f32) (k : Vec Ideal S128x128 .bf16) (v : Vec Ideal S128x256 .bf16)
    (s : Vec Ideal S1x128x256 .f32) (cd : Vec Ideal S1x1x1 .f32) (kd : Vec Ideal S1x128x1 .f32) (e : Fin 128) (w : Fin 256) :
    headState cs sn k v s cd kd (ix3 0 e w) =
      chunkState (fun p e => rope (fun e => k (ix2 p e)) (fun e => cs (ix2 p e)) (fun e => sn (ix2 p e)) e * kscale)
        (fun j w => v (ix2 j w)) (fun e w => s (ix3 0 e w)) (fun p => kd (ix3 0 p 0)) (cd (ix3 0 0 0)) e w := by
  pointwise [headState, k0_pay14, k0_pay13, k0_pay11, key_at, chunkState]

/-- One head's output of a whole grid point's blocks. -/
def blockOut (cs sn : Vec Ideal S128x128 .f32) (Q K : Vec Ideal S128x1024 .bf16) (V : Vec Ideal S128x2048 .bf16) (S : Vec Ideal S8x128x256 .f32)
    (I : Vec Ideal S8x128x128 .f32) (qd : Vec Ideal S8x128x1 .f32) (h : Fin 8) (p : Fin 128) (w : Fin 256) : EReal :=
  chunkOut (fun p => rope (fun e => Q (ix2 p ⟨128 * h.val + e.val, by omega⟩)) (fun e => cs (ix2 p e)) (fun e => sn (ix2 p e)))
    (fun p e => rope (fun e => K (ix2 p ⟨128 * h.val + e.val, by omega⟩)) (fun e => cs (ix2 p e)) (fun e => sn (ix2 p e)) e * kscale)
    (fun j w => V (ix2 j ⟨256 * h.val + w.val, by omega⟩)) (fun e w => S (ix3 h e w)) (fun p j => I (ix3 h p j)) (fun p => qd (ix3 h p 0)) p w

/-- One head's next state of a whole grid point's blocks. -/
def blockState (cs sn : Vec Ideal S128x128 .f32) (K : Vec Ideal S128x1024 .bf16) (V : Vec Ideal S128x2048 .bf16) (S : Vec Ideal S8x128x256 .f32)
    (cd : Vec Ideal S8x1x1 .f32) (kd : Vec Ideal S8x128x1 .f32) (h : Fin 8) (e : Fin 128) (w : Fin 256) : EReal :=
  chunkState
    (fun p e => rope (fun e => K (ix2 p ⟨128 * h.val + e.val, by omega⟩)) (fun e => cs (ix2 p e)) (fun e => sn (ix2 p e)) e * kscale)
    (fun j w => V (ix2 j ⟨256 * h.val + w.val, by omega⟩)) (fun e w => S (ix3 h e w)) (fun p => kd (ix3 h p 0)) (cd (ix3 h 0 0)) e w

section Loads

variable {α : EltTy → Type} {τ : EltTy} (h : Fin 8)

/-- A head's slice of the query or key columns. -/
theorem ld_qk (X : S128x1024.Idx → α τ) {a : ℕ} (ha : a = 128 * h.val) (inb : ∀ i, (![0, a] : Fin 2 → ℕ) i + S128x128.size i ≤ S128x1024.size i)
    (p e : Fin 128) : View.ld (Val := α) X (Rect.unit (s := S128x1024) ![0, a] S128x128.size inb) (ix2 p e) = X (ix2 p ⟨128 * h.val + e.val, by omega⟩) := by
  subst ha
  refine congrArg X (funext fun i => Fin.ext ((Rect.idx_unit_val _ _ _ _ _).trans ?_))
  fin_cases i <;> simp

/-- A head's slice of the value columns. -/
theorem ld_v (X : S128x2048.Idx → α τ) {a : ℕ} (ha : a = 256 * h.val) (inb : ∀ i, (![0, a] : Fin 2 → ℕ) i + S128x256.size i ≤ S128x2048.size i)
    (p : Fin 128) (w : Fin 256) :
    View.ld (Val := α) X (Rect.unit (s := S128x2048) ![0, a] S128x256.size inb) (ix2 p w) = X (ix2 p ⟨256 * h.val + w.val, by omega⟩) := by
  subst ha
  refine congrArg X (funext fun i => Fin.ext ((Rect.idx_unit_val _ _ _ _ _).trans ?_))
  fin_cases i <;> simp

/-- A head's slab of a table of `a` by `b` entries per head. -/
theorem ld_slab {a b : ℕ} (X : (⟨3, ![8, a, b]⟩ : Shape).Idx → α τ) {n : ℕ} (hn : n = h.val)
    (inb : ∀ i, (![n, 0, 0] : Fin 3 → ℕ) i + (⟨3, ![1, a, b]⟩ : Shape).size i ≤ (⟨3, ![8, a, b]⟩ : Shape).size i) (p : Fin a) (w : Fin b) :
    View.ld (Val := α) X (Rect.unit (s := (⟨3, ![8, a, b]⟩ : Shape)) ![n, 0, 0] (⟨3, ![1, a, b]⟩ : Shape).size inb) (ix3 0 p w) = X (ix3 h p w) := by
  subst hn
  refine congrArg X (funext fun i => Fin.ext ((Rect.idx_unit_val _ _ _ _ _).trans ?_))
  fin_cases i <;> simp

end Loads

/-- What is stored of one head's output, read at its place `x`, is the block's output at the head, row and column it lands on. -/
theorem piece_out {n : ℕ} (hn : n < 8) {cs sn : Vec Ideal S128x128 .f32} {Q K : Vec Ideal S128x1024 .bf16} {V : Vec Ideal S128x2048 .bf16}
    {S : Vec Ideal S8x128x256 .f32} {I : Vec Ideal S8x128x128 .f32} {qd : Vec Ideal S8x128x1 .f32} {s : Vec Ideal S1x128x256 .f32}
    {hd : Fin 8} {p : Fin 128} {w : Fin 256} {x : S128x256.Idx} {a b : ℕ} (ha : a = 128 * n) (hb : b = 256 * n)
    (h0 : hd.val = n) (h1 : p.val = (x 0).val) (h2 : w.val = (x 1).val) (hs : ∀ e w, s (ix3 0 e w) = S (ix3 ⟨n, hn⟩ e w))
    (ia : ∀ i, (![0, a] : Fin 2 → ℕ) i + S128x128.size i ≤ S128x1024.size i)
    (ib : ∀ i, (![0, b] : Fin 2 → ℕ) i + S128x256.size i ≤ S128x2048.size i)
    (in1 : ∀ i, (![n, 0, 0] : Fin 3 → ℕ) i + S1x128x128.size i ≤ S8x128x128.size i)
    (in2 : ∀ i, (![n, 0, 0] : Fin 3 → ℕ) i + S1x128x1.size i ≤ S8x128x1.size i) :
    headOut cs sn (View.ld (Val := Elt Ideal) (e' := .bf16) Q (Rect.unit (s := S128x1024) ![0, a] S128x128.size ia))
        (View.ld (Val := Elt Ideal) (e' := .bf16) K (Rect.unit (s := S128x1024) ![0, a] S128x128.size ia))
        (View.ld (Val := Elt Ideal) (e' := .bf16) V (Rect.unit (s := S128x2048) ![0, b] S128x256.size ib)) s
        (View.ld (Val := Elt Ideal) (e' := .f32) I (Rect.unit (s := S8x128x128) ![n, 0, 0] S1x128x128.size in1))
        (View.ld (Val := Elt Ideal) (e' := .f32) qd (Rect.unit (s := S8x128x1) ![n, 0, 0] S1x128x1.size in2)) x =
      blockOut cs sn Q K V S I qd hd p w := by
  obtain ⟨p', w', rfl⟩ : ∃ (p : Fin 128) (w : Fin 256), x = ix2 p w :=
    ⟨x 0, x 1, by funext a; match a with | ⟨0, _⟩ => rfl | ⟨1, _⟩ => rfl⟩
  have e0 : hd = ⟨n, hn⟩ := Fin.ext h0
  have e1 : w = w' := Fin.ext h2
  have e2 : p = p' := Fin.ext h1
  rw [headOut_at, e0, e1, e2]
  have hQ := fun p e => ld_qk (α := Elt Ideal) (τ := .bf16) ⟨n, hn⟩ Q ha ia p e
  have hK := fun p e => ld_qk (α := Elt Ideal) (τ := .bf16) ⟨n, hn⟩ K ha ia p e
  have hV := fun p w => ld_v (α := Elt Ideal) (τ := .bf16) ⟨n, hn⟩ V hb ib p w
  have hI := fun p w => ld_slab (α := Elt Ideal) (τ := .f32) (a := 128) (b := 128) ⟨n, hn⟩ I rfl in1 p w
  have hd := fun p => ld_slab (α := Elt Ideal) (τ := .f32) (a := 128) (b := 1) ⟨n, hn⟩ qd rfl in2 p 0
  unfold blockOut
  simp only [hQ, hK, hV, hI, hd, hs]

/-- What is stored of one head's state, read at its place `x`, is the block's next state at the place `y` it lands on. -/
theorem piece_state {n : ℕ} (hn : n < 8) {cs sn : Vec Ideal S128x128 .f32} {K : Vec Ideal S128x1024 .bf16} {V : Vec Ideal S128x2048 .bf16}
    {S : Vec Ideal S8x128x256 .f32} {cd : Vec Ideal S8x1x1 .f32} {kd : Vec Ideal S8x128x1 .f32} {s : Vec Ideal S1x128x256 .f32}
    {y : S8x128x256.Idx} {x : S1x128x256.Idx} {a b : ℕ} (ha : a = 128 * n) (hb : b = 256 * n)
    (h0 : (y 0).val = n + (x 0).val) (h1 : (y 1).val = (x 1).val) (h2 : (y 2).val = (x 2).val) (hs : ∀ e w, s (ix3 0 e w) = S (ix3 ⟨n, hn⟩ e w))
    (ia : ∀ i, (![0, a] : Fin 2 → ℕ) i + S128x128.size i ≤ S128x1024.size i)
    (ib : ∀ i, (![0, b] : Fin 2 → ℕ) i + S128x256.size i ≤ S128x2048.size i)
    (in1 : ∀ i, (![n, 0, 0] : Fin 3 → ℕ) i + S1x1x1.size i ≤ S8x1x1.size i)
    (in2 : ∀ i, (![n, 0, 0] : Fin 3 → ℕ) i + S1x128x1.size i ≤ S8x128x1.size i) :
    headState cs sn (View.ld (Val := Elt Ideal) (e' := .bf16) K (Rect.unit (s := S128x1024) ![0, a] S128x128.size ia))
        (View.ld (Val := Elt Ideal) (e' := .bf16) V (Rect.unit (s := S128x2048) ![0, b] S128x256.size ib)) s
        (View.ld (Val := Elt Ideal) (e' := .f32) cd (Rect.unit (s := S8x1x1) ![n, 0, 0] S1x1x1.size in1))
        (View.ld (Val := Elt Ideal) (e' := .f32) kd (Rect.unit (s := S8x128x1) ![n, 0, 0] S1x128x1.size in2)) x =
      blockState cs sn K V S cd kd (y 0) (y 1) (y 2) := by
  obtain ⟨z, p, w, rfl⟩ : ∃ (z : Fin 1) (p : Fin 128) (w : Fin 256), x = ix3 z p w :=
    ⟨x 0, x 1, x 2, by funext a; match a with | ⟨0, _⟩ => rfl | ⟨1, _⟩ => rfl | ⟨2, _⟩ => rfl⟩
  obtain rfl : z = 0 := Subsingleton.elim _ _
  change (y 0).val = n + 0 at h0
  change (y 1).val = p.val at h1
  change (y 2).val = w.val at h2
  have e0 : (y 0 : Fin 8) = ⟨n, hn⟩ := Fin.ext h0
  have e1 : (y 1 : Fin 128) = p := Fin.ext h1
  have e2 : (y 2 : Fin 256) = w := Fin.ext h2
  rw [headState_at, e0, e1, e2]
  have hK := fun p e => ld_qk (α := Elt Ideal) (τ := .bf16) ⟨n, hn⟩ K ha ia p e
  have hV := fun p w => ld_v (α := Elt Ideal) (τ := .bf16) ⟨n, hn⟩ V hb ib p w
  have hc := ld_slab (α := Elt Ideal) (τ := .f32) (a := 1) (b := 1) ⟨n, hn⟩ cd rfl in1 0 0
  have hd := fun p => ld_slab (α := Elt Ideal) (τ := .f32) (a := 128) (b := 1) ⟨n, hn⟩ kd rfl in2 p 0
  unfold blockState
  simp only [hK, hV, hc, hd, hs]
  rfl

end Cert.Proof.Ret
end
-- ==== Proof.RetPoint.lean ====
/- The eight heads of a grid point put together: what the body leaves in its output block and in its carried state. -/
module

public import proofs.«01_k».proof.Proof.RetHead
public import proofs.«01_k».proof.Proof.Gen.KernelIdeal.Value
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Proof.Ret
open Cert.KernelIdeal Cert.KernelIdeal.Gen

/-- Where the first of two lists of stores covers a place, the second, earlier, list has no say. -/
theorem canon_covered {Val : EltTy → Type} {S : Shape} {e : EltTy} [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_covered L' y L ?_
      obtain ⟨q, hq, hy⟩ := h
      rcases List.mem_cons.mp hq with rfl | hq'
      · exact absurd hy hm
      · exact ⟨q, hq', hy⟩

/-- The state a sequence starts from. -/
def zeroState : Vec Ideal S8x128x256 .f32 := fun _ => (0 : EReal)

theorem fill_eq : k0_pay3 (F := Ideal) = zeroState := by
  funext y
  pointwise [k0_pay3, zeroState]

variable (m : (ℓ : Loc nD τ sig) → Buf (Elt Ideal) ℓ) (c : Dev nD)

/-- The head of a place of the output block. -/
abbrev headOf (y : S128x2048.Idx) : Fin 8 := ⟨(y 1).val / 256, by have := (y 1).isLt; change (y 1).val < 2048 at this; omega⟩

/-- After a later grid point of a sequence, the carried state is the eight heads' next states. -/
theorem state_later (t : Fin cfg0.N) (h0 : ¬t.val % 18 = 0) (y : S8x128x256.Idx) :
    (outsAt0 m c t.val t.isLt).2 y = blockState (iblk m c 3 t) (iblk m c 4 t) (iblk m c 1 t) (iblk m c 2 t)
      (outsAt0 m c (t.val - 1) (by omega)).2 (iblk m c 8 t) (iblk m c 7 t) (y 0) (y 1) (y 2) := by
  rw [outsAt0_B m c t h0]
  frame_out
  canon_tiles x k
  all_goals
    rw [read_unread_whole]
    refine piece_state (by decide) (by rfl) (by rfl) ?_ k1 k2 (fun e w => ?_) _ _ _ _
    · omega
    · exact ld_slab (α := Elt Ideal) (τ := .f32) (a := 128) (b := 256) ⟨_, _⟩ _ rfl _ e w

/-- A later grid point's output block is the eight heads' outputs of the state carried into it. -/
theorem out_later (t : Fin cfg0.N) (h0 : ¬t.val % 18 = 0) (y : S128x2048.Idx) :
    (outsAt0 m c t.val t.isLt).1 y = blockOut (iblk m c 3 t) (iblk m c 4 t) (iblk m c 0 t) (iblk m c 1 t) (iblk m c 2 t)
      (outsAt0 m c (t.val - 1) (by omega)).2 (iblk m c 5 t) (iblk m c 6 t) (headOf y) (y 0) ⟨(y 1).val % 256, Nat.mod_lt _ (by norm_num)⟩ := by
  rw [outsAt0_B m c t h0]
  frame_out
  canon_tiles x k
  all_goals
    rw [read_unread_whole]
    refine piece_out (by decide) (by rfl) (by rfl) ?_ ?_ ?_ (fun e w => ?_) _ _ _ _
    · show (y 1).val / 256 = _; omega
    · exact k0
    · show (y 1).val % 256 = _; omega
    · exact ld_slab (α := Elt Ideal) (τ := .f32) (a := 128) (b := 256) ⟨_, _⟩ _ rfl _ e w

/-- The first grid point of a sequence finds the state filled with zeros. -/
theorem out_first (t : Fin cfg0.N) (h0 : t.val % 18 = 0) (y : S128x2048.Idx) :
    (outsAt0 m c t.val t.isLt).1 y = blockOut (iblk m c 3 t) (iblk m c 4 t) (iblk m c 0 t) (iblk m c 1 t) (iblk m c 2 t)
      zeroState (iblk m c 5 t) (iblk m c 6 t) (headOf y) (y 0) ⟨(y 1).val % 256, Nat.mod_lt _ (by norm_num)⟩ := by
  rw [outsAt0_A m c t h0]
  frame_out
  canon_tiles x k
  all_goals
    refine piece_out (by decide) (by rfl) (by rfl) ?_ ?_ ?_ (fun e w => ?_) _ _ _ _
    · show (y 1).val / 256 = _; omega
    · exact k0
    · show (y 1).val % 256 = _; omega
    · repeat rw [View.readCov_skip _ _ _ _ _ (by decide +kernel)]
      rw [View.readCov_fill _ _ _ _ _ (by decide), fill_eq]
      rfl

/-- And it leaves the eight heads' next states over the fill. -/
theorem state_first (t : Fin cfg0.N) (h0 : t.val % 18 = 0) (y : S8x128x256.Idx) :
    (outsAt0 m c t.val t.isLt).2 y = blockState (iblk m c 3 t) (iblk m c 4 t) (iblk m c 1 t) (iblk m c 2 t)
      zeroState (iblk m c 8 t) (iblk m c 7 t) (y 0) (y 1) (y 2) := by
  rw [outsAt0_A m c t h0]
  frame_out
  refine (canon_covered [_] y [_, _, _, _, _, _, _, _] (View.cover_of_tiled_head _ _ _ rfl y)).trans ?_
  canon_tiles x k
  all_goals
    refine piece_state (by decide) (by rfl) (by rfl) ?_ k1 k2 (fun e w => ?_) _ _ _ _
    · omega
    · repeat rw [View.readCov_skip _ _ _ _ _ (by decide +kernel)]
      rw [View.readCov_fill _ _ _ _ _ (by decide), fill_eq]
      rfl

end Cert.Proof.Ret
end
-- ==== Proof.RetBlocks.lean ====
/- What each point of the retention call's grid reads, in terms of the input and the layer's tables. -/
module

public import proofs.«01_k».proof.Proof.RetTables
public import proofs.«01_k».proof.Proof.RetPoint

@[expose] public section

set_option maxRecDepth 16384

noncomputable section

open Idealize.ShloMosaic Idealize.ShloMosaic.TcCoe Idealize.SL.Sem
open Idealize.ShloMosaic.Pipeline (Dat)

namespace Cert.Proof.Ret
open Cert.KernelIdeal Cert.KernelIdeal.Gen

variable (m : (ℓ : Loc nD τ sig) → Buf (Elt Ideal) ℓ) (c : Dev nD)

/-- The input of a device. -/
def input : Input := m ((c.tc : Thread nD τ).loc main_arg0)

/-- The block of 128 rows a point visits: the context's two chunks lie behind all batch entries' latent rows. -/
def rowBlock (t : Nat) : Nat := if t % 18 < 2 then 64 + 2 * (t / 18) + t % 18 else 16 * (t / 18) + t % 18 - 2

/-- The block each window reads at a point. -/
theorem blockIdx : ∀ t : Fin cfg0.N,
    win0_0.index t = ![rowBlock t.val, 0] ∧ win0_1.index t = ![rowBlock t.val, 1] ∧ win0_2.index t = ![rowBlock t.val, 1] ∧
    win0_3.index t = ![t.val % 18, 0] ∧ win0_4.index t = ![t.val % 18, 0] ∧ win0_5.index t = ![0, 0, 0] ∧ win0_6.index t = ![0, 0, 0] ∧
    win0_7.index t = ![0, 0, 0] ∧ win0_8.index t = ![0, 0, 0] ∧ win0_9.index t = ![rowBlock t.val, 0] :=
  (by decide +kernel : ∀ t : Fin grid0.N, _)

/-- The batch entry of a point. -/
def entryOf (t : Fin cfg0.N) : Fin 4 := ⟨t.val / 18, by have h : t.val < 72 := t.isLt; omega⟩

/-- The chunk of a point. -/
def pieceOf (t : Fin cfg0.N) : Fin 18 := ⟨t.val % 18, Nat.mod_lt _ (by norm_num)⟩

/-- A point's rows are its chunk's tokens. -/
theorem row_eq (t : Fin cfg0.N) (p : Fin 128) : (tokenRow (entryOf t) (pieceOf t) p).val = 128 * rowBlock t.val + p.val := by
  have h : t.val < 72 := t.isLt
  have hp := p.isLt
  unfold tokenRow rowBlock entryOf pieceOf
  dsimp only
  split_ifs <;> dsimp only <;> omega

/-- A point's queries. -/
theorem queries (t : Fin cfg0.N) (p : Fin 128) (k : Fin 1024) :
    iblk m c 0 t (ix2 p k) = input m c (ix2 (tokenRow (entryOf t) (pieceOf t) p) ⟨k.val, by omega⟩) := by
  have e := (blockIdx t).1
  have hr := row_eq t p
  blk_simp [iblk, e]
  rw [show (win0_0.blk t).view.emb (ix2 p k) = ix2 (tokenRow (entryOf t) (pieceOf t) p) (⟨k.val, by omega⟩ : Fin 12288) by blk_ext [e, hr]]
  exact congrFun (V_main_arg0 m c) _

/-- A point's keys. -/
theorem keys (t : Fin cfg0.N) (p : Fin 128) (k : Fin 1024) :
    iblk m c 1 t (ix2 p k) = input m c (ix2 (tokenRow (entryOf t) (pieceOf t) p) ⟨1024 + k.val, by omega⟩) := by
  have e := (blockIdx t).2.1
  have hr := row_eq t p
  blk_simp [iblk, e]
  rw [show (win0_1.blk t).view.emb (ix2 p k) = ix2 (tokenRow (entryOf t) (pieceOf t) p) (⟨1024 + k.val, by omega⟩ : Fin 12288) by blk_ext [e, hr]]
  exact congrFun (V_main_arg0 m c) _

/-- A point's values. -/
theorem values (t : Fin cfg0.N) (p : Fin 128) (k : Fin 2048) :
    iblk m c 2 t (ix2 p k) = input m c (ix2 (tokenRow (entryOf t) (pieceOf t) p) ⟨2048 + k.val, by omega⟩) := by
  have e := (blockIdx t).2.2.1
  have hr := row_eq t p
  blk_simp [iblk, e]
  rw [show (win0_2.blk t).view.emb (ix2 p k) = ix2 (tokenRow (entryOf t) (pieceOf t) p) (⟨2048 + k.val, by omega⟩ : Fin 12288) by blk_ext [e, hr]]
  exact congrFun (V_main_arg0 m c) _

/-- A point's cosines. -/
theorem cosines (t : Fin cfg0.N) (p e : Fin 128) : iblk m c 3 t (ix2 p e) = cosAt ((pieceOf t).val * 128 + p.val) e := by
  have e3 := (blockIdx t).2.2.2.1
  have hn := (pieceOf t).isLt
  blk_simp [iblk, e3]
  rw [show (win0_3.blk t).view.emb (ix2 p e) = ix2 (⟨(pieceOf t).val * 128 + p.val, by omega⟩ : Fin 2304) e by blk_ext [e3, pieceOf]]
  exact cos_table m c _ e

/-- A point's sines. -/
theorem sines (t : Fin cfg0.N) (p e : Fin 128) : iblk m c 4 t (ix2 p e) = sinAt ((pieceOf t).val * 128 + p.val) e := by
  have e4 := (blockIdx t).2.2.2.2.1
  have hn := (pieceOf t).isLt
  blk_simp [iblk, e4]
  rw [show (win0_4.blk t).view.emb (ix2 p e) = ix2 (⟨(pieceOf t).val * 128 + p.val, by omega⟩ : Fin 2304) e by blk_ext [e4, pieceOf]]
  exact sin_table m c _ e

/-- A point's decays within the chunk. -/
theorem inners (t : Fin cfg0.N) (h : Fin 8) (i j : Fin 128) : iblk m c 5 t (ix3 h i j) = inner h i j := by
  have e := (blockIdx t).2.2.2.2.2.1
  blk_simp [iblk, e]
  rw [show (win0_5.blk t).view.emb (ix3 h i j) = ix3 h i j by blk_ext [e]]
  exact inner_table m c h i j

/-- A point's query decays. -/
theorem queryDecays (t : Fin cfg0.N) (h : Fin 8) (p : Fin 128) : iblk m c 6 t (ix3 h p 0) = queryDecay h p := by
  have e := (blockIdx t).2.2.2.2.2.2.1
  blk_simp [iblk, e]
  rw [show (win0_6.blk t).view.emb (ix3 h p 0) = ix3 h p 0 by blk_ext [e]]
  exact queryDecay_table m c h p

/-- A point's key decays. -/
theorem keyDecays (t : Fin cfg0.N) (h : Fin 8) (p : Fin 128) : iblk m c 7 t (ix3 h p 0) = keyDecay h p := by
  have e := (blockIdx t).2.2.2.2.2.2.2.1
  blk_simp [iblk, e]
  rw [show (win0_7.blk t).view.emb (ix3 h p 0) = ix3 h p 0 by blk_ext [e]]
  exact keyDecay_table m c h p

/-- A point's chunk decays. -/
theorem chunkDecays (t : Fin cfg0.N) (h : Fin 8) : iblk m c 8 t (ix3 h 0 0) = chunkDecay h := by
  have e := (blockIdx t).2.2.2.2.2.2.2.2.1
  blk_simp [iblk, e]
  rw [show (win0_8.blk t).view.emb (ix3 h 0 0) = ix3 h 0 0 by blk_ext [e]]
  exact chunkDecay_table m c h

end Cert.Proof.Ret
end
-- ==== Proof.RetValue.lean ====
/- What the retention call computes: its outputs and its carried state, point by point, and the array it ends with. -/
module

public import proofs.«01_k».proof.Proof.RetBlocks

@[expose] public section

set_option maxRecDepth 16384

noncomputable section

open Idealize.ShloMosaic Idealize.ShloMosaic.TcCoe Idealize.SL.Sem
open Idealize.ShloMosaic.Pipeline (Dat)

namespace Cert.Proof.Ret
open Cert.KernelIdeal Cert.KernelIdeal.Gen

variable (m : (ℓ : Loc nD τ sig) → Buf (Elt Ideal) ℓ) (c : Dev nD)

/-- A point's rotated queries. -/
theorem point_query (t : Fin cfg0.N) (h : Fin 8) (p e : Fin 128) :
    rope (fun e : Fin 128 => iblk m c 0 t (ix2 p ⟨128 * h.val + e.val, by omega⟩)) (fun e => iblk m c 3 t (ix2 p e)) (fun e => iblk m c 4 t (ix2 p e)) e
      = queryRow (input m c) (entryOf t) (pieceOf t) h p e := by
  unfold queryRow
  rw [funext fun e : Fin 128 => cosines m c t p e, funext fun e : Fin 128 => sines m c t p e]
  refine congrArg (fun z => rope z _ _ e) (funext fun e => ?_)
  rw [queries m c t]
  exact congrArg (fun z => input m c (ix2 _ z)) (Fin.ext (by show 128 * h.val + e.val = h.val * 128 + e.val; omega))

/-- A point's rotated and scaled keys. -/
theorem point_key (t : Fin cfg0.N) (h : Fin 8) (p e : Fin 128) :
    rope (fun e : Fin 128 => iblk m c 1 t (ix2 p ⟨128 * h.val + e.val, by omega⟩)) (fun e => iblk m c 3 t (ix2 p e)) (fun e => iblk m c 4 t (ix2 p e)) e * kscale
      = keyRow (input m c) (entryOf t) (pieceOf t) h p e := by
  unfold keyRow
  rw [funext fun e : Fin 128 => cosines m c t p e, funext fun e : Fin 128 => sines m c t p e]
  refine congrArg (fun z => rope z _ _ e * kscale) (funext fun e => ?_)
  rw [keys m c t]
  exact congrArg (fun z => input m c (ix2 _ z)) (Fin.ext (by show 1024 + (128 * h.val + e.val) = 1024 + (h.val * 128 + e.val); omega))

/-- A point's values, by head. -/
theorem point_value (t : Fin cfg0.N) (h : Fin 8) (p : Fin 128) (w : Fin 256) :
    iblk m c 2 t (ix2 p ⟨256 * h.val + w.val, by omega⟩) = valueRow (input m c) (entryOf t) (pieceOf t) h p w := by
  unfold valueRow
  rw [values m c t]
  exact congrArg (fun z => input m c (ix2 _ z)) (Fin.ext (by show 2048 + (256 * h.val + w.val) = 2048 + (h.val * 256 + w.val); omega))

theorem chunkOut_eq {q q' k k' : Fin 128 → Fin 128 → EReal} {v v' : Fin 128 → Fin 256 → EReal} {S S' : Fin 128 → Fin 256 → EReal}
    {d d' : Fin 128 → Fin 128 → EReal} {g g' : Fin 128 → EReal} (hq : ∀ p e, q p e = q' p e) (hk : ∀ p e, k p e = k' p e)
    (hv : ∀ p w, v p w = v' p w) (hS : ∀ e w, S e w = S' e w) (hd : ∀ i j, d i j = d' i j) (hg : ∀ p, g p = g' p) (p : Fin 128) (w : Fin 256) :
    chunkOut q k v S d g p w = chunkOut q' k' v' S' d' g' p w := by
  rw [show q = q' from funext₂ hq, show k = k' from funext₂ hk, show v = v' from funext₂ hv, show S = S' from funext₂ hS,
    show d = d' from funext₂ hd, show g = g' from funext hg]

theorem chunkState_eq {k k' : Fin 128 → Fin 128 → EReal} {v v' : Fin 128 → Fin 256 → EReal} {S S' : Fin 128 → Fin 256 → EReal}
    {g g' : Fin 128 → EReal} {d d' : EReal} (hk : ∀ p e, k p e = k' p e) (hv : ∀ p w, v p w = v' p w) (hS : ∀ e w, S e w = S' e w)
    (hg : ∀ p, g p = g' p) (hd : d = d') (e : Fin 128) (w : Fin 256) : chunkState k v S g d e w = chunkState k' v' S' g' d' e w := by
  rw [show k = k' from funext₂ hk, show v = v' from funext₂ hv, show S = S' from funext₂ hS, show g = g' from funext hg, hd]

/-- A point's output, from the state before its chunk. -/
theorem point_out (t : Fin cfg0.N) (S : Vec Ideal S8x128x256 .f32) (h : Fin 8)
    (hS : ∀ e w, S (ix3 h e w) = stateAt (input m c) (entryOf t) h (pieceOf t).val e w) (p : Fin 128) (w : Fin 256) :
    blockOut (iblk m c 3 t) (iblk m c 4 t) (iblk m c 0 t) (iblk m c 1 t) (iblk m c 2 t) S (iblk m c 5 t) (iblk m c 6 t) h p w
      = outAt (input m c) (entryOf t) (pieceOf t) h p w := by
  exact chunkOut_eq (fun p e => point_query m c t h p e) (fun p e => point_key m c t h p e) (fun p w => point_value m c t h p w) hS
    (fun i j => inners m c t h i j) (fun p => queryDecays m c t h p) p w

/-- A point's next state, from the state before its chunk. -/
theorem point_state (t : Fin cfg0.N) (S : Vec Ideal S8x128x256 .f32) (h : Fin 8)
    (hS : ∀ e w, S (ix3 h e w) = stateAt (input m c) (entryOf t) h (pieceOf t).val e w) (e : Fin 128) (w : Fin 256) :
    blockState (iblk m c 3 t) (iblk m c 4 t) (iblk m c 1 t) (iblk m c 2 t) S (iblk m c 8 t) (iblk m c 7 t) h e w
      = stateAt (input m c) (entryOf t) h ((pieceOf t).val + 1) e w := by
  rw [stateAt_succ]
  exact chunkState_eq (fun p e => point_key m c t h p e) (fun p w => point_value m c t h p w) hS (fun p => keyDecays m c t h p)
    (chunkDecays m c t h) e w

/-- The carried state after a point is the state after its chunk. -/
theorem state_after : ∀ (k : Nat) (t : Fin cfg0.N), t.val % 18 = k → ∀ (h : Fin 8) (e : Fin 128) (w : Fin 256),
    (outsAt0 m c t.val t.isLt).2 (ix3 h e w) = stateAt (input m c) (entryOf t) h ((pieceOf t).val + 1) e w
  | 0, t, hk, h, e, w => by
    rw [state_first m c t hk (ix3 h e w)]
    refine point_state m c t zeroState h (fun e w => ?_) e w
    rw [show (pieceOf t).val = 0 from hk]
    rfl
  | k + 1, t, hk, h, e, w => by
    have ht : t.val < 72 := t.isLt
    rw [state_later m c t (by omega) (ix3 h e w)]
    refine point_state m c t _ h (fun e w => ?_) e w
    have hp : t.val - 1 < cfg0.N := by show t.val - 1 < 72; omega
    refine (state_after k ⟨t.val - 1, hp⟩ (by show (t.val - 1) % 18 = k; omega) h e w).trans ?_
    rw [show entryOf ⟨t.val - 1, hp⟩ = entryOf t from Fin.ext (by show (t.val - 1) / 18 = t.val / 18; omega),
      show (pieceOf ⟨t.val - 1, hp⟩).val + 1 = (pieceOf t).val by show (t.val - 1) % 18 + 1 = t.val % 18; omega]

/-- What a point leaves in its output block. -/
theorem out_at_point (t : Fin cfg0.N) (y : S128x2048.Idx) :
    (outsAt0 m c t.val t.isLt).1 y
      = outAt (input m c) (entryOf t) (pieceOf t) (headOf y) (y 0) ⟨(y 1).val % 256, Nat.mod_lt _ (by norm_num)⟩ := by
  have ht : t.val < 72 := t.isLt
  by_cases h0 : t.val % 18 = 0
  · rw [out_first m c t h0 y]
    refine point_out m c t zeroState _ (fun e w => ?_) _ _
    rw [show (pieceOf t).val = 0 from h0]
    rfl
  · rw [out_later m c t h0 y]
    refine point_out m c t _ _ (fun e w => ?_) _ _
    have hp : t.val - 1 < cfg0.N := by show t.val - 1 < 72; omega
    refine (state_after m c _ ⟨t.val - 1, hp⟩ rfl (headOf y) e w).trans ?_
    rw [show entryOf ⟨t.val - 1, hp⟩ = entryOf t from Fin.ext (by show (t.val - 1) / 18 = t.val / 18; omega),
      show (pieceOf ⟨t.val - 1, hp⟩).val + 1 = (pieceOf t).val by show (t.val - 1) % 18 + 1 = t.val % 18; omega]

/-- The layer's retention outputs, row by row. -/
def target : S9216x2048.Idx → EReal := fun y =>
  outAt (input m c) (rowEntry (y 0)) (rowChunk (y 0)) ⟨(y 1).val / 256, by have h : (y 1).val < 2048 := (y 1).isLt; omega⟩
    (rowToken (y 0)) ⟨(y 1).val % 256, Nat.mod_lt _ (by norm_num)⟩

theorem tokenRow_val (b : Fin 4) (n : Fin 18) (p : Fin 128) : (tokenRow b n p).val
    = if n.val * 128 + p.val < 256 then 8192 + (b.val * 256 + (n.val * 128 + p.val)) else b.val * 2048 + (n.val * 128 + p.val - 256) := by
  unfold tokenRow
  split_ifs <;> rfl

theorem rowEntry_row (b : Fin 4) (n : Fin 18) (p : Fin 128) : rowEntry (tokenRow b n p) = b := by
  have hr := tokenRow_val b n p
  generalize tokenRow b n p = r at hr ⊢
  apply Fin.ext
  unfold rowEntry
  split_ifs at hr ⊢ <;> dsimp only <;> omega

theorem rowChunk_row (b : Fin 4) (n : Fin 18) (p : Fin 128) : rowChunk (tokenRow b n p) = n := by
  have hr := tokenRow_val b n p
  generalize tokenRow b n p = r at hr ⊢
  apply Fin.ext
  unfold rowChunk
  split_ifs at hr ⊢ <;> dsimp only <;> omega

theorem rowToken_row (b : Fin 4) (n : Fin 18) (p : Fin 128) : rowToken (tokenRow b n p) = p := by
  have hr := tokenRow_val b n p
  generalize tokenRow b n p = r at hr ⊢
  apply Fin.ext
  unfold rowToken
  split_ifs at hr ⊢ <;> dsimp only <;> omega

/-- The call's result array. -/
theorem array_eq : (dats m 0 c).arrAt 9 cfg0.N = target m c := by
  refine (dats m 0 c).arrAt_eq_of_covers 9 _ (by decide +kernel) fun t hf y => ?_
  obtain ⟨p, d, rfl⟩ : ∃ (p : Fin 128) (d : Fin 2048), y = ix2 p d := ⟨y 0, y 1, by funext a; match a with | ⟨0, _⟩ => rfl | ⟨1, _⟩ => rfl⟩
  have e9 := (blockIdx t).2.2.2.2.2.2.2.2.2
  have hr := row_eq t p
  blk_simp
  rw [after0_9, out_at_point m c t (ix2 p d)]
  rw [show (win0_9.blk t).view.emb (ix2 p d) = ix2 (tokenRow (entryOf t) (pieceOf t) p) d by blk_ext [e9, hr]]
  show _ = outAt (input m c) (rowEntry (tokenRow (entryOf t) (pieceOf t) p)) (rowChunk (tokenRow (entryOf t) (pieceOf t) p)) _
    (rowToken (tokenRow (entryOf t) (pieceOf t) p)) _
  rw [rowEntry_row, rowChunk_row, rowToken_row]
  rfl

end Cert.Proof.Ret
end
-- ==== Proof.RetEntry.lean ====
/- What the reference's loop over chunks starts from: the chunked queries, keys and values, the decays and the empty state. -/
module

public import proofs.«01_k».proof.Proof.RetSpec
public import proofs.«01_k».proof.Proof.Gen.ReferenceIdeal.Run
public import Idealize.ShloMosaic.Lib.StableHlo.ReadAt

@[expose] public section

set_option maxRecDepth 16384

noncomputable section

open Idealize.ShloMosaic Idealize.ShloMosaic.TcCoe Idealize.SL.Sem

namespace Cert.Proof.Ret
open Cert.ReferenceIdeal Cert.ReferenceIdeal.Gen Cert.ReferenceIdeal.Value

variable (m : (ℓ : Loc nD τ sig) → Buf (Elt Ideal) ℓ) (c : Dev nD)

/-- What a buffer of the loop holds before the first chunk. -/
def start (r : Ref sig .tc) := StableHlo.entryContents preI m c (Proc.devRef .tc r)

theorem start_inner (h : Fin 8) (i j : Fin 128) : start m c main_v220_3 (ix3 h i j) = inner h i j := by
  simp only [start, StableHlo.entryContents, StableHlo.afterL_cons, StableHlo.afterL_nil]
  after_reads_simp
  simp only [id, StableHlo.TRef.toBuf, StableHlo.TRef.ofBuf, cast_cast, cast_eq]
  pointwise []
  rfl

theorem start_queryDecay (h : Fin 8) (p : Fin 128) : start m c main_v220_4 (ix3 h p 0) = queryDecay h p := by
  simp only [start, StableHlo.entryContents, StableHlo.afterL_cons, StableHlo.afterL_nil]
  after_reads_simp
  simp only [id, StableHlo.TRef.toBuf, StableHlo.TRef.ofBuf, cast_cast, cast_eq]
  pointwise []
  rfl

theorem start_chunkDecay (h : Fin 8) : start m c main_v220_5 (ix3 h 0 0) = chunkDecay h := by
  simp only [start, StableHlo.entryContents, StableHlo.afterL_cons, StableHlo.afterL_nil]
  after_reads_simp
  simp only [id, StableHlo.TRef.toBuf, StableHlo.TRef.ofBuf, cast_cast, cast_eq]
  pointwise []
  rfl

theorem start_keyDecay (h : Fin 8) (p : Fin 128) : start m c main_v220_6 (ix3 h p 0) = keyDecay h p := by
  simp only [start, StableHlo.entryContents, StableHlo.afterL_cons, StableHlo.afterL_nil]
  after_reads_simp
  simp only [id, StableHlo.TRef.toBuf, StableHlo.TRef.ofBuf, cast_cast, cast_eq]
  pointwise []
  rfl

theorem start_state (b : Fin 4) (h : Fin 8) (e : Fin 128) (w : Fin 256) : start m c main_v220_8 (ix4 b h e w) = (0 : EReal) := by
  simp only [start, StableHlo.entryContents, StableHlo.afterL_cons, StableHlo.afterL_nil]
  after_reads_simp
  simp only [id]
  pointwise []

theorem start_value (b : Fin 4) (n : Fin 18) (h : Fin 8) (p : Fin 128) (w : Fin 256) :
    start m c main_v220_2 (ix5 n b h p w) = valueRow (m (c, Proc.devRef .tc main_arg0)) b n h p w := by
  simp only [start, StableHlo.entryContents, StableHlo.afterL_cons, StableHlo.afterL_nil]
  after_reads_simp
  simp -implicitDefEqProofs only [id_eq]
  clean_types
  pointwise []
  after_reads_at
  unfold valueRow tokenRow
  split <;> rfl

theorem start_query (b : Fin 4) (n : Fin 18) (h : Fin 8) (p : Fin 128) (e : Fin 128) :
    start m c main_v220_0 (ix5 n b h p e) = queryRow (m (c, Proc.devRef .tc main_arg0)) b n h p e := by
  rw [queryRow, rope_split]
  simp only [start, StableHlo.entryContents, StableHlo.afterL_cons, StableHlo.afterL_nil]
  after_reads_simp
  simp -implicitDefEqProofs only [id_eq]
  clean_types
  pointwise []
  after_reads_at
  after_reads_at
  rfl

theorem start_key (b : Fin 4) (n : Fin 18) (h : Fin 8) (p : Fin 128) (e : Fin 128) :
    start m c main_v220_1 (ix5 n b h p e) = keyRow (m (c, Proc.devRef .tc main_arg0)) b n h p e := by
  rw [keyRow, rope_split]
  simp only [start, StableHlo.entryContents, StableHlo.afterL_cons, StableHlo.afterL_nil]
  after_reads_simp
  simp -implicitDefEqProofs only [id_eq]
  clean_types
  pointwise []
  after_reads_at
  after_reads_at
  rfl

end Cert.Proof.Ret
end
-- ==== Proof.RetLoop.lean ====
/- The reference's loop over chunks: what one pass makes of the carried state and of the chunk's output, and both after any number of
   passes. -/
module

public import proofs.«01_k».proof.Proof.RetEntry
public import Idealize.ShloMosaic.Lib.DynamicIndex

@[expose] public section

set_option maxRecDepth 16384

noncomputable section

open Idealize.ShloMosaic Idealize.ShloMosaic.TcCoe Idealize.SL.Sem

namespace Cert.Proof.Ret
open Cert.ReferenceIdeal Cert.ReferenceIdeal.Gen Cert.ReferenceIdeal.Value

/-- Where chunk `n` starts in an array of chunks. -/
abbrev chunkOff (n : Nat) : Fin 5 → Nat := ![n, 0, 0, 0, 0]

/-- The loop's start indices, when its counter is `n`, are those of chunk `n`. -/
theorem starts_eq (n : Fin 18) (ctr : (⟨S_, .i32⟩ : BufTy).Contents (Elt Ideal)) (hc : ctr = fun _ => BitVec.ofNat 32 n.val) (a : Fin 5) :
    (((![ctr, constantI S_ 32 0#32, constantI S_ 32 0#32, constantI S_ 32 0#32, constantI S_ 32 0#32] :
      Fin 5 → (⟨S_, .i32⟩ : BufTy).Contents (Elt Ideal))) a (Shape.Idx.first h_S_)).toInt = (chunkOff n.val a : Int) := by
  subst hc
  fin_cases a
  · exact toInt_ofNat_of_lt (by omega)
  all_goals rfl

/-- Writing chunk `n` of an array of chunks: that chunk is the written one, the others stay. -/
theorem write_chunk (x : Vec Ideal S18x4x8x128x256 .f32) (u : Vec Ideal S1x4x8x128x256 .f32) (starts : Fin 5 → Int)
    (fits : S18x4x8x128x256.Slices (fun _ => 0) S1x4x8x128x256) (n : Fin 18) (hs : ∀ a, starts a = (chunkOff n.val a : Int))
    (k : Fin 18) (b : Fin 4) (h : Fin 8) (p : Fin 128) (w : Fin 256) :
    Host.dynamicUpdateSlice (s := S18x4x8x128x256) x u starts fits (ix5 k b h p w)
      = if k = n then u (ix5 0 b h p w) else x (ix5 k b h p w) := by
  rw [Host.dynamicUpdateSlice_eq_updateSlice (s := S18x4x8x128x256) x u starts fits (chunkOff n.val)
    (fun a => by rw [hs a]; fin_cases a <;> simp [chunkOff] <;> omega) ⟨rfl, fun a => by fin_cases a <;> simp [chunkOff] <;> omega⟩]
  pointwise [chunkOff]
  by_cases h : k = n
  · subst h
    rw [dif_pos (by omega), if_pos rfl]
    exact congrArg (fun z => u (ix5 z b _ p w)) (Fin.ext (Nat.sub_self _))
  · have h' : k.val ≠ n.val := fun e => h (Fin.ext e)
    rw [dif_neg (by omega), if_neg h]

/-- Chunk `n` of an array of chunks. -/
theorem read_chunk {W : Nat} (x : (⟨5, ![18, 4, 8, 128, W]⟩ : Shape).Idx → EReal) (starts : Fin 5 → Int)
    (fits : (⟨5, ![18, 4, 8, 128, W]⟩ : Shape).Slices (fun _ => 0) ⟨5, ![1, 4, 8, 128, W]⟩) (n : Fin 18)
    (hs : ∀ a, starts a = (chunkOff n.val a : Int)) (b : Fin 4) (h : Fin 8) (p : Fin 128) (e : Fin W) :
    Host.dynamicSlice (s := ⟨5, ![18, 4, 8, 128, W]⟩) ⟨5, ![1, 4, 8, 128, W]⟩ x starts fits (ix5 0 b h p e) = x (ix5 n b h p e) := by
  rw [Host.dynamicSlice_eq_extractStridedSlice (s := ⟨5, ![18, 4, 8, 128, W]⟩) _ x starts (chunkOff n.val) fits
    ⟨rfl, fun a => by fin_cases a <;> simp [chunkOff] <;> omega⟩ hs]
  exact extractStridedSlice_apply (chunkOff n.val) x _ (ix5 0 b h p e) (ix5 n b h p e) (fun a => by
    fin_cases a <;> simp [ix5, chunkOff]
    exact Nat.lt_one_iff.mp (Fin.isLt _))

theorem drop_keys (y : Vec Ideal S1x4x8x128x128 .f32) (b : Fin 4) (h : Fin 8) (p e : Fin 128) :
    shapeCast S4x8x128x128 y shapeCasts_S1x4x8x128x128_S4x8x128x128 (ix4 b h p e) = y (ix5 0 b h p e) := by pointwise []

theorem drop_values (y : Vec Ideal S1x4x8x128x256 .f32) (b : Fin 4) (h : Fin 8) (p : Fin 128) (w : Fin 256) :
    shapeCast S4x8x128x256 y shapeCasts_S1x4x8x128x256_S4x8x128x256 (ix4 b h p w) = y (ix5 0 b h p w) := by pointwise []

section
variable (V : Valuation τ sig (Elt Ideal)) (n : Fin 18) (hc : V (Proc.devRef .tc main_v220_7) = fun _ => BitVec.ofNat 32 n.val)
include hc

theorem query_chunk (b : Fin 4) (h : Fin 8) (p : Fin 128) (e : Fin 128) :
    res_main_while0b_v233 V (ix4 b h p e) = V (Proc.devRef .tc main_v220_0) (ix5 n b h p e) :=
  (drop_keys _ b h p e).trans (read_chunk _ _ sliceFits_S18x4x8x128x128_S1x4x8x128x128 n (starts_eq n _ hc) b h p e)

theorem key_chunk (b : Fin 4) (h : Fin 8) (p : Fin 128) (e : Fin 128) :
    res_main_while0b_v234 V (ix4 b h p e) = V (Proc.devRef .tc main_v220_1) (ix5 n b h p e) :=
  (drop_keys _ b h p e).trans (read_chunk _ _ sliceFits_S18x4x8x128x128_S1x4x8x128x128 n (starts_eq n _ hc) b h p e)

theorem value_chunk (b : Fin 4) (h : Fin 8) (p : Fin 128) (w : Fin 256) :
    res_main_while0b_v235 V (ix4 b h p w) = V (Proc.devRef .tc main_v220_2) (ix5 n b h p w) :=
  (drop_values _ b h p w).trans (read_chunk _ _ sliceFits_S18x4x8x128x256_S1x4x8x128x256 n (starts_eq n _ hc) b h p w)

theorem state_step (b : Fin 4) (h : Fin 8) (e : Fin 128) (w : Fin 256) :
    step_main_v220_8 V (ix4 b h e w)
      = chunkState (fun j e => V (Proc.devRef .tc main_v220_1) (ix5 n b h j e)) (fun j w => V (Proc.devRef .tc main_v220_2) (ix5 n b h j w))
          (fun e w => V (Proc.devRef .tc main_v220_8) (ix4 b h e w)) (fun p => V (Proc.devRef .tc main_v220_6) (ix3 h p 0))
          (V (Proc.devRef .tc main_v220_5) (ix3 h 0 0)) e w := by
  unfold step_main_v220_8 chunkState
  simp only [id_eq]
  pointwise [key_chunk V n hc, value_chunk V n hc]

theorem out_step (b : Fin 4) (h : Fin 8) (p : Fin 128) (w : Fin 256) :
    step_main_v220_9 V (ix5 n b h p w)
      = chunkOut (fun j e => V (Proc.devRef .tc main_v220_0) (ix5 n b h j e)) (fun j e => V (Proc.devRef .tc main_v220_1) (ix5 n b h j e))
          (fun j w => V (Proc.devRef .tc main_v220_2) (ix5 n b h j w)) (fun e w => V (Proc.devRef .tc main_v220_8) (ix4 b h e w))
          (fun i j => V (Proc.devRef .tc main_v220_3) (ix3 h i j)) (fun p => V (Proc.devRef .tc main_v220_4) (ix3 h p 0)) p w := by
  refine (write_chunk _ _ _ updateFits_S18x4x8x128x256_S1x4x8x128x256 n (starts_eq n _ hc) n b h p w).trans ?_
  rw [if_pos rfl]
  unfold chunkOut
  pointwise [query_chunk V n hc, key_chunk V n hc, value_chunk V n hc]

theorem out_step_other (k : Fin 18) (hk : k ≠ n) (b : Fin 4) (h : Fin 8) (p : Fin 128) (w : Fin 256) :
    step_main_v220_9 V (ix5 k b h p w) = V (Proc.devRef .tc main_v220_9) (ix5 k b h p w) :=
  (write_chunk _ _ _ updateFits_S18x4x8x128x256_S1x4x8x128x256 n (starts_eq n _ hc) k b h p w).trans (if_neg hk)
end

/-- A buffer one pass does not write holds what it held, after any number of passes. -/
theorem kept (r : Ref sig .tc) (hr : ∀ V : Valuation τ sig (Elt Ideal), STEP V (Proc.devRef .tc r) = V (Proc.devRef .tc r))
    (V : Valuation τ sig (Elt Ideal)) : ∀ k : Nat, (STEP^[k] V) (Proc.devRef .tc r) = V (Proc.devRef .tc r)
  | 0 => rfl
  | k + 1 => by rw [Function.iterate_succ_apply', hr, kept r hr V k]

variable (m : (ℓ : Loc nD τ sig) → Buf (Elt Ideal) ℓ) (c : Dev nD)

/-- The loop's buffers before chunk `k`. -/
def before (k : Nat) : Valuation τ sig (Elt Ideal) := STEP^[k] (StableHlo.entryContents preI m c)

theorem before_succ (k : Nat) : before m c (k + 1) = STEP (before m c k) := Function.iterate_succ_apply' _ _ _

theorem counter_at : ∀ k : Nat, before m c k (Proc.devRef .tc main_v220_7) = fun _ => BitVec.ofNat 32 k
  | 0 => ctr_entry m c
  | k + 1 => by
    rw [before_succ, STEP_main_v220_7, step_main_v220_7, counter_at k]
    funext _
    exact (BitVec.ofNat_add k 1).symm

theorem state_at (b : Fin 4) (h : Fin 8) : ∀ (k : Nat) (hk : k ≤ 18) (e : Fin 128) (w : Fin 256),
    before m c k (Proc.devRef .tc main_v220_8) (ix4 b h e w) = stateAt (m (c, Proc.devRef .tc main_arg0)) b h k e w
  | 0, _, e, w => start_state m c b h e w
  | k + 1, hk, e, w => by
    rw [before_succ, STEP_main_v220_8, state_step (before m c k) ⟨k, hk⟩ (counter_at m c k), stateAt_succ _ b ⟨k, hk⟩ h]
    congr 1
    · funext j e
      exact (congrFun (kept main_v220_1 STEP_main_v220_1 _ k) _).trans (start_key m c b ⟨k, hk⟩ h j e)
    · funext j w
      exact (congrFun (kept main_v220_2 STEP_main_v220_2 _ k) _).trans (start_value m c b ⟨k, hk⟩ h j w)
    · funext e w
      exact state_at b h k (by omega) e w
    · funext p
      exact (congrFun (kept main_v220_6 STEP_main_v220_6 _ k) _).trans (start_keyDecay m c h p)
    · exact (congrFun (kept main_v220_5 STEP_main_v220_5 _ k) _).trans (start_chunkDecay m c h)

theorem out_at (b : Fin 4) (n : Fin 18) (h : Fin 8) (p : Fin 128) (w : Fin 256) : ∀ (k : Nat) (hk : k ≤ 18) (hn : n.val < k),
    before m c k (Proc.devRef .tc main_v220_9) (ix5 n b h p w) = outAt (m (c, Proc.devRef .tc main_arg0)) b n h p w
  | 0, _, hn => absurd hn (Nat.not_lt_zero _)
  | k + 1, hk, hn => by
    rw [before_succ, STEP_main_v220_9]
    by_cases e : n = ⟨k, hk⟩
    · subst e
      rw [out_step (before m c k) ⟨k, hk⟩ (counter_at m c k), outAt]
      congr 1
      · funext j e
        exact (congrFun (kept main_v220_0 STEP_main_v220_0 _ k) _).trans (start_query m c b ⟨k, hk⟩ h j e)
      · funext j e
        exact (congrFun (kept main_v220_1 STEP_main_v220_1 _ k) _).trans (start_key m c b ⟨k, hk⟩ h j e)
      · funext j w
        exact (congrFun (kept main_v220_2 STEP_main_v220_2 _ k) _).trans (start_value m c b ⟨k, hk⟩ h j w)
      · funext e w
        exact state_at m c b h k (by omega) e w
      · funext i j
        exact (congrFun (kept main_v220_3 STEP_main_v220_3 _ k) _).trans (start_inner m c h i j)
      · funext p
        exact (congrFun (kept main_v220_4 STEP_main_v220_4 _ k) _).trans (start_queryDecay m c h p)
    · rw [out_step_other (before m c k) ⟨k, hk⟩ (counter_at m c k) n e]
      exact out_at b n h p w k (by omega) (by have : n.val ≠ k := fun h => e (Fin.ext h); omega)

/-- The chunks laid end to end: every head's 2304 tokens of every batch entry. -/
def tokens (x : Vec Ideal S18x4x8x128x256 .f32) : Vec Ideal S4x8x2304x256 .f32 :=
  shapeCast _ (transpose S4x8x18x128x256 [1, 2, 0, 3, 4] x transposes_S18x4x8x128x256_S4x8x18x128x256_1_2_0_3_4)
    shapeCasts_S4x8x18x128x256_S4x8x2304x256

theorem tokens_at (x : Vec Ideal S18x4x8x128x256 .f32) (b : Fin 4) (h : Fin 8) (t : Fin 2304) (w : Fin 256) :
    tokens x (ix4 b h t w) = x (ix5 ⟨t.val / 128, by omega⟩ b h ⟨t.val % 128, by omega⟩ w) := by
  unfold tokens
  pointwise []

/-- The latent tokens' rows of the result. -/
def latents (y : Vec Ideal S4x8x2304x256 .f32) : Vec Ideal S8192x2048 .f32 :=
  shapeCast _ (shapeCast _ (transpose S4x2048x8x256 [0, 2, 1, 3] (extractStridedSlice S4x8x2048x256 ![0, 0, 256, 0] y
    slices_S4x8x2304x256_S4x8x2048x256_0_0_256_0) transposes_S4x8x2048x256_S4x2048x8x256_0_2_1_3)
    shapeCasts_S4x2048x8x256_S4x2048x2048) shapeCasts_S4x2048x2048_S8192x2048

theorem latents_at (y : Vec Ideal S4x8x2304x256 .f32) (r : Fin 8192) (col : Fin 2048) :
    latents y (ix2 r col) = y (ix4 ⟨r.val / 2048, by omega⟩ ⟨col.val / 256, by omega⟩ ⟨256 + r.val % 2048, by omega⟩ ⟨col.val % 256, by omega⟩) := by
  unfold latents
  pointwise []

/-- The context tokens' rows of the result. -/
def contexts (y : Vec Ideal S4x8x2304x256 .f32) : Vec Ideal S1024x2048 .f32 :=
  shapeCast _ (shapeCast _ (transpose S4x256x8x256 [0, 2, 1, 3] (extractStridedSlice S4x8x256x256 ![0, 0, 0, 0] y
    slices_S4x8x2304x256_S4x8x256x256_0_0_0_0) transposes_S4x8x256x256_S4x256x8x256_0_2_1_3)
    shapeCasts_S4x256x8x256_S4x256x2048) shapeCasts_S4x256x2048_S1024x2048

theorem contexts_at (y : Vec Ideal S4x8x2304x256 .f32) (r : Fin 1024) (col : Fin 2048) :
    contexts y (ix2 r col) = y (ix4 ⟨r.val / 256, by omega⟩ ⟨col.val / 256, by omega⟩ ⟨r.val % 256, by omega⟩ ⟨col.val % 256, by omega⟩) := by
  unfold contexts
  pointwise []

/-- The result, of all tokens' outputs. -/
def result (y : Vec Ideal S4x8x2304x256 .f32) : Vec Ideal S9216x2048 .bf16 :=
  truncf (F := Ideal) .bf16 (concatenate S9216x2048 0 [⟨S8192x2048, latents y⟩, ⟨S1024x2048, contexts y⟩]
    concatenates_S8192x2048_S1024x2048_S9216x2048_d0) bitsLt_bf16_f32

theorem result_at (y : Vec Ideal S4x8x2304x256 .f32) (r : Fin 9216) (col : Fin 2048) :
    result y (ix2 r col) = if h : r.val < 8192 then
        y (ix4 ⟨r.val / 2048, by omega⟩ ⟨col.val / 256, by omega⟩ ⟨256 + r.val % 2048, by omega⟩ ⟨col.val % 256, by omega⟩)
      else y (ix4 ⟨(r.val - 8192) / 256, by omega⟩ ⟨col.val / 256, by omega⟩ ⟨(r.val - 8192) % 256, by omega⟩ ⟨col.val % 256, by omega⟩) := by
  unfold result
  pointwise [latents_at, contexts_at]

/-- What the reference returns: the result of all chunks' outputs. -/
theorem reference_result (V : Valuation τ sig (Elt Ideal)) :
    out_main_v232 V = result (tokens (V (Proc.devRef .tc main_v220_9))) := rfl

/-- The reference's result at a row and a column: the output of the row's chunk. -/
theorem reference_at (r : Fin 9216) (col : Fin 2048) :
    out_main_v232 (STEP^[18] (StableHlo.entryContents preI m c)) (ix2 r col)
      = outAt (m (c, Proc.devRef .tc main_arg0)) (rowEntry r) (rowChunk r) ⟨col.val / 256, by omega⟩ (rowToken r) ⟨col.val % 256, by omega⟩ := by
  rw [reference_result]
  refine (result_at _ r col).trans ?_
  unfold rowEntry rowChunk rowToken
  split
  · exact (tokens_at _ _ _ _ _).trans (out_at m c _ _ _ _ _ 18 (le_refl _) (Fin.isLt _))
  · exact (tokens_at _ _ _ _ _).trans (out_at m c _ _ _ _ _ 18 (le_refl _) (Fin.isLt _))

end Cert.Proof.Ret
end
-- ==== Proof.RetClaim.lean ====
/- The retention call and its reference end with equal results. -/
module

public import proofs.«01_k».proof.Defs
public import proofs.«01_k».proof.Proof.RetValue
public import proofs.«01_k».proof.Proof.RetLoop

@[expose] public section

set_option maxRecDepth 16384

noncomputable section

open Idealize.ShloMosaic Idealize.ShloMosaic.TcCoe Idealize.SL.Sem
open Idealize.ShloMosaic.Pipeline (Dat)

namespace Cert.Proof.Ret

section
open Cert.KernelIdeal Cert.KernelIdeal.Gen

/-- The kernel program's run: the result is the layer's retention outputs, the argument is unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89) = target m c
      ∧ r.2.mem ((c.tc : Thread nD τ).loc main_arg0) = m ((c.tc : Thread nD τ).loc main_arg0) :=
  (θ_run defs _ _).mono (fun r h c => ⟨(h c).1.trans (array_eq m c), (h c).2⟩) (Cert.KernelIdeal.Value.run_blocks m ρ)
end

/-- From memories agreeing on the argument the two programs end with the same array. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => target m c, kernel_run m g, ?_⟩
  refine (θ_run Cert.ReferenceIdeal.defs _ _).mono (fun r h c => ⟨(h c).1.trans ?_, (h c).2⟩) (Cert.ReferenceIdeal.Value.run (F := Ideal) m' g')
  have e0 := hag c
  funext y
  obtain ⟨p, d, rfl⟩ : ∃ (p : Fin 9216) (d : Fin 2048), y = ix2 p d := ⟨y 0, y 1, by funext a; match a with | ⟨0, _⟩ => rfl | ⟨1, _⟩ => rfl⟩
  refine (reference_at m' c p d).trans ?_
  unfold target input
  rw [e0]
  rfl

end Cert.Proof.Ret
end
-- ==== Proof.MlpSpec.lean ====
/- The MLP block's mathematics over plain blocks of extended reals: the modulated normalised rows a row block is multiplied by,
   and the normalised, gated residual row the last visit to a row block stores. -/
module

public import proofs.«01_k».proof.Proof.Gen.Kernel2Ideal
public import Idealize.ShloMosaic.Lib.Pipeline.ValueKit
public import Idealize.ShloMosaic.Lib.Pointwise

@[expose] public section

noncomputable section

open Idealize.ShloMosaic Idealize.ShloMosaic.TcCoe Idealize.SL.Sem

namespace Cert.Proof.Mlp

open Cert.Kernel2Ideal

/-- The reciprocal root mean square of row `r` of a block: the mean over the 4096 columns of the squares, plus the small constant. -/
def rstd (X : Vec Ideal S512x4096 .f32) (r : Fin 512) : EReal :=
  Ideal.rsqrt (Ideal.div (∑ k : Fin 4096, X (ix2 r k) * X (ix2 r k)) (Ideal.ofBits .f32 0x45800000#32) + Ideal.ofBits .f32 0x358637BD#32)

/-- The modulated rows: normalised, times the weight row, times one plus the scale row, plus the shift row. -/
def modRows (X : Vec Ideal S512x4096 .f32) (g : Vec Ideal S1x4096 .f32) (sh sc : Vec Ideal S1x1x4096 .f32) :
    Vec Ideal S512x4096 .bf16 := fun j =>
  X j * rstd X (j 0) * g (ix2 0 (j 1)) * (Ideal.ofBits .f32 0x3F800000#32 + sc (ix3 0 0 (j 1))) + sh (ix3 0 0 (j 1))

/-- The block the last visit stores: the residual rows plus the gate row times the normalised accumulated rows. -/
def outRows (X : Vec Ideal S512x4096 .f32) (gate : Vec Ideal S1x1x4096 .f32) (g : Vec Ideal S1x4096 .f32)
    (acc : Vec Ideal S512x4096 .f32) : Vec Ideal S512x4096 .f32 := fun j =>
  X j + gate (ix3 0 0 (j 1)) * (acc j * rstd acc (j 0) * g (ix2 0 (j 1)))

/-- The reciprocal root mean square of one row of 4096 numbers. -/
def rowRstd (x : Fin 4096 → EReal) : EReal :=
  Ideal.rsqrt (Ideal.div (∑ k : Fin 4096, x k * x k) (Ideal.ofBits .f32 0x45800000#32) + Ideal.ofBits .f32 0x358637BD#32)

/-- One row normed, scaled and shifted: what the two products read. -/
def rowMod (x g sh sc : Fin 4096 → EReal) (d : Fin 4096) : EReal :=
  x d * rowRstd x * g d * (1 + sc d) + sh d

/-- One hidden unit: the positive part of a row's product with a column. -/
def hidden (u : Fin 4096 → EReal) (w : Fin 4096 → EReal) : EReal := max (∑ k : Fin 4096, u k * w k) 0

/-- The sample a row of the flat array belongs to. -/
def sampleOf (r : Fin 8192) : Fin 4 := ⟨r.val / 2048, by omega⟩

/-- The row's place within its sample. -/
def tokenOf (r : Fin 8192) : Fin 2048 := ⟨r.val % 2048, by omega⟩

/-- One unit of the second product: the squared hidden row times a column. -/
def rowDown (u : Fin 4096 → EReal) (W1 : FVec Ideal S4096x16384 .f32) (W2 : FVec Ideal S16384x4096 .f32) (d : Fin 4096) : EReal :=
  ∑ f : Fin 16384, hidden u (fun k => W1 (ix2 k f)) * hidden u (fun k => W1 (ix2 k f)) * W2 (ix2 f d)

/-- The layer's row: the residual row plus the gate times the normed second product. -/
def rowOut (x ga g acc : Fin 4096 → EReal) (d : Fin 4096) : EReal := x d + ga d * (acc d * rowRstd acc * g d)

/-- Row `s` of sample `b` of the layer, from the whole argument arrays. -/
def mlpAt (X : FVec Ideal S4x2048x4096 .f32) (g : FVec Ideal S4096 .f32) (sh sc : FVec Ideal S8x1x4096 .f32)
    (W1 : FVec Ideal S4096x16384 .f32) (W2 : FVec Ideal S16384x4096 .f32) (ga : FVec Ideal S8x1x4096 .f32)
    (g' : FVec Ideal S4096 .f32) (b : Fin 4) (s : Fin 2048) : Fin 4096 → EReal :=
  rowOut (fun k => X (ix3 b s k)) (fun k => ga (ix3 (b.castLE (by decide)) 0 k)) (fun k => g' (ix1 k))
    (rowDown (rowMod (fun k => X (ix3 b s k)) (fun k => g (ix1 k)) (fun k => sh (ix3 (b.castLE (by decide)) 0 k))
      (fun k => sc (ix3 (b.castLE (by decide)) 0 k))) W1 W2)

end Cert.Proof.Mlp

end
-- ==== Proof.MlpEntry.lean ====
/- The rows a row block is multiplied by, as the first visit to the block stores them: a counted loop of sixteen trips of 32 rows,
   each trip storing eight column slices, every one a slice of the modulated rows. -/
module

public import proofs.«01_k».proof.Proof.MlpSpec
public import proofs.«01_k».proof.Proof.Gen.Kernel2Ideal.Frame
public import Idealize.ShloMosaic.Lib.Pipeline.ReadBack

@[expose] public section

set_option maxRecDepth 16384

noncomputable section

open Idealize.ShloMosaic Idealize.ShloMosaic.TcCoe Idealize.SL.Sem

namespace Cert.Proof.Mlp

open Cert.Kernel2Ideal Cert.Kernel2Ideal.Gen

/-- The eight column slices of trip `k` begin at row `32 k` and at the multiples of 512. -/
theorem offs1 : ∀ k : Fin k0_t1_loop.trips, k0_off1 k = ![32 * k.val, 0] ∧ k0_off2 k = ![32 * k.val, 512] ∧ k0_off3 k = ![32 * k.val, 1024] ∧
    k0_off4 k = ![32 * k.val, 1536] ∧ k0_off5 k = ![32 * k.val, 2048] ∧ k0_off6 k = ![32 * k.val, 2560] ∧
    k0_off7 k = ![32 * k.val, 3072] ∧ k0_off8 k = ![32 * k.val, 3584] := by decide +kernel

/-- The reciprocal root mean square the loop computes from eight loaded column slices is that of the whole row. -/
theorem rstd_of_slices (X : Vec Ideal S512x4096 .f32) (b : ℕ) (hb : b + 32 ≤ 512) (A0 A1 A2 A3 A4 A5 A6 A7 : Vec Ideal S32x512 .f32)
    (h0 : ∀ (p : Fin 32) (q : Fin 512), A0 (ix2 p q) = X (ix2 ⟨b + p.val, by omega⟩ ⟨0 + q.val, by omega⟩))
    (h1 : ∀ (p : Fin 32) (q : Fin 512), A1 (ix2 p q) = X (ix2 ⟨b + p.val, by omega⟩ ⟨512 + q.val, by omega⟩))
    (h2 : ∀ (p : Fin 32) (q : Fin 512), A2 (ix2 p q) = X (ix2 ⟨b + p.val, by omega⟩ ⟨1024 + q.val, by omega⟩))
    (h3 : ∀ (p : Fin 32) (q : Fin 512), A3 (ix2 p q) = X (ix2 ⟨b + p.val, by omega⟩ ⟨1536 + q.val, by omega⟩))
    (h4 : ∀ (p : Fin 32) (q : Fin 512), A4 (ix2 p q) = X (ix2 ⟨b + p.val, by omega⟩ ⟨2048 + q.val, by omega⟩))
    (h5 : ∀ (p : Fin 32) (q : Fin 512), A5 (ix2 p q) = X (ix2 ⟨b + p.val, by omega⟩ ⟨2560 + q.val, by omega⟩))
    (h6 : ∀ (p : Fin 32) (q : Fin 512), A6 (ix2 p q) = X (ix2 ⟨b + p.val, by omega⟩ ⟨3072 + q.val, by omega⟩))
    (h7 : ∀ (p : Fin 32) (q : Fin 512), A7 (ix2 p q) = X (ix2 ⟨b + p.val, by omega⟩ ⟨3584 + q.val, by omega⟩)) (p : Fin 32) :
    k0_pay8 (k0_pay7 A0 A1 A2 A3 A4 A5 A6 A7) (ix2 p 0) = rstd X ⟨b + p.val, by omega⟩ := by
  pointwise [k0_pay7, k0_pay8, rstd]
  simp only [h0, h1, h2, h3, h4, h5, h6, h7]
  rw [Fin.sum_univ_tiles 8 512 rfl (fun k : Fin 4096 => X (ix2 ⟨b + p.val, by omega⟩ k) * X (ix2 ⟨b + p.val, by omega⟩ k))]
  simp only [Fin.sum_univ_eight, Finset.sum_add_distrib]
  rfl

/-- The last visit's loop computes the reciprocal root mean square by the same operations. -/
theorem rstd_of_slices' (X : Vec Ideal S512x4096 .f32) (b : ℕ) (hb : b + 32 ≤ 512) (A0 A1 A2 A3 A4 A5 A6 A7 : Vec Ideal S32x512 .f32)
    (h0 : ∀ (p : Fin 32) (q : Fin 512), A0 (ix2 p q) = X (ix2 ⟨b + p.val, by omega⟩ ⟨0 + q.val, by omega⟩))
    (h1 : ∀ (p : Fin 32) (q : Fin 512), A1 (ix2 p q) = X (ix2 ⟨b + p.val, by omega⟩ ⟨512 + q.val, by omega⟩))
    (h2 : ∀ (p : Fin 32) (q : Fin 512), A2 (ix2 p q) = X (ix2 ⟨b + p.val, by omega⟩ ⟨1024 + q.val, by omega⟩))
    (h3 : ∀ (p : Fin 32) (q : Fin 512), A3 (ix2 p q) = X (ix2 ⟨b + p.val, by omega⟩ ⟨1536 + q.val, by omega⟩))
    (h4 : ∀ (p : Fin 32) (q : Fin 512), A4 (ix2 p q) = X (ix2 ⟨b + p.val, by omega⟩ ⟨2048 + q.val, by omega⟩))
    (h5 : ∀ (p : Fin 32) (q : Fin 512), A5 (ix2 p q) = X (ix2 ⟨b + p.val, by omega⟩ ⟨2560 + q.val, by omega⟩))
    (h6 : ∀ (p : Fin 32) (q : Fin 512), A6 (ix2 p q) = X (ix2 ⟨b + p.val, by omega⟩ ⟨3072 + q.val, by omega⟩))
    (h7 : ∀ (p : Fin 32) (q : Fin 512), A7 (ix2 p q) = X (ix2 ⟨b + p.val, by omega⟩ ⟨3584 + q.val, by omega⟩)) (p : Fin 32) :
    k0_pay20 (k0_pay19 A0 A1 A2 A3 A4 A5 A6 A7) (ix2 p 0) = rstd X ⟨b + p.val, by omega⟩ :=
  rstd_of_slices X b hb A0 A1 A2 A3 A4 A5 A6 A7 h0 h1 h2 h3 h4 h5 h6 h7 p

/-- Where the place `(p, q)` of a 32 by 512 slice lies in the block. -/
theorem emb_ix2 (off : Fin 2 → ℕ) (inb : ∀ a, off a + S32x512.size a ≤ S512x4096.size a) (p : Fin 32) (q : Fin 512)
    (r cl : ℕ) (ho : off = ![r, cl]) (hr : r + 32 ≤ 512) (hc : cl + 512 ≤ 4096) :
    (Rect.unit (s := S512x4096) off S32x512.size inb).emb (ix2 p q) = ix2 ⟨r + p.val, by omega⟩ ⟨cl + q.val, by omega⟩ := by
  subst ho
  blk_ext

variable (𝒱 : Variants) (c : Dev nD) (bd : Option 𝒱.V) (i : grid0.Coords) (arg2 : Memref sig .tc .vmem S512x4096 .f32)
    (harg2 : arg2.IsWhole) (arg3 : Memref sig .tc .vmem S1x4096 .f32) (harg3 : arg3.IsWhole)
    (arg4 : Memref sig .tc .vmem S1x1x4096 .f32) (harg4 : arg4.IsWhole) (arg5 : Memref sig .tc .vmem S1x1x4096 .f32)
    (harg5 : arg5.IsWhole) (arg6 : Memref sig .tc .vmem S4096x512 .bf16) (harg6 : arg6.IsWhole)
    (arg7 : Memref sig .tc .vmem S512x4096 .bf16) (harg7 : arg7.IsWhole) (arg8 : Memref sig .tc .vmem S1x1x4096 .f32)
    (harg8 : arg8.IsWhole) (arg9 : Memref sig .tc .vmem S1x4096 .f32) (harg9 : arg9.IsWhole)
    (arg10 : Memref sig .tc .vmem S512x4096 .f32) (harg10 : arg10.IsWhole) (arg11 : Memref sig .tc .vmem S512x4096 .bf16)
    (harg11 : arg11.IsWhole)

/-- Every store of trip `k` is a slice of the modulated rows. -/
theorem trip1_pieces (h1 : k0_cond1 i = 1#1) (x0 : Vec Ideal S512x4096 .f32) (x1 : Vec Ideal S1x4096 .f32) (x2 x3 : Vec Ideal S1x1x4096 .f32)
    (k : Fin k0_t1_loop.trips) :
    View.PiecesOf (modRows x0 x1 x2 x3)
      (tripL_k0_t1 (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3) k) := by
  unfold tripL_k0_t1 trip_k0_t1
  frame_open
  obtain ⟨o1, o2, o3, o4, o5, o6, o7, o8⟩ := offs1 k
  simp only [View.PiecesOf, View.readAt_eq_ld, Memref.IsWhole.read_unread]
  have hk : k.val < 16 := k.isLt
  refine ⟨fun x => ?_, fun x => ?_, fun x => ?_, fun x => ?_, fun x => ?_, fun x => ?_, fun x => ?_, fun x => ?_, trivial⟩
  all_goals
    obtain ⟨p, q, rfl⟩ : ∃ (p : Fin 32) (q : Fin 512), x = ix2 p q := ⟨x 0, x 1, by funext a; match a with | ⟨0, _⟩ => rfl | ⟨1, _⟩ => rfl⟩
    rw [emb_ix2 _ _ p q _ _ (by first | exact o1 | exact o2 | exact o3 | exact o4 | exact o5 | exact o6 | exact o7 | exact o8) (by omega) (by omega)]
    pointwise [k0_pay1, k0_pay2, k0_pay9, k0_pay10, k0_pay11, k0_pay12, k0_pay13, k0_pay14, k0_pay15, k0_pay16, k0_pay17, k0_pay18, modRows]
    rw [rstd_of_slices x0 (32 * k.val) (by omega)]
    · simp only [o1, o2, o3, o4, o5, o6, o7, o8]
      first | rfl | simp only [Matrix.cons_val_zero, Matrix.cons_val_one, Nat.zero_add]
    all_goals
      intro p q
      pointwise
      simp only [o1, o2, o3, o4, o5, o6, o7, o8]
      first | rfl | simp only [Matrix.cons_val_zero, Matrix.cons_val_one, Nat.zero_add]

/-- Slices of one block put in front of slices of the same block. -/
theorem piecesOf_append {s : Shape} {e : EltTy} {G : s.Idx → Elt Ideal e} : ∀ {L L' : List (View.Piece (Elt Ideal) s e)},
    View.PiecesOf G L → View.PiecesOf G L' → View.PiecesOf G (L ++ L')
  | [], _, _, h' => h'
  | _ :: _, _, h, h' => ⟨h.1, piecesOf_append h.2 h'⟩

/-- So is every store of the trips before trip `n`. -/
theorem loop1_pieces (h1 : k0_cond1 i = 1#1) (x0 : Vec Ideal S512x4096 .f32) (x1 : Vec Ideal S1x4096 .f32) (x2 x3 : Vec Ideal S1x1x4096 .f32) :
    ∀ n, n ≤ k0_t1_loop.trips → View.PiecesOf (modRows x0 x1 x2 x3)
      (pb_k0_t1 (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3) n)
  | 0, _ => trivial
  | n + 1, hn => by
    rw [pb_k0_t1_succ (F := Ideal) 𝒱 c bd i arg2 harg2 arg3 harg3 arg4 harg4 arg5 harg5 arg6 harg6 arg7 harg7 arg8 harg8 arg9 harg9 arg10
        harg10 arg11 harg11 h1 _ _ _ _ ⟨n, hn⟩]
    exact piecesOf_append (trip1_pieces _ _ _ _ _ _ _ _ _ _ _ _ _ _ _ _ _ _ _ _ _ _ _ _ h1 x0 x1 x2 x3 ⟨n, hn⟩)
      (loop1_pieces h1 x0 x1 x2 x3 n (Nat.le_of_succ_le hn))

/-- The sixteen trips leave the modulated rows in the whole block. -/
theorem loop1_canon (h1 : k0_cond1 i = 1#1) (x0 : Vec Ideal S512x4096 .f32) (x1 : Vec Ideal S1x4096 .f32) (x2 x3 : Vec Ideal S1x1x4096 .f32)
    (y : S512x4096.Idx) :
    View.canon (pb_k0_t1 (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3)
      (Scf.trips k0_t1_loop.lb k0_t1_loop.ub k0_t1_loop.st)) y = modRows x0 x1 x2 x3 y := by
  have hc := View.cover_of_tiledL (pb_k0_t1 (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3)
      (Scf.trips k0_t1_loop.lb k0_t1_loop.ub k0_t1_loop.st)) S32x512.size (by sl_kernel_rfl) y
  have h := View.canon_append_of_piecesOf (modRows x0 x1 x2 x3) [] _
    (loop1_pieces 𝒱 c bd i arg2 harg2 arg3 harg3 arg4 harg4 arg5 harg5 arg6 harg6 arg7 harg7 arg8 harg8 arg9 harg9 arg10
        harg10 arg11 harg11 h1 x0 x1 x2 x3 _ (le_refl _)) y hc
  rwa [List.append_nil] at h

end Cert.Proof.Mlp

end
-- ==== Proof.MlpExit.lean ====
/- The rows the last visit to a row block stores: a counted loop of sixteen trips of 32 rows over the accumulated block, in place;
   a trip reads its own rows, which no earlier trip stored into, and stores eight column slices of the normalised, gated residual rows. -/
module

public import proofs.«01_k».proof.Proof.MlpEntry
public import proofs.«01_k».proof.Proof.Gen.Kernel2Ideal.Frame
public import Idealize.ShloMosaic.Lib.Pipeline.ReadBack

@[expose] public section

set_option maxRecDepth 16384

noncomputable section

open Idealize.ShloMosaic Idealize.ShloMosaic.TcCoe Idealize.SL.Sem

namespace Cert.Proof.Mlp

open Cert.Kernel2Ideal Cert.Kernel2Ideal.Gen

variable (𝒱 : Variants) (c : Dev nD) (bd : Option 𝒱.V) (i : grid0.Coords) (arg2 : Memref sig .tc .vmem S512x4096 .f32)
    (harg2 : arg2.IsWhole) (arg3 : Memref sig .tc .vmem S1x4096 .f32) (harg3 : arg3.IsWhole)
    (arg4 : Memref sig .tc .vmem S1x1x4096 .f32) (harg4 : arg4.IsWhole) (arg5 : Memref sig .tc .vmem S1x1x4096 .f32)
    (harg5 : arg5.IsWhole) (arg6 : Memref sig .tc .vmem S4096x512 .bf16) (harg6 : arg6.IsWhole)
    (arg7 : Memref sig .tc .vmem S512x4096 .bf16) (harg7 : arg7.IsWhole) (arg8 : Memref sig .tc .vmem S1x1x4096 .f32)
    (harg8 : arg8.IsWhole) (arg9 : Memref sig .tc .vmem S1x4096 .f32) (harg9 : arg9.IsWhole)
    (arg10 : Memref sig .tc .vmem S512x4096 .f32) (harg10 : arg10.IsWhole) (arg11 : Memref sig .tc .vmem S512x4096 .bf16)
    (harg11 : arg11.IsWhole)

/-- The eight column slices of trip `k` begin at row `32 k` and at the multiples of 512. -/
theorem offs2 : ∀ k : Fin k0_t2_loop.trips, k0_off9 k = ![32 * k.val, 0] ∧ k0_off10 k = ![32 * k.val, 512] ∧ k0_off11 k = ![32 * k.val, 1024] ∧
    k0_off12 k = ![32 * k.val, 1536] ∧ k0_off13 k = ![32 * k.val, 2048] ∧ k0_off14 k = ![32 * k.val, 2560] ∧
    k0_off15 k = ![32 * k.val, 3072] ∧ k0_off16 k = ![32 * k.val, 3584] := by decide +kernel

/-- The last visit's rows depend on the accumulated block only at their own row. -/
theorem outRows_row (x0 : Vec Ideal S512x4096 .f32) (x6 : Vec Ideal S1x1x4096 .f32) (x7 : Vec Ideal S1x4096 .f32) (A B : Vec Ideal S512x4096 .f32)
    (r : Fin 512) (h : ∀ q : Fin 4096, A (ix2 r q) = B (ix2 r q)) (q : Fin 4096) :
    outRows x0 x6 x7 A (ix2 r q) = outRows x0 x6 x7 B (ix2 r q) := by
  pointwise [outRows, rstd]
  simp only [h]

/-- Every store of trip `k` is a slice of the last visit's rows over what the trip finds, and lies in rows `32 k` to `32 k + 31`. -/
theorem trip2_pieces (h1 : k0_cond2 i = 1#1) (x0 : Vec Ideal S512x4096 .f32) (x6 : Vec Ideal S1x1x4096 .f32) (x7 : Vec Ideal S1x4096 .f32)
    (f : BufTy.Contents (Elt Ideal) arg10.view.ty) (A : Vec Ideal S512x4096 .f32) (k : Fin k0_t2_loop.trips)
    (hA : ∀ (r : Fin 512) (q : Fin 4096), 32 * k.val ≤ r.val → arg10.view.read (Elt Ideal) f (ix2 r q) = A (ix2 r q)) :
    View.PiecesOf (outRows x0 x6 x7 A)
      (tripL_k0_t2 (F := Ideal) 𝒱 c bd i arg2 harg2 arg3 harg3 arg4 harg4 arg5 harg5 arg6 harg6 arg7 harg7 arg8 harg8 arg9 harg9 arg10
        harg10 arg11 harg11 h1 (harg2.unread x0) (harg8.unread x6) (harg9.unread x7) k f) ∧
    ∀ p ∈ (tripL_k0_t2 (F := Ideal) 𝒱 c bd i arg2 harg2 arg3 harg3 arg4 harg4 arg5 harg5 arg6 harg6 arg7 harg7 arg8 harg8 arg9 harg9 arg10
        harg10 arg11 harg11 h1 (harg2.unread x0) (harg8.unread x6) (harg9.unread x7) k f),
      ∀ y ∈ p.1.set, (y 0).val < 32 * (k.val + 1) := by
  unfold tripL_k0_t2 trip_k0_t2
  frame_open
  obtain ⟨o1, o2, o3, o4, o5, o6, o7, o8⟩ := offs2 k
  have hk : k.val < 16 := k.isLt
  constructor
  · simp only [View.PiecesOf, View.readAt_eq_ld, Memref.IsWhole.read_unread]
    generalize View.read (Elt Ideal) arg10.view f = X at hA ⊢
    refine ⟨fun x => ?_, fun x => ?_, fun x => ?_, fun x => ?_, fun x => ?_, fun x => ?_, fun x => ?_, fun x => ?_, trivial⟩
    all_goals
      obtain ⟨p, q, rfl⟩ : ∃ (p : Fin 32) (q : Fin 512), x = ix2 p q := ⟨x 0, x 1, by funext a; match a with | ⟨0, _⟩ => rfl | ⟨1, _⟩ => rfl⟩
      rw [emb_ix2 _ _ p q _ _ (by first | exact o1 | exact o2 | exact o3 | exact o4 | exact o5 | exact o6 | exact o7 | exact o8) (by omega) (by omega)]
      rw [← outRows_row x0 x6 x7 X A _ fun q => hA _ q (Nat.le_add_right _ _)]
      pointwise [k0_pay5, k0_pay6, k0_pay21, k0_pay22, k0_pay23, k0_pay24, k0_pay25, k0_pay26, k0_pay27, k0_pay28, k0_pay29, outRows]
      rw [rstd_of_slices' X (32 * k.val) (by omega)]
      · simp only [o1, o2, o3, o4, o5, o6, o7, o8]
        first | rfl | simp only [Matrix.cons_val_zero, Matrix.cons_val_one, Nat.zero_add]
      all_goals
        intro p q
        pointwise
        simp only [o1, o2, o3, o4, o5, o6, o7, o8]
        first | rfl | simp only [Matrix.cons_val_zero, Matrix.cons_val_one, Nat.zero_add]
  · intro p hp y hy
    simp only [List.mem_cons, List.not_mem_nil, or_false] at hp
    rcases hp with rfl | rfl | rfl | rfl | rfl | rfl | rfl | rfl
    all_goals
      dsimp only at hy
      rw [Rect.mem_set_unit] at hy
      have h := (hy 0).2
      first | rw [o1] at h | rw [o2] at h | rw [o3] at h | rw [o4] at h | rw [o5] at h | rw [o6] at h | rw [o7] at h | rw [o8] at h
      change (y 0).val < 32 * k.val + 32 at h
      omega

/-- The same of the trips before trip `n`, run from a block holding `A`. -/
theorem loop2_pieces (h1 : k0_cond2 i = 1#1) (x0 : Vec Ideal S512x4096 .f32) (x6 : Vec Ideal S1x1x4096 .f32) (x7 : Vec Ideal S1x4096 .f32)
    (f : BufTy.Contents (Elt Ideal) arg10.view.ty) :
    ∀ n, n ≤ k0_t2_loop.trips → View.PiecesOf (outRows x0 x6 x7 (arg10.view.read (Elt Ideal) f))
      (pb_k0_t2 (F := Ideal) 𝒱 c bd i arg2 harg2 arg3 harg3 arg4 harg4 arg5 harg5 arg6 harg6 arg7 harg7 arg8 harg8 arg9 harg9 arg10
        harg10 arg11 harg11 h1 (harg2.unread x0) (harg8.unread x6) (harg9.unread x7) f n) ∧
      ∀ p ∈ (pb_k0_t2 (F := Ideal) 𝒱 c bd i arg2 harg2 arg3 harg3 arg4 harg4 arg5 harg5 arg6 harg6 arg7 harg7 arg8 harg8 arg9 harg9 arg10
        harg10 arg11 harg11 h1 (harg2.unread x0) (harg8.unread x6) (harg9.unread x7) f n),
        ∀ y ∈ p.1.set, (y 0).val < 32 * n
  | 0, _ => ⟨trivial, fun p hp => absurd hp List.not_mem_nil⟩
  | n + 1, hn => by
    obtain ⟨ih1, ih2⟩ := loop2_pieces h1 x0 x6 x7 f n (Nat.le_of_succ_le hn)
    rw [pb_k0_t2_succ (F := Ideal) 𝒱 c bd i arg2 harg2 arg3 harg3 arg4 harg4 arg5 harg5 arg6 harg6 arg7 harg7 arg8 harg8 arg9 harg9 arg10
        harg10 arg11 harg11 h1 _ _ _ _ ⟨n, hn⟩]
    have ht := trip2_pieces 𝒱 c bd i arg2 harg2 arg3 harg3 arg4 harg4 arg5 harg5 arg6 harg6 arg7 harg7 arg8 harg8 arg9 harg9 arg10
        harg10 arg11 harg11 h1 x0 x6 x7 (arg10.view.writes (Elt Ideal) f _) _ ⟨n, hn⟩ (fun r q hr => View.read_writes_apply_of_forall_not_mem _ _ _ _ fun p hp hy =>
      absurd (ih2 p hp _ hy) (Nat.not_lt_of_le hr))
    refine ⟨piecesOf_append ht.1 ih1, fun p hp y hy => ?_⟩
    rcases List.mem_append.mp hp with hp | hp
    · exact ht.2 p hp y hy
    · exact lt_of_lt_of_le (ih2 p hp y hy) (by omega)

/-- The sixteen trips leave the last visit's rows in the whole block, whatever was stored before them. -/
theorem loop2_canon (h1 : k0_cond2 i = 1#1) (x0 : Vec Ideal S512x4096 .f32) (x6 : Vec Ideal S1x1x4096 .f32) (x7 : Vec Ideal S1x4096 .f32)
    (f : BufTy.Contents (Elt Ideal) arg10.view.ty) (L' : List (View.Piece (Elt Ideal) S512x4096 .f32)) (y : S512x4096.Idx) :
    View.canon (pb_k0_t2 (F := Ideal) 𝒱 c bd i arg2 harg2 arg3 harg3 arg4 harg4 arg5 harg5 arg6 harg6 arg7 harg7 arg8 harg8 arg9 harg9 arg10
        harg10 arg11 harg11 h1 (harg2.unread x0) (harg8.unread x6) (harg9.unread x7) f
      (Scf.trips k0_t2_loop.lb k0_t2_loop.ub k0_t2_loop.st) ++ L') y = outRows x0 x6 x7 (arg10.view.read (Elt Ideal) f) y :=
  View.canon_append_of_piecesOf _ L' _
    (loop2_pieces 𝒱 c bd i arg2 harg2 arg3 harg3 arg4 harg4 arg5 harg5 arg6 harg6 arg7 harg7 arg8 harg8 arg9 harg9 arg10
        harg10 arg11 harg11 h1 x0 x6 x7 f _ (le_refl _)).1 y
    (View.cover_of_tiledL (pb_k0_t2 (F := Ideal) 𝒱 c bd i arg2 harg2 arg3 harg3 arg4 harg4 arg5 harg5 arg6 harg6 arg7 harg7 arg8 harg8 arg9 harg9 arg10
        harg10 arg11 harg11 h1 (harg2.unread x0) (harg8.unread x6) (harg9.unread x7) f
      (Scf.trips k0_t2_loop.lb k0_t2_loop.ub k0_t2_loop.st)) S32x512.size (by sl_kernel_rfl) y)

end Cert.Proof.Mlp

end
-- ==== Proof.MlpBlocks.lean ====
/- What each point of the MLP call's grid reads, in terms of the program's arguments. -/
module

public import proofs.«01_k».proof.Proof.Gen.Kernel2Ideal.Frame
public import proofs.«01_k».proof.Proof.MlpSpec

@[expose] public section

set_option maxRecDepth 16384

noncomputable section

open Idealize.ShloMosaic Idealize.ShloMosaic.TcCoe Idealize.SL.Sem
open Idealize.ShloMosaic.Pipeline (Dat)

namespace Cert.Proof.Mlp
open Cert.Kernel2Ideal Cert.Kernel2Ideal.Gen

variable (m : (ℓ : Loc nD τ sig) → Buf (Elt Ideal) ℓ) (c : Dev nD)

/-- The block each window reads at a point: the row block is the point's quotient by 32, the hidden block its remainder, the sample every four row blocks. -/
theorem blockIdx : ∀ t : Fin cfg0.N,
    win0_0.index t = ![t.val / 32, 0] ∧ win0_1.index t = ![0, 0] ∧ win0_2.index t = ![t.val / 32 / 4, 0, 0] ∧
    win0_3.index t = ![t.val / 32 / 4, 0, 0] ∧ win0_4.index t = ![0, t.val % 32] ∧ win0_5.index t = ![t.val % 32, 0] ∧
    win0_6.index t = ![t.val / 32 / 4, 0, 0] ∧ win0_7.index t = ![0, 0] ∧ win0_8.index t = ![t.val / 32, 0] :=
  (by decide +kernel : ∀ t : Fin grid0.N, _)

/-- The flat row that row `p` of a point's row block is. -/
def rowOf (t : Fin cfg0.N) (p : Fin 512) : Fin 8192 :=
  ⟨512 * (t.val / 32) + p.val, by have h : t.val < 512 := t.isLt; have := p.isLt; omega⟩

/-- The hidden unit that unit `f` of a point's hidden block is. -/
def unitOf (t : Fin cfg0.N) (f : Fin 512) : Fin 16384 :=
  ⟨512 * (t.val % 32) + f.val, by have := f.isLt; omega⟩

theorem V_v0 (r : Fin 8192) (d : Fin 4096) :
    V m c main_v0 (ix2 r d) = m ((c.tc : Thread nD τ).loc main_arg0) (ix3 (sampleOf r) (tokenOf r) d) := by
  entry_read
  pointwise []
  rfl

theorem V_v1 (d : Fin 4096) : V m c main_v1 (ix2 0 d) = m ((c.tc : Thread nD τ).loc main_arg1) (ix1 d) := by
  entry_read
  pointwise []

theorem V_v4 (d : Fin 4096) : V m c main_v4 (ix2 0 d) = m ((c.tc : Thread nD τ).loc main_arg7) (ix1 d) := by
  entry_read
  pointwise []

theorem V_v2 (k : Fin 4096) (f : Fin 16384) : V m c main_v2 (ix2 k f) = m ((c.tc : Thread nD τ).loc main_arg4) (ix2 k f) := by
  entry_read
  pointwise []

theorem V_v3 (f : Fin 16384) (d : Fin 4096) : V m c main_v3 (ix2 f d) = m ((c.tc : Thread nD τ).loc main_arg5) (ix2 f d) := by
  entry_read
  pointwise []

/-- A sample's rows are four row blocks. -/
theorem sample_rowOf (t : Fin cfg0.N) (p : Fin 512) : (sampleOf (rowOf t p)).val = t.val / 32 / 4 := by
  have := p.isLt
  simp only [sampleOf, rowOf]
  omega

theorem blk0 (t : Fin cfg0.N) (p : Fin 512) (k : Fin 4096) :
    iblk m c 0 t (ix2 p k) = m ((c.tc : Thread nD τ).loc main_arg0) (ix3 (sampleOf (rowOf t p)) (tokenOf (rowOf t p)) k) := by
  have e0 := (blockIdx t).1
  blk_simp [iblk, e0]
  rw [show (win0_0.blk t).view.emb (ix2 p k) = ix2 (rowOf t p) k by blk_ext [e0, rowOf]]
  exact V_v0 m c _ _

theorem blk1 (t : Fin cfg0.N) (k : Fin 4096) :
    iblk m c 1 t (ix2 0 k) = m ((c.tc : Thread nD τ).loc main_arg1) (ix1 k) := by
  have e1 := (blockIdx t).2.1
  blk_simp [iblk, e1]
  rw [show (win0_1.blk t).view.emb (ix2 0 k) = ix2 0 k by blk_ext [e1]]
  exact V_v1 m c _

theorem blk2 (t : Fin cfg0.N) (p : Fin 512) (k : Fin 4096) :
    iblk m c 2 t (ix3 0 0 k) = m ((c.tc : Thread nD τ).loc main_arg2) (ix3 ((sampleOf (rowOf t p)).castLE (by decide)) 0 k) := by
  have e := (blockIdx t).2.2.1
  have h := sample_rowOf t p
  blk_simp [iblk, e, V_main_arg2]
  rw [show (win0_2.blk t).view.emb (ix3 0 0 k) = ix3 ((sampleOf (rowOf t p)).castLE (by decide)) 0 k by blk_ext [e, h, Fin.val_castLE]]
  exact congrFun (V_main_arg2 m c) _

theorem blk3 (t : Fin cfg0.N) (p : Fin 512) (k : Fin 4096) :
    iblk m c 3 t (ix3 0 0 k) = m ((c.tc : Thread nD τ).loc main_arg3) (ix3 ((sampleOf (rowOf t p)).castLE (by decide)) 0 k) := by
  have e := (blockIdx t).2.2.2.1
  have h := sample_rowOf t p
  blk_simp [iblk, e, V_main_arg3]
  rw [show (win0_3.blk t).view.emb (ix3 0 0 k) = ix3 ((sampleOf (rowOf t p)).castLE (by decide)) 0 k by blk_ext [e, h, Fin.val_castLE]]
  exact congrFun (V_main_arg3 m c) _

theorem blk6 (t : Fin cfg0.N) (p : Fin 512) (k : Fin 4096) :
    iblk m c 6 t (ix3 0 0 k) = m ((c.tc : Thread nD τ).loc main_arg6) (ix3 ((sampleOf (rowOf t p)).castLE (by decide)) 0 k) := by
  have e := (blockIdx t).2.2.2.2.2.2.1
  have h := sample_rowOf t p
  blk_simp [iblk, e, V_main_arg6]
  rw [show (win0_6.blk t).view.emb (ix3 0 0 k) = ix3 ((sampleOf (rowOf t p)).castLE (by decide)) 0 k by blk_ext [e, h, Fin.val_castLE]]
  exact congrFun (V_main_arg6 m c) _

theorem blk4 (t : Fin cfg0.N) (k : Fin 4096) (f : Fin 512) :
    iblk m c 4 t (ix2 k f) = m ((c.tc : Thread nD τ).loc main_arg4) (ix2 k (unitOf t f)) := by
  have e := (blockIdx t).2.2.2.2.1
  blk_simp [iblk, e]
  rw [show (win0_4.blk t).view.emb (ix2 k f) = ix2 k (unitOf t f) by blk_ext [e, unitOf]]
  exact V_v2 m c _ _

theorem blk5 (t : Fin cfg0.N) (f : Fin 512) (d : Fin 4096) :
    iblk m c 5 t (ix2 f d) = m ((c.tc : Thread nD τ).loc main_arg5) (ix2 (unitOf t f) d) := by
  have e := (blockIdx t).2.2.2.2.2.1
  blk_simp [iblk, e]
  rw [show (win0_5.blk t).view.emb (ix2 f d) = ix2 (unitOf t f) d by blk_ext [e, unitOf]]
  exact V_v3 m c _ _

theorem blk7 (t : Fin cfg0.N) (k : Fin 4096) :
    iblk m c 7 t (ix2 0 k) = m ((c.tc : Thread nD τ).loc main_arg7) (ix1 k) := by
  have e1 := (blockIdx t).2.2.2.2.2.2.2.1
  blk_simp [iblk, e1]
  rw [show (win0_7.blk t).view.emb (ix2 0 k) = ix2 0 k by blk_ext [e1]]
  exact V_v4 m c _

/-- The modulated block, row by row. -/
theorem modRows_row (X : Vec Ideal S512x4096 .f32) (g : Vec Ideal S1x4096 .f32) (sh sc : Vec Ideal S1x1x4096 .f32) (p : Fin 512) (k : Fin 4096) :
    modRows X g sh sc (ix2 p k)
      = rowMod (fun k => X (ix2 p k)) (fun k => g (ix2 0 k)) (fun k => sh (ix3 0 0 k)) (fun k => sc (ix3 0 0 k)) k := by
  rw [rowMod, ← Ideal.ofBits_one_f32]
  rfl

/-- The modulated rows a point multiplies are the reference's rows. -/
theorem modRows_point (t : Fin cfg0.N) (p : Fin 512) (k : Fin 4096) :
    modRows (iblk m c 0 t) (iblk m c 1 t) (iblk m c 2 t) (iblk m c 3 t) (ix2 p k)
      = rowMod (fun k => m ((c.tc : Thread nD τ).loc main_arg0) (ix3 (sampleOf (rowOf t p)) (tokenOf (rowOf t p)) k))
          (fun k => m ((c.tc : Thread nD τ).loc main_arg1) (ix1 k))
          (fun k => m ((c.tc : Thread nD τ).loc main_arg2) (ix3 ((sampleOf (rowOf t p)).castLE (by decide)) 0 k))
          (fun k => m ((c.tc : Thread nD τ).loc main_arg3) (ix3 ((sampleOf (rowOf t p)).castLE (by decide)) 0 k)) k := by
  rw [modRows_row, funext (blk0 m c t p), funext (blk1 m c t), funext (blk2 m c t p), funext (blk3 m c t p)]

end Cert.Proof.Mlp
end
-- ==== Proof.MlpBody.lean ====
/- One point of the MLP call's grid: what the accumulating product adds. -/
module

public import proofs.«01_k».proof.Proof.Gen.Kernel2Ideal.Frame
public import proofs.«01_k».proof.Proof.MlpSpec
public import Idealize.ShloMosaic.Lib.Pointwise

@[expose] public section

set_option maxRecDepth 16384

noncomputable section

open Idealize.ShloMosaic Idealize.ShloMosaic.TcCoe Idealize.SL.Sem

namespace Cert.Proof.Mlp
open Cert.Kernel2Ideal Cert.Kernel2Ideal.Gen

/-- A hidden block's share of the second product. -/
def partDown (u : Vec Ideal S512x4096 .bf16) (w1 : Vec Ideal S4096x512 .bf16) (w2 : Vec Ideal S512x4096 .bf16) (p : Fin 512) (d : Fin 4096) : EReal :=
  ∑ f : Fin 512, hidden (fun k => u (ix2 p k)) (fun k => w1 (ix2 k f)) * hidden (fun k => u (ix2 p k)) (fun k => w1 (ix2 k f)) * w2 (ix2 f d)

theorem pay3_point (p : Fin 512) (d : Fin 4096) : k0_pay3 (F := Ideal) (ix2 p d) = (0 : EReal) := by
  pointwise [k0_pay3]

/-- The store of a point: what was there plus the hidden block's share. -/
theorem pay4_point (u : Vec Ideal S512x4096 .bf16) (w1 : Vec Ideal S4096x512 .bf16) (o : Vec Ideal S512x4096 .f32) (w2 : Vec Ideal S512x4096 .bf16)
    (p : Fin 512) (d : Fin 4096) : k0_pay4 u w1 o w2 (ix2 p d) = o (ix2 p d) + partDown u w1 w2 p d := by
  pointwise [k0_pay4]
  rfl

end Cert.Proof.Mlp
end
-- ==== Proof.MlpValue.lean ====
/- What the MLP call's output array holds after the last point. -/
module

public import proofs.«01_k».proof.Proof.MlpExit
public import proofs.«01_k».proof.Proof.MlpBlocks
public import proofs.«01_k».proof.Proof.MlpBody
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Proof.Mlp
open Cert.Kernel2Ideal Cert.Kernel2Ideal.Gen

variable (m : (ℓ : Loc nD τ sig) → Buf (Elt Ideal) ℓ) (c : Dev nD)

/-- The rows a point multiplies. -/
def modAt (t : Fin cfg0.N) : Vec Ideal S512x4096 .bf16 := modRows (iblk m c 0 t) (iblk m c 1 t) (iblk m c 2 t) (iblk m c 3 t)

theorem ext2 {φ : EltTy} (X Y : Vec Ideal S512x4096 φ) (h : ∀ (p : Fin 512) (q : Fin 4096), X (ix2 p q) = Y (ix2 p q)) : X = Y := by
  funext y
  obtain ⟨p, q, rfl⟩ : ∃ (p : Fin 512) (q : Fin 4096), y = ix2 p q := ⟨y 0, y 1, by funext a; match a with | ⟨0, _⟩ => rfl | ⟨1, _⟩ => rfl⟩
  exact h p q

/-- Points of one row block multiply the same rows. -/
theorem modAt_congr (t s : Fin cfg0.N) (h : t.val / 32 = s.val / 32) : modAt m c t = modAt m c s := by
  refine ext2 _ _ fun p q => ?_
  have e : rowOf t p = rowOf s p := by simp only [rowOf, h]
  rw [modAt, modAt, modRows_point, modRows_point, e]

theorem first_scratch (t : Fin cfg0.N) (h0 : t.val % 32 = 0) : (outsAt0 m c t.val t.isLt).2 = modAt m c t := by
  rw [outsAt0_A m c t h0 (by omega)]
  funext y
  frame_out
  exact loop1_canon ..

theorem carried_scratch (t : Fin cfg0.N) (h0 : ¬t.val % 32 = 0) :
    (outsAt0 m c t.val t.isLt).2 = (outsAt0 m c (t.val - 1) (Nat.lt_of_le_of_lt (Nat.sub_le _ _) t.isLt)).2 := by
  by_cases h1 : t.val % 32 = 31
  · rw [outsAt0_C m c t h0 h1]
    rfl
  · rw [outsAt0_B m c t h0 h1]
    rfl

/-- The scratch a point leaves holds its row block's modulated rows. -/
theorem scratch_eq (n : ℕ) : ∀ h : n < cfg0.N, (outsAt0 m c n h).2 = modAt m c ⟨n, h⟩ := by
  induction n with
  | zero => exact fun h => first_scratch m c ⟨0, h⟩ rfl
  | succ n ih =>
    intro h
    by_cases h0 : (n + 1) % 32 = 0
    · exact first_scratch m c ⟨n + 1, h⟩ h0
    · refine (carried_scratch m c ⟨n + 1, h⟩ h0).trans ((ih (by omega)).trans (modAt_congr m c _ _ ?_))
      show n / 32 = (n + 1) / 32
      omega

theorem first_out (t : Fin cfg0.N) (h0 : t.val % 32 = 0) (p : Fin 512) (d : Fin 4096) :
    (outsAt0 m c t.val t.isLt).1 (ix2 p d) = 0 + partDown (modAt m c t) (iblk m c 4 t) (iblk m c 5 t) p d := by
  rw [outsAt0_A m c t h0 (by omega)]
  frame_out
  rw [View.readCov_eq_canon']
  refine (pay4_point _ _ _ _ p d).trans ?_
  rw [pay3_point]
  refine congrArg (fun u => 0 + partDown u (iblk m c 4 t) (iblk m c 5 t) p d) ?_
  refine ext2 _ _ fun q k => ?_
  have e : (Rect.unit (s := S512x4096) ![0, 0] ![512, 4096] inb_S512x4096_S512x4096_0_0).idx (ix2 q k) = ix2 q k := by
    funext a
    match a with
    | ⟨0, _⟩ => exact Fin.ext ((Rect.idx_unit_val ..).trans (Nat.zero_add _))
    | ⟨1, _⟩ => exact Fin.ext ((Rect.idx_unit_val ..).trans (Nat.zero_add _))
  exact (congrArg _ e).trans (loop1_canon ..)

theorem mid_out (t : Fin cfg0.N) (h0 : ¬t.val % 32 = 0) (h1 : ¬t.val % 32 = 31) (p : Fin 512) (d : Fin 4096) :
    (outsAt0 m c t.val t.isLt).1 (ix2 p d) = (outsAt0 m c (t.val - 1) (Nat.lt_of_le_of_lt (Nat.sub_le _ _) t.isLt)).1 (ix2 p d)
      + partDown (modAt m c t) (iblk m c 4 t) (iblk m c 5 t) p d := by
  have hs := (carried_scratch m c t h0).symm.trans (scratch_eq m c t.val t.isLt)
  rw [outsAt0_B m c t h0 h1]
  frame_out
  refine (pay4_point _ _ _ _ p d).trans ?_
  rw [read_unread_whole, hs]

theorem last_out (t : Fin cfg0.N) (h0 : ¬t.val % 32 = 0) (h1 : t.val % 32 = 31) (p : Fin 512) (d : Fin 4096) :
    (outsAt0 m c t.val t.isLt).1 (ix2 p d) = outRows (iblk m c 0 t) (iblk m c 6 t) (iblk m c 7 t)
      (fun j => (outsAt0 m c (t.val - 1) (Nat.lt_of_le_of_lt (Nat.sub_le _ _) t.isLt)).1 j
        + partDown (modAt m c t) (iblk m c 4 t) (iblk m c 5 t) (j 0) (j 1)) (ix2 p d) := by
  have hs := (carried_scratch m c t h0).symm.trans (scratch_eq m c t.val t.isLt)
  rw [outsAt0_C m c t h0 h1]
  frame_out
  refine (loop2_canon ..).trans ?_
  refine congrArg (fun a => outRows (iblk m c 0 t) (iblk m c 6 t) (iblk m c 7 t) a (ix2 p d)) ?_
  refine ext2 _ _ fun q k => ?_
  rw [View.read_writes_full, read_unread_whole, hs]
  exact pay4_point _ _ _ _ q k

/-- The arguments as the mathematics reads them. -/
abbrev argX := m ((c.tc : Thread nD τ).loc main_arg0)
abbrev argW1 := m ((c.tc : Thread nD τ).loc main_arg4)
abbrev argW2 := m ((c.tc : Thread nD τ).loc main_arg5)

/-- The modulated row of a flat row. -/
def modOf (r : Fin 8192) : Fin 4096 → EReal :=
  rowMod (fun k => m ((c.tc : Thread nD τ).loc main_arg0) (ix3 (sampleOf r) (tokenOf r) k))
    (fun k => m ((c.tc : Thread nD τ).loc main_arg1) (ix1 k))
    (fun k => m ((c.tc : Thread nD τ).loc main_arg2) (ix3 ((sampleOf r).castLE (by decide)) 0 k))
    (fun k => m ((c.tc : Thread nD τ).loc main_arg3) (ix3 ((sampleOf r).castLE (by decide)) 0 k))

/-- Hidden unit `f`'s term of the second product. -/
def term (r : Fin 8192) (d : Fin 4096) (f : Fin 16384) : EReal :=
  hidden (modOf m c r) (fun k => argW1 m c (ix2 k f)) * hidden (modOf m c r) (fun k => argW1 m c (ix2 k f)) * argW2 m c (ix2 f d)

/-- Hidden block `s`'s share of the second product (nothing past the last block). -/
def share (r : Fin 8192) (d : Fin 4096) (s : ℕ) : EReal :=
  ∑ f : Fin 512, if h : s * 512 + f.val < 16384 then term m c r d ⟨s * 512 + f.val, h⟩ else 0

theorem part_eq (t : Fin cfg0.N) (p : Fin 512) (d : Fin 4096) :
    partDown (modAt m c t) (iblk m c 4 t) (iblk m c 5 t) p d = share m c (rowOf t p) d (t.val % 32) := by
  refine Finset.sum_congr rfl fun f _ => ?_
  have hf : t.val % 32 * 512 + f.val < 16384 := by have := f.isLt; omega
  have hu : unitOf t f = ⟨t.val % 32 * 512 + f.val, hf⟩ := Fin.ext (by simp only [unitOf]; omega)
  have hm : (fun k => modAt m c t (ix2 p k)) = modOf m c (rowOf t p) := funext (modRows_point m c t p)
  rw [dif_pos hf, funext fun k => blk4 m c t k f, blk5, hu, hm]
  rfl

/-- Before the last visit the output block holds the shares of the hidden blocks seen so far. -/
theorem out_eq (n : ℕ) : ∀ (h : n < cfg0.N) (h1 : ¬n % 32 = 31) (p : Fin 512) (d : Fin 4096),
    (outsAt0 m c n h).1 (ix2 p d) = ∑ s ∈ Finset.range (n % 32 + 1), share m c (rowOf ⟨n, h⟩ p) d s := by
  have first : ∀ (n : ℕ) (h : n < cfg0.N) (h0 : n % 32 = 0) (p : Fin 512) (d : Fin 4096),
      (outsAt0 m c n h).1 (ix2 p d) = ∑ s ∈ Finset.range (n % 32 + 1), share m c (rowOf ⟨n, h⟩ p) d s := fun n h h0 p d => by
    rw [first_out m c ⟨n, h⟩ h0, part_eq, zero_add]
    simp only [h0]
    exact (Finset.sum_range_one _).symm
  induction n with
  | zero => exact fun h _ => first 0 h rfl
  | succ n ih =>
    intro h h1 p d
    by_cases h0 : (n + 1) % 32 = 0
    · exact first _ h h0 p d
    · rw [mid_out m c ⟨n + 1, h⟩ h0 h1, part_eq]
      have hr : rowOf ⟨n, by omega⟩ p = rowOf ⟨n + 1, h⟩ p := Fin.ext (by simp only [rowOf]; omega)
      have hm : (n + 1) % 32 = n % 32 + 1 := by omega
      have hi := ih (by omega) (by omega) p d
      rw [hr] at hi
      refine (congrArg (· + share m c (rowOf ⟨n + 1, h⟩ p) d ((n + 1) % 32)) hi).trans ?_
      rw [hm, Finset.sum_range_succ _ (n % 32 + 1)]

/-- The shares of all hidden blocks are the whole second product. -/
theorem shares_eq (r : Fin 8192) (d : Fin 4096) :
    ∑ s ∈ Finset.range 32, share m c r d s = rowDown (modOf m c r) (argW1 m c) (argW2 m c) d := by
  rw [Finset.sum_range]
  refine (Fin.sum_mul_add_congr (L := 16384) (S := 32) (n := 512) fun s k hl => ?_ : _ = ∑ l : Fin 16384, term m c r d l)
  exact dif_pos hl

/-- What the last visit to a row block leaves in the output block. -/
theorem last_eq (t : Fin cfg0.N) (h1 : t.val % 32 = 31) (p : Fin 512) (d : Fin 4096) :
    (outsAt0 m c t.val t.isLt).1 (ix2 p d)
      = mlpAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (sampleOf (rowOf t p)) (tokenOf (rowOf t p)) d := by
  have hacc : ∀ q : Fin 4096, (outsAt0 m c (t.val - 1) (Nat.lt_of_le_of_lt (Nat.sub_le _ _) t.isLt)).1 (ix2 p q)
      + partDown (modAt m c t) (iblk m c 4 t) (iblk m c 5 t) p q = rowDown (modOf m c (rowOf t p)) (argW1 m c) (argW2 m c) q := fun q => by
    have hr : rowOf ⟨t.val - 1, Nat.lt_of_le_of_lt (Nat.sub_le _ _) t.isLt⟩ p = rowOf t p := Fin.ext (by simp only [rowOf]; omega)
    rw [out_eq m c (t.val - 1) _ (by omega), part_eq, hr, h1, ← shares_eq, show (t.val - 1) % 32 + 1 = 31 by omega, ← Finset.sum_range_succ]
  rw [last_out m c t (by omega) h1]
  have e : ∀ acc : Vec Ideal S512x4096 .f32, outRows (iblk m c 0 t) (iblk m c 6 t) (iblk m c 7 t) acc (ix2 p d)
      = rowOut (fun k => iblk m c 0 t (ix2 p k)) (fun k => iblk m c 6 t (ix3 0 0 k)) (fun k => iblk m c 7 t (ix2 0 k)) (fun k => acc (ix2 p k)) d :=
    fun _ => rfl
  rw [e, funext (blk0 m c t p), funext (blk6 m c t p), funext (blk7 m c t)]
  exact congrArg (fun a => rowOut _ _ _ a d) (funext hacc)

/-- The whole result: row `r` of the flat array is the layer's row. -/
def target (y : S8192x4096.Idx) : EReal :=
  mlpAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (sampleOf (y 0)) (tokenOf (y 0)) (y 1)

/-- The output array after the last point. -/
theorem array_eq : (dats m 0 c).arrAt 8 cfg0.N = target m c := by
  refine (dats m 0 c).arrAt_eq_of_covers 8 _ (by decide +kernel) fun t hf y => ?_
  obtain ⟨p, d, rfl⟩ : ∃ (p : Fin 512) (d : Fin 4096), y = ix2 p d := ⟨y 0, y 1, by funext a; match a with | ⟨0, _⟩ => rfl | ⟨1, _⟩ => rfl⟩
  have e8 := (blockIdx t).2.2.2.2.2.2.2.2
  blk_simp
  rw [after0_8, last_eq m c t ((flush0_8 t).mp hf)]
  rw [show (win0_8.blk t).view.emb (ix2 p d) = ix2 (rowOf t p) d by blk_ext [e8, rowOf]]
  rfl

end Cert.Proof.Mlp
end
-- ==== Proof.MlpReference.lean ====
module

public import proofs.«01_k».proof.Proof.Gen.Reference2Ideal.Run
public import proofs.«01_k».proof.Proof.MlpSpec
public import Idealize.ShloMosaic.Lib.Pointwise

@[expose] public section

set_option maxRecDepth 16384

noncomputable section

open Idealize.ShloMosaic Idealize.ShloMosaic.TcCoe Idealize.SL.Sem

namespace Cert.Proof.Mlp
open Cert.Reference2Ideal Cert.Reference2Ideal.Gen

/-- The column of reciprocal root mean squares of the reference's rows. -/
def refRstd (X : FVec Ideal S4x2048x4096 .f32) : FVec Ideal S4x2048x1 .f32 :=
  Host.rsqrt (addf (Host.divf (broadcastInDim S4x2048x1 ![0, 1] bcast_S4x2048_S4x2048x1_0_1 (Host.reduceAdd (mulf X X) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))

/-- The rows scaled by their root mean square and a gain. -/
def refNorm (X : FVec Ideal S4x2048x4096 .f32) (g : FVec Ideal S4096 .f32) : FVec Ideal S4x2048x4096 .f32 :=
  mulf (mulf X (broadcastInDim S4x2048x4096 ![0, 1, 2] bcast_S4x2048x1_S4x2048x4096_0_1_2 (refRstd X))) (broadcastInDim S4x2048x4096 ![0, 1, 2] bcast_S1x1x4096_S4x2048x4096_0_1_2 (broadcastInDim S1x1x4096 ![2] bcast_S4096_S1x1x4096_2 g))

/-- The normed rows under a sample's scale and shift. -/
def refMod (X : FVec Ideal S4x2048x4096 .f32) (g : FVec Ideal S4096 .f32) (sh sc : FVec Ideal S8x1x4096 .f32) : FVec Ideal S4x2048x4096 .f32 :=
  addf (mulf (refNorm X g) (broadcastInDim S4x2048x4096 ![0, 1, 2] bcast_S4x1x4096_S4x2048x4096_0_1_2 (addf (broadcastInDim S4x1x4096 ![] bcast_S_S4x1x4096 (constant S_ .f32 0x3F800000#32)) (extractStridedSlice S4x1x4096 ![0, 0, 0] sc slices_S8x1x4096_S4x1x4096_0_0_0)))) (broadcastInDim S4x2048x4096 ![0, 1, 2] bcast_S4x1x4096_S4x2048x4096_0_1_2 (extractStridedSlice S4x1x4096 ![0, 0, 0] sh slices_S8x1x4096_S4x1x4096_0_0_0))

/-- The positive part of the first product. -/
def refRelu (U : FVec Ideal S4x2048x4096 .f32) (W1 : FVec Ideal S4096x16384 .f32) : FVec Ideal S4x2048x16384 .f32 :=
  maximumf (Host.dotGeneral dot_S4x2048x4096_S4096x16384_S4x2048x16384_2_0_01_1_n_n none U W1) (broadcastInDim S4x2048x16384 ![] bcast_S_S4x2048x16384 (constant S_ .f32 0x00000000#32))

/-- The second product, of the squared positive parts. -/
def refDown (A : FVec Ideal S4x2048x16384 .f32) (W2 : FVec Ideal S16384x4096 .f32) : FVec Ideal S4x2048x4096 .f32 :=
  Host.dotGeneral dot_S4x2048x16384_S16384x4096_S4x2048x4096_2_0_01_1_n_n none (mulf A A) W2

/-- The gated residual sum. -/
def refOut (X : FVec Ideal S4x2048x4096 .f32) (ga : FVec Ideal S8x1x4096 .f32) (N : FVec Ideal S4x2048x4096 .f32) : FVec Ideal S4x2048x4096 .f32 :=
  addf X (mulf (broadcastInDim S4x2048x4096 ![0, 1, 2] bcast_S4x1x4096_S4x2048x4096_0_1_2 (extractStridedSlice S4x1x4096 ![0, 0, 0] ga slices_S8x1x4096_S4x1x4096_0_0_0)) N)

theorem refRstd_point (X : FVec Ideal S4x2048x4096 .f32) (b : Fin 4) (s : Fin 2048) :
    refRstd X (ix3 b s 0) = rowRstd fun k => X (ix3 b s k) := by
  pointwise [refRstd]
  rfl

theorem refNorm_point (X : FVec Ideal S4x2048x4096 .f32) (g : FVec Ideal S4096 .f32) (b : Fin 4) (s : Fin 2048) (d : Fin 4096) :
    refNorm X g (ix3 b s d) = X (ix3 b s d) * rowRstd (fun k => X (ix3 b s k)) * g (ix1 d) := by
  pointwise [refNorm, refRstd_point]

theorem refMod_point (X : FVec Ideal S4x2048x4096 .f32) (g : FVec Ideal S4096 .f32) (sh sc : FVec Ideal S8x1x4096 .f32) (b : Fin 4) (s : Fin 2048) (d : Fin 4096) :
    refMod X g sh sc (ix3 b s d) = rowMod (fun k => X (ix3 b s k)) (fun k => g (ix1 k)) (fun k => sh (ix3 (b.castLE (by decide)) 0 k)) (fun k => sc (ix3 (b.castLE (by decide)) 0 k)) d := by
  pointwise [refMod, refNorm_point]
  rfl

theorem refRelu_point (U : FVec Ideal S4x2048x4096 .f32) (W1 : FVec Ideal S4096x16384 .f32) (b : Fin 4) (s : Fin 2048) (f : Fin 16384) :
    refRelu U W1 (ix3 b s f) = max (∑ k : Fin 4096, U (ix3 b s k) * W1 (ix2 k f)) 0 := by
  pointwise [refRelu]

theorem refDown_point (A : FVec Ideal S4x2048x16384 .f32) (W2 : FVec Ideal S16384x4096 .f32) (b : Fin 4) (s : Fin 2048) (d : Fin 4096) :
    refDown A W2 (ix3 b s d) = ∑ f : Fin 16384, A (ix3 b s f) * A (ix3 b s f) * W2 (ix2 f d) := by
  pointwise [refDown]

theorem refOut_point (X : FVec Ideal S4x2048x4096 .f32) (ga : FVec Ideal S8x1x4096 .f32) (N : FVec Ideal S4x2048x4096 .f32) (b : Fin 4) (s : Fin 2048) (d : Fin 4096) :
    refOut X ga N (ix3 b s d) = X (ix3 b s d) + ga (ix3 (b.castLE (by decide)) 0 d) * N (ix3 b s d) := by
  pointwise [refOut]
  rfl

theorem res_eq (m : (ℓ : Loc nD τ sig) → Buf (Elt Ideal) ℓ) (c : Dev nD) :
    Value.res_main_v42 m c = shapeCast _ (refOut (m ((c.tc : Thread nD τ).loc main_arg0)) (m ((c.tc : Thread nD τ).loc main_arg6))
      (refNorm (refDown (refRelu (refMod (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5))) (m ((c.tc : Thread nD τ).loc main_arg7)))) shapeCasts_S4x2048x4096_S8192x4096 := rfl

/-- A row of the flat result is a row of a sample. -/
theorem flat_point (Y : FVec Ideal S4x2048x4096 .f32) (r : Fin 8192) (d : Fin 4096) :
    shapeCast S8192x4096 Y shapeCasts_S4x2048x4096_S8192x4096 (ix2 r d) = Y (ix3 (sampleOf r) (tokenOf r) d) := by
  pointwise []
  rfl

/-- The reference's result at row `r`, column `d`. -/
theorem ref_value (m : (ℓ : Loc nD τ sig) → Buf (Elt Ideal) ℓ) (c : Dev nD) (r : Fin 8192) (d : Fin 4096) :
    Value.res_main_v42 m c (ix2 r d)
      = mlpAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (sampleOf r) (tokenOf r) d := by
  rw [res_eq, flat_point, refOut_point, refNorm_point]
  simp only [refDown_point, refRelu_point, refMod_point]
  rfl

end Cert.Proof.Mlp
end
-- ==== Proof.MlpClaim.lean ====
/- The MLP call and its reference end with equal results. -/
module

public import proofs.«01_k».proof.Defs
public import proofs.«01_k».proof.Proof.MlpValue
public import proofs.«01_k».proof.Proof.MlpReference

@[expose] public section

set_option maxRecDepth 16384

noncomputable section

open Idealize.ShloMosaic Idealize.ShloMosaic.TcCoe Idealize.SL.Sem
open Idealize.ShloMosaic.Pipeline (Dat)

namespace Cert.Proof.Mlp

section
open Cert.Kernel2Ideal Cert.Kernel2Ideal.Gen

/-- The kernel program's run: the result is the layer's rows, the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).1 8).trans (array_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩) (run_main m ρ)
end

/-- From memories agreeing on the arguments the two programs end with the same array. -/
theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => target m c, kernel_run m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6, e7⟩ := hag c
  funext y
  obtain ⟨p, d, rfl⟩ : ∃ (p : Fin 8192) (d : Fin 4096), y = ix2 p d := ⟨y 0, y 1, by funext a; match a with | ⟨0, _⟩ => rfl | ⟨1, _⟩ => rfl⟩
  refine (ref_value m' c p d).trans ?_
  rw [e0, e1, e2, e3, e4, e5, e6, e7]
  rfl

end Cert.Proof.Mlp
end
-- ==== Proof.RkvSpec.lean ====
/- Three products of a row with a weight matrix, one per group: the receptance, the key and the value. -/
module

public import proofs.«01_k».proof.Proof.Gen.Kernel3Ideal.Frame
public import proofs.«01_k».proof.Proof.MlpEntry
public import Idealize.ShloMosaic.Lib.Pipeline.ReadBack
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.Proof.Rkv

open Cert.Kernel3Ideal Cert.Kernel3Ideal.Gen

/-- Group `g`'s product at row `r`, column `d`. -/
def rkvAt (X : Vec Ideal S6x9216x4096 .bf16) (W : Vec Ideal S3x4096x4096 .f32) (g : Fin 3) (r : Fin 9216) (d : Fin 4096) : EReal :=
  ∑ k : Fin 4096, X (ix3 (g.castLE (by decide)) r k) * W (ix3 g k d)

/-- A weight block without its leading coordinate. -/
def flatBlock (w : Vec Ideal S1x4096x1024 .f32) : Vec Ideal S4096x1024 .bf16 := fun j => w (ix3 0 (j 0) (j 1))

theorem offs : ∀ k : Fin k0_t1_loop.trips, k0_off1 k = ![0, 256 * k.val, 0] ∧ k0_off2 k = ![256 * k.val, 0] := by decide +kernel

variable (𝒱 : Variants) (c : Dev nD) (bd : Option 𝒱.V) (i : grid0.Coords) (arg3 : Memref sig .tc .vmem S1x512x4096 .bf16)
    (harg3 : arg3.IsWhole) (arg4 : Memref sig .tc .vmem S1x4096x1024 .f32) (harg4 : arg4.IsWhole)
    (arg5 : Memref sig .tc .vmem S1x512x1024 .bf16) (harg5 : arg5.IsWhole) (arg6 : Memref sig .tc .vmem S4096x1024 .bf16)
    (harg6 : arg6.IsWhole)

/-- Trip `k` copies 256 rows of the weight block. -/
theorem copy_pieces (h1 : k0_cond1 i = 1#1) (w : Vec Ideal S1x4096x1024 .f32) (k : Fin k0_t1_loop.trips) :
    View.PiecesOf (flatBlock w)
      (tripL_k0_t1 (F := Ideal) 𝒱 c bd i arg3 harg3 arg4 harg4 arg5 harg5 arg6 harg6 h1 (harg4.unread w) k) := by
  unfold tripL_k0_t1 trip_k0_t1
  frame_open
  obtain ⟨o1, o2⟩ := offs k
  simp only [View.PiecesOf, View.readAt_eq_ld, Memref.IsWhole.read_unread]
  have hk : k.val < 16 := k.isLt
  refine ⟨fun x => ?_, trivial⟩
  obtain ⟨p, q, rfl⟩ : ∃ (p : Fin 256) (q : Fin 1024), x = ix2 p q := ⟨x 0, x 1, by funext a; match a with | ⟨0, _⟩ => rfl | ⟨1, _⟩ => rfl⟩
  pointwise [k0_pay1, flatBlock]
  refine congrArg w (funext fun a => Fin.ext ?_)
  match a with
  | ⟨0, _⟩ => simp [o1, ix3]
  | ⟨1, _⟩ => simp [o1, o2, ix3, ix2]
  | ⟨2, _⟩ => simp [o1, o2, ix3, ix2]

/-- So do the trips before trip `n`. -/
theorem copies_before (h1 : k0_cond1 i = 1#1) (w : Vec Ideal S1x4096x1024 .f32) : ∀ n, n ≤ k0_t1_loop.trips → View.PiecesOf (flatBlock w)
      (pb_k0_t1 (F := Ideal) 𝒱 c bd i arg3 harg3 arg4 harg4 arg5 harg5 arg6 harg6 h1 (harg4.unread w) n)
  | 0, _ => trivial
  | n + 1, hn => by
    rw [pb_k0_t1_succ (F := Ideal) 𝒱 c bd i arg3 harg3 arg4 harg4 arg5 harg5 arg6 harg6 h1 _ ⟨n, hn⟩]
    exact Mlp.piecesOf_append (copy_pieces _ _ _ _ _ _ _ _ _ _ _ _ h1 w ⟨n, hn⟩) (copies_before h1 w n (Nat.le_of_succ_le hn))

/-- The sixteen trips copy the whole weight block. -/
theorem copies_canon (h1 : k0_cond1 i = 1#1) (w : Vec Ideal S1x4096x1024 .f32) (y : S4096x1024.Idx) :
    View.canon (pb_k0_t1 (F := Ideal) 𝒱 c bd i arg3 harg3 arg4 harg4 arg5 harg5 arg6 harg6 h1 (harg4.unread w)
      (Scf.trips k0_t1_loop.lb k0_t1_loop.ub k0_t1_loop.st)) y = flatBlock w y := by
  have hc := View.cover_of_tiledL (pb_k0_t1 (F := Ideal) 𝒱 c bd i arg3 harg3 arg4 harg4 arg5 harg5 arg6 harg6 h1 (harg4.unread w)
      (Scf.trips k0_t1_loop.lb k0_t1_loop.ub k0_t1_loop.st)) S256x1024.size (by sl_kernel_rfl) y
  have h := View.canon_append_of_piecesOf (flatBlock w) [] _
    (copies_before 𝒱 c bd i arg3 harg3 arg4 harg4 arg5 harg5 arg6 harg6 h1 w _ (le_refl _)) y hc
  rwa [List.append_nil] at h

/-- A point's product, entry by entry. -/
theorem product_point (x : Vec Ideal S1x512x4096 .bf16) (w : Vec Ideal S4096x1024 .bf16) (p : Fin 512) (q : Fin 1024) :
    k0_pay2 x w (ix3 0 p q) = ∑ k : Fin 4096, x (ix3 0 p k) * w (ix2 k q) := by
  pointwise [k0_pay2]

end Cert.Proof.Rkv
end
-- ==== Proof.RkvValue.lean ====
/- What the output array of the three products holds after the last point. -/
module

public import proofs.«01_k».proof.Proof.RkvSpec

@[expose] public section

set_option maxRecDepth 16384

noncomputable section

open Idealize.ShloMosaic Idealize.ShloMosaic.TcCoe Idealize.SL.Sem
open Idealize.ShloMosaic.Pipeline (Dat)

namespace Cert.Proof.Rkv
open Cert.Kernel3Ideal Cert.Kernel3Ideal.Gen

variable (m : (ℓ : Loc nD τ sig) → Buf (Elt Ideal) ℓ) (c : Dev nD)

/-- A point's group is its quotient by 72, its column block the next quotient by 18, its row block the remainder by 18. -/
theorem blockIdx : ∀ t : Fin cfg0.N,
    win0_0.index t = ![t.val / 72, t.val % 18, 0] ∧ win0_1.index t = ![t.val / 72, 0, t.val / 18 % 4] ∧
    win0_2.index t = ![t.val / 72, t.val % 18, t.val / 18 % 4] :=
  (by decide +kernel : ∀ t : Fin grid0.N, _)

/-- The group a point works on. -/
def groupOf (t : Fin cfg0.N) : Fin 3 := ⟨t.val / 72, by have h : t.val < 216 := t.isLt; omega⟩

/-- The row of the group that row `p` of the point's block is. -/
def rowOf (t : Fin cfg0.N) (p : Fin 512) : Fin 9216 := ⟨512 * (t.val % 18) + p.val, by have := p.isLt; omega⟩

/-- The column that column `q` of the point's block is. -/
def colOf (t : Fin cfg0.N) (q : Fin 1024) : Fin 4096 := ⟨1024 * (t.val / 18 % 4) + q.val, by have := q.isLt; omega⟩

theorem rows_at (t : Fin cfg0.N) (p : Fin 512) (k : Fin 4096) :
    iblk m c 0 t (ix3 0 p k) = m ((c.tc : Thread nD τ).loc main_arg0) (ix3 ((groupOf t).castLE (by decide)) (rowOf t p) k) := by
  have e := (blockIdx t).1
  blk_simp [iblk, e, V_main_arg0]
  rw [show (win0_0.blk t).view.emb (ix3 0 p k) = ix3 ((groupOf t).castLE (by decide)) (rowOf t p) k by
    blk_ext [e, groupOf, rowOf, Fin.val_castLE]]

theorem weights_at (t : Fin cfg0.N) (k : Fin 4096) (q : Fin 1024) :
    iblk m c 1 t (ix3 0 k q) = m ((c.tc : Thread nD τ).loc main_arg1) (ix3 (groupOf t) k (colOf t q)) := by
  have e := (blockIdx t).2.1
  blk_simp [iblk, e, V_main_arg1]
  rw [show (win0_1.blk t).view.emb (ix3 0 k q) = ix3 (groupOf t) k (colOf t q) by blk_ext [e, groupOf, colOf]]

/-- The weight block kept over the points of one group and column block. -/
def kept (t : Fin cfg0.N) : Vec Ideal S4096x1024 .bf16 := flatBlock (iblk m c 1 t)

theorem kept_point (t : Fin cfg0.N) (k : Fin 4096) (q : Fin 1024) :
    kept m c t (ix2 k q) = m ((c.tc : Thread nD τ).loc main_arg1) (ix3 (groupOf t) k (colOf t q)) := weights_at m c t k q

theorem kept_congr (t s : Fin cfg0.N) (h : t.val / 18 = s.val / 18) : kept m c t = kept m c s := by
  have hg : groupOf t = groupOf s := Fin.ext (by simp only [groupOf]; omega)
  funext y
  obtain ⟨k, q, rfl⟩ : ∃ (k : Fin 4096) (q : Fin 1024), y = ix2 k q := ⟨y 0, y 1, by funext a; match a with | ⟨0, _⟩ => rfl | ⟨1, _⟩ => rfl⟩
  have hc : colOf t q = colOf s q := Fin.ext (by simp only [colOf, h])
  rw [kept_point, kept_point, hg, hc]

theorem first_scratch (t : Fin cfg0.N) (h0 : t.val % 18 = 0) : (outsAt0 m c t.val t.isLt).2 = kept m c t := by
  rw [outsAt0_A m c t h0]
  funext y
  frame_out
  exact copies_canon ..

theorem carried_scratch (t : Fin cfg0.N) (h0 : ¬t.val % 18 = 0) :
    (outsAt0 m c t.val t.isLt).2 = (outsAt0 m c (t.val - 1) (Nat.lt_of_le_of_lt (Nat.sub_le _ _) t.isLt)).2 := by
  rw [outsAt0_B m c t h0]
  rfl

/-- Every point leaves its weight block in the scratch. -/
theorem scratch_eq (n : ℕ) : ∀ h : n < cfg0.N, (outsAt0 m c n h).2 = kept m c ⟨n, h⟩ := by
  induction n with
  | zero => exact fun h => first_scratch m c ⟨0, h⟩ rfl
  | succ n ih =>
    intro h
    by_cases h0 : (n + 1) % 18 = 0
    · exact first_scratch m c ⟨n + 1, h⟩ h0
    · refine (carried_scratch m c ⟨n + 1, h⟩ h0).trans ((ih (by omega)).trans (kept_congr m c _ _ ?_))
      show n / 18 = (n + 1) / 18
      omega

/-- The rows a point multiplies. -/
def rowsAt (t : Fin cfg0.N) : Vec Ideal S1x512x4096 .bf16 := iblk m c 0 t

/-- A point's output block is the product of its rows with the kept weight block. -/
theorem out_eq (t : Fin cfg0.N) (p : Fin 512) (q : Fin 1024) :
    (outsAt0 m c t.val t.isLt).1 (ix3 0 p q) = ∑ k : Fin 4096, rowsAt m c t (ix3 0 p k) * kept m c t (ix2 k q) := by
  by_cases h0 : t.val % 18 = 0
  · rw [outsAt0_A m c t h0]
    frame_out
    rw [View.readCov_eq_canon']
    refine (product_point _ _ p q).trans (Finset.sum_congr rfl fun k _ => congrArg (rowsAt m c t (ix3 0 p k) * ·) ?_)
    have e : (Rect.unit (s := S4096x1024) ![0, 0] ![4096, 1024] inb_S4096x1024_S4096x1024_0_0).idx (ix2 k q) = ix2 k q := by
      funext a
      match a with
      | ⟨0, _⟩ => exact Fin.ext ((Rect.idx_unit_val ..).trans (Nat.zero_add _))
      | ⟨1, _⟩ => exact Fin.ext ((Rect.idx_unit_val ..).trans (Nat.zero_add _))
    exact (congrArg _ e).trans (copies_canon ..)
  · have hs := (carried_scratch m c t h0).symm.trans (scratch_eq m c t.val t.isLt)
    rw [outsAt0_B m c t h0]
    frame_out
    refine (product_point _ _ p q).trans ?_
    rw [read_unread_whole, hs]
    rfl

/-- The stacked products, from the arguments. -/
def target (y : S3x9216x4096.Idx) : EReal :=
  rkvAt (m ((c.tc : Thread nD τ).loc main_arg0)) (m ((c.tc : Thread nD τ).loc main_arg1)) (y 0) (y 1) (y 2)

theorem array_eq : (dats m 0 c).arrAt 2 cfg0.N = target m c := by
  refine (dats m 0 c).arrAt_eq_of_covers 2 _ (by decide +kernel) fun t hf y => ?_
  obtain ⟨z, p, q, rfl⟩ : ∃ (z : Fin 1) (p : Fin 512) (q : Fin 1024), y = ix3 z p q :=
    ⟨y 0, y 1, y 2, by funext a; match a with | ⟨0, _⟩ => rfl | ⟨1, _⟩ => rfl | ⟨2, _⟩ => rfl⟩
  obtain rfl : z = 0 := Subsingleton.elim _ _
  have e := (blockIdx t).2.2
  blk_simp
  rw [after0_2, out_eq]
  rw [show (win0_2.blk t).view.emb (ix3 0 p q) = ix3 (groupOf t) (rowOf t p) (colOf t q) by blk_ext [e, groupOf, rowOf, colOf]]
  simp only [rowsAt, rows_at, kept_point]
  rfl

end Cert.Proof.Rkv
end
-- ==== Proof.RkvReference.lean ====
module

public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Proof.Rkv
open Cert.Reference3Ideal Cert.Reference3Ideal.Gen

/-- A matrix product standing as one layer of the stacked result. -/
def refLayer (A : FVec Ideal S1x9216x4096 .bf16) (B : FVec Ideal S1x4096x4096 .f32) : FVec Ideal S1x9216x4096 .f32 :=
  broadcastInDim S1x9216x4096 ![1, 2] bcast_S9216x4096_S1x9216x4096_1_2 (Host.dotGeneral dot_S9216x4096_S4096x4096_S9216x4096_1_0_0_1_n_n none (extf .f32 (shapeCast _ A shapeCasts_S1x9216x4096_S9216x4096) bitsLt_bf16_f32) (shapeCast _ B shapeCasts_S1x4096x4096_S4096x4096))

theorem refLayer_point (A : FVec Ideal S1x9216x4096 .bf16) (B : FVec Ideal S1x4096x4096 .f32) (r : Fin 9216) (d : Fin 4096) :
    refLayer A B (ix3 0 r d) = ∑ k : Fin 4096, A (ix3 0 r k) * B (ix3 0 k d) := by
  pointwise [refLayer]

/-- The three products stacked. -/
def refStack (X : FVec Ideal S6x9216x4096 .bf16) (W : FVec Ideal S3x4096x4096 .f32) : FVec Ideal S3x9216x4096 .bf16 :=
  truncf .bf16 (concatenate S3x9216x4096 0
    [⟨S1x9216x4096, refLayer (extractStridedSlice S1x9216x4096 ![0, 0, 0] X slices_S6x9216x4096_S1x9216x4096_0_0_0) (extractStridedSlice S1x4096x4096 ![0, 0, 0] W slices_S3x4096x4096_S1x4096x4096_0_0_0)⟩,
     ⟨S1x9216x4096, refLayer (extractStridedSlice S1x9216x4096 ![1, 0, 0] X slices_S6x9216x4096_S1x9216x4096_1_0_0) (extractStridedSlice S1x4096x4096 ![1, 0, 0] W slices_S3x4096x4096_S1x4096x4096_1_0_0)⟩,
     ⟨S1x9216x4096, refLayer (extractStridedSlice S1x9216x4096 ![2, 0, 0] X slices_S6x9216x4096_S1x9216x4096_2_0_0) (extractStridedSlice S1x4096x4096 ![2, 0, 0] W slices_S3x4096x4096_S1x4096x4096_2_0_0)⟩]
    concatenates_S1x9216x4096_S1x9216x4096_S1x9216x4096_S3x9216x4096_d0) bitsLt_bf16_f32

/-- Layer `g` of the stack is the product of row block `g` with weight `g`. -/
theorem refStack_point (X : FVec Ideal S6x9216x4096 .bf16) (W : FVec Ideal S3x4096x4096 .f32) (g : Fin 3) (r : Fin 9216) (d : Fin 4096) :
    refStack X W (ix3 g r d) = ∑ k : Fin 4096, X (ix3 (g.castLE (by decide)) r k) * W (ix3 g k d) := by
  fin_cases g
  all_goals
    pointwise [refStack, refLayer_point]
    rfl

end Cert.Proof.Rkv
end
-- ==== Proof.RkvClaim.lean ====
/- The call of the three products and its reference end with equal results. -/
module

public import proofs.«01_k».proof.Defs
public import proofs.«01_k».proof.Proof.RkvValue
public import proofs.«01_k».proof.Proof.RkvReference

@[expose] public section

set_option maxRecDepth 16384

noncomputable section

open Idealize.ShloMosaic Idealize.ShloMosaic.TcCoe Idealize.SL.Sem
open Idealize.ShloMosaic.Pipeline (Dat)

namespace Cert.Proof.Rkv

section
open Cert.Kernel3Ideal Cert.Kernel3Ideal.Gen

/-- The kernel program's run: the result is the stacked products, the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (array_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)
end

/-- From memories agreeing on the arguments the two programs end with the same array. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => target m c, kernel_run m g, ?_⟩
  refine (θ_run Cert.Reference3Ideal.defs _ _).mono (fun r h c => ⟨(h c).1.trans ?_, (h c).2⟩) (Cert.Reference3Ideal.Value.run (F := Ideal) m' g')
  obtain ⟨e0, e1⟩ := hag c
  funext y
  obtain ⟨a, p, d, rfl⟩ : ∃ (a : Fin 3) (p : Fin 9216) (d : Fin 4096), y = ix3 a p d :=
    ⟨y 0, y 1, y 2, by funext a; match a with | ⟨0, _⟩ => rfl | ⟨1, _⟩ => rfl | ⟨2, _⟩ => rfl⟩
  refine (refStack_point (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1)) a p d).trans ?_
  rw [e0, e1]
  rfl

end Cert.Proof.Rkv
end
-- ==== Proof.InpLoop.lean ====
/- The counted loop of the input projection's kernel: its trips write the normalised and modulated rows of one block
   into the scratch, thirty-two rows at a time. Here one trip is run at any position and the loop's invariant stated:
   the scratch holds the pieces of the trips before. -/
module

public import proofs.«01_k».proof.Proof.Gen.Kernel4Ideal.Skeleton
public import proofs.«01_k».proof.Proof.Gen.Kernel4Ideal.Frame
public import Idealize.ShloMosaic.Lib.Exec
public import Idealize.ShloMosaic.Lib.Tactic
public import Idealize.ShloMosaic.Lib.Pipeline.Kit

@[expose] public section

set_option maxRecDepth 16384

noncomputable section

namespace Cert.Proof.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra the run is stated over. -/
local notation "𝕄" => MT nD τ sig Unit (Elt F) ℕ (UR sig nD τ) ℕ

set_option maxHeartbeats 4000000

variable (𝒱 : Variants) (c : Dev nD) (bd : Option 𝒱.V) (i : grid0.Coords)
  (arg2 : Memref sig .tc .vmem S512x4096 .f32) (harg2 : arg2.IsWhole)
  (arg3 : Memref sig .tc .vmem S1x4096 .f32) (harg3 : arg3.IsWhole)
  (arg4 : Memref sig .tc .vmem S1x1x4096 .f32) (harg4 : arg4.IsWhole)
  (arg5 : Memref sig .tc .vmem S1x1x4096 .f32) (harg5 : arg5.IsWhole)
  (arg6 : Memref sig .tc .vmem S4096x1024 .bf16) (harg6 : arg6.IsWhole)
  (arg7 : Memref sig .tc .vmem S4096x128 .bf16) (harg7 : arg7.IsWhole)
  (arg8 : Memref sig .tc .vmem S1x128 .f32) (harg8 : arg8.IsWhole)
  (arg9 : Memref sig .tc .vmem S512x1024 .bf16) (harg9 : arg9.IsWhole)
  (arg10 : Memref sig .tc .vmem S512x128 .f32) (harg10 : arg10.IsWhole)
  (arg11 : Memref sig .tc .vmem S512x4096 .bf16) (harg11 : arg11.IsWhole)
  (k0_h1 : k0_cond1 i = 1#1)
  (Xrows : BufTy.Contents (Elt F) arg2.view.ty) (Xgain : BufTy.Contents (Elt F) arg3.view.ty)
  (Xshift : BufTy.Contents (Elt F) arg4.view.ty) (Xscale : BufTy.Contents (Elt F) arg5.view.ty)

/-- What a trip holds: the rows, the gain, the shift and the scale at their contents, the scratch at `f`. -/
abbrev Held (f : BufTy.Contents (Elt F) arg11.view.ty) : sProp 𝕄 :=
  iprop((arg2.view.loc (c : Thread nD τ) ↦[arg2.view.set]{fullShare} Xrows)
    ∗ (arg3.view.loc (c : Thread nD τ) ↦[arg3.view.set]{fullShare} Xgain)
    ∗ (arg4.view.loc (c : Thread nD τ) ↦[arg4.view.set]{fullShare} Xshift)
    ∗ (arg5.view.loc (c : Thread nD τ) ↦[arg5.view.set]{fullShare} Xscale)
    ∗ (arg11.view.loc (c : Thread nD τ) ↦[arg11.view.set]{fullShare} f))

/-- One trip at position `k`: the pieces it writes into the scratch, with the proof that it does. -/
@[irreducible] def tripRun (k : Fin k0_t1_loop.trips) :
    { L : List (View.Piece (Elt F) S512x4096 .bf16) // ∀ (E : Set ℕ) (f : BufTy.Contents (Elt F) arg11.view.ty),
      Held (F := F) c arg2 arg3 arg4 arg5 arg11 Xrows Xgain Xshift Xscale f
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9
            arg10 harg10 arg11 harg11 k0_h1 k PUnit.unit)
          (fun _ => Held (F := F) c arg2 arg3 arg4 arg5 arg11 Xrows Xgain Xshift Xscale
            (arg11.view.writes (Elt F) f L)) } := by
  have hk : k.val < 16 := Nat.lt_of_lt_of_le k.isLt k0_t1_abs.2.1
  refine ⟨?_, fun E f => ?run⟩
  case run =>
    unfold k0_t1_body
    iintro ⟨H2, H3, H4, H5, H11⟩
    sl_exec
    sl_step
    sl_close

/-- The pieces of trip `k` before those of the trips already made. -/
@[irreducible] def addTrip (k : ℕ) (prev : List (View.Piece (Elt F) S512x4096 .bf16)) :
    List (View.Piece (Elt F) S512x4096 .bf16) :=
  if h : k < k0_t1_loop.trips then
    (tripRun (F := F) 𝒱 c bd i arg2 harg2 arg3 harg3 arg4 harg4 arg5 harg5 arg6 harg6 arg7 harg7 arg8 harg8 arg9 harg9
      arg10 harg10 arg11 harg11 k0_h1 Xrows Xgain Xshift Xscale ⟨k, h⟩).1 ++ prev
  else prev

/-- The pieces of the first `k` trips, the last trip's first. -/
def tripsBefore : ℕ → List (View.Piece (Elt F) S512x4096 .bf16)
  | 0 => []
  | k + 1 => addTrip 𝒱 c bd i arg2 harg2 arg3 harg3 arg4 harg4 arg5 harg5 arg6 harg6 arg7 harg7 arg8 harg8 arg9 harg9
      arg10 harg10 arg11 harg11 k0_h1 Xrows Xgain Xshift Xscale k (tripsBefore k)

theorem tripsBefore_succ (k : Fin k0_t1_loop.trips) :
    tripsBefore (F := F) 𝒱 c bd i arg2 harg2 arg3 harg3 arg4 harg4 arg5 harg5 arg6 harg6 arg7 harg7 arg8 harg8 arg9
        harg9 arg10 harg10 arg11 harg11 k0_h1 Xrows Xgain Xshift Xscale (k.val + 1)
      = (tripRun (F := F) 𝒱 c bd i arg2 harg2 arg3 harg3 arg4 harg4 arg5 harg5 arg6 harg6 arg7 harg7 arg8 harg8 arg9
          harg9 arg10 harg10 arg11 harg11 k0_h1 Xrows Xgain Xshift Xscale k).1
        ++ tripsBefore (F := F) 𝒱 c bd i arg2 harg2 arg3 harg3 arg4 harg4 arg5 harg5 arg6 harg6 arg7 harg7 arg8 harg8
          arg9 harg9 arg10 harg10 arg11 harg11 k0_h1 Xrows Xgain Xshift Xscale k.val := by
  rw [tripsBefore.eq_2]; unfold addTrip; exact dif_pos k.isLt

set_option warn.classDefReducibility false in
/-- The loop by its invariant: before trip `k` the scratch holds the pieces of the trips before, written over what it
    held when the loop began. -/
@[sl_loop] def loopInv (E : Set ℕ) (G : BufTy.Contents (Elt F) arg11.view.ty) :
    Idealize.ShloMosaic.LoopInv (M := 𝕄) Idealize.ShloMosaic.frame (wpE (defs₀ (F := F)) 𝒱 (c : Thread nD τ) bd) E
      k0_t1_loop.lb k0_t1_loop.ub k0_t1_loop.st (k0_t1_ok i k0_h1) ()
      (k0_t1_body (F := F) i arg2 harg2 arg3 harg3 arg4 harg4 arg5 harg5 arg6 harg6 arg7 harg7 arg8 harg8 arg9 harg9
        arg10 harg10 arg11 harg11 k0_h1) where
  inv k _ := iprop((arg2.view.loc (c : Thread nD τ) ↦[arg2.view.set]{fullShare} Xrows)
    ∗ (arg3.view.loc (c : Thread nD τ) ↦[arg3.view.set]{fullShare} Xgain)
    ∗ (arg4.view.loc (c : Thread nD τ) ↦[arg4.view.set]{fullShare} Xshift)
    ∗ (arg5.view.loc (c : Thread nD τ) ↦[arg5.view.set]{fullShare} Xscale)
    ∗ (∃ f, (arg11.view.loc (c : Thread nD τ) ↦[arg11.view.set]{fullShare} f)
        ∗ ⌜f = arg11.view.writes (Elt F) G (tripsBefore (F := F) 𝒱 c bd i arg2 harg2 arg3 harg3 arg4 harg4 arg5 harg5
          arg6 harg6 arg7 harg7 arg8 harg8 arg9 harg9 arg10 harg10 arg11 harg11 k0_h1 Xrows Xgain Xshift Xscale k)⌝))
  step k acc := by
    iintro ⟨H2, H3, H4, H5, ⟨%f, H11, %hf⟩⟩
    iapply (wp_wand_r Idealize.ShloMosaic.frame (wpE (defs₀ (F := F)) 𝒱 (c : Thread nD τ) bd) E)
    isplitl [H2 H3 H4 H5 H11]
    · iapply ((tripRun (F := F) 𝒱 c bd i arg2 harg2 arg3 harg3 arg4 harg4 arg5 harg5 arg6 harg6 arg7 harg7 arg8 harg8
        arg9 harg9 arg10 harg10 arg11 harg11 k0_h1 Xrows Xgain Xshift Xscale k).2 E f)
      isplitl [H2]; · iexact H2
      isplitl [H3]; · iexact H3
      isplitl [H4]; · iexact H4
      isplitl [H5]; · iexact H5
      iexact H11
    · iintro %_ ⟨H2, H3, H4, H5, H11⟩
      isplitl [H2]; · iexact H2
      isplitl [H3]; · iexact H3
      isplitl [H4]; · iexact H4
      isplitl [H5]; · iexact H5
      rw [tripsBefore_succ]
      iexists _; isplitl [H11]; · iexact H11
      ipureintro; rw [hf, ← View.writes_append]

/-- The trips cover the scratch, so what is read of it after the loop is read off their pieces. -/
theorem read_after_loop (f : BufTy.Contents (Elt F) arg11.view.ty) (B : LoadRect S512x4096) :
    arg11.view.readAt (Elt F) B (arg11.view.writes (Elt F) f
        (tripsBefore (F := F) 𝒱 c bd i arg2 harg2 arg3 harg3 arg4 harg4 arg5 harg5 arg6 harg6 arg7 harg7 arg8 harg8 arg9
          harg9 arg10 harg10 arg11 harg11 k0_h1 Xrows Xgain Xshift Xscale
          (Scf.trips k0_t1_loop.lb k0_t1_loop.ub k0_t1_loop.st)))
      = arg11.view.readCov (tripsBefore (F := F) 𝒱 c bd i arg2 harg2 arg3 harg3 arg4 harg4 arg5 harg5 arg6 harg6 arg7
          harg7 arg8 harg8 arg9 harg9 arg10 harg10 arg11 harg11 k0_h1 Xrows Xgain Xshift Xscale
          (Scf.trips k0_t1_loop.lb k0_t1_loop.ub k0_t1_loop.st)) B :=
  View.readAt_writes_of_cover _ f _ B fun j => View.cover_of_tiledL
    (tripsBefore (F := F) 𝒱 c bd i arg2 harg2 arg3 harg3 arg4 harg4 arg5 harg5 arg6 harg6 arg7 harg7 arg8 harg8 arg9 harg9
      arg10 harg10 arg11 harg11 k0_h1 Xrows Xgain Xshift Xscale (Scf.trips k0_t1_loop.lb k0_t1_loop.ub k0_t1_loop.st))
    S32x512.size (by sl_kernel_rfl) (B.idx j)

end Cert.Proof.Inp

end
-- ==== Proof.InpRun.lean ====
/- The input projection's body run once for each of its two cases: at a row block's first point the loop fills the
   scratch and both outputs are stored; at the others the scratch is as it was, the projection's block is stored and the
   gates' buffer is left alone. -/
module

public import proofs.«01_k».proof.Proof.InpLoop

@[expose] public section

set_option maxRecDepth 16384

noncomputable section

namespace Cert.Proof.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra the run is stated over. -/
local notation "𝕄" => MT nD τ sig Unit (Elt F) ℕ (UR sig nD τ) ℕ

/-- Whether the point is a row block's first: the body's condition. -/
abbrev isFirst (i : grid0.Coords) : Prop := k0_cond1 i = 1#1

theorem isFirst_iff : ∀ t : Fin cfg0.N, isFirst (grid0.coords t) ↔ t.val % 12 = 0 :=
  (fun t => by
    have ht : t.val < 216 := Nat.lt_of_lt_of_eq t.isLt N_0
    have e0 : (grid0.coords t 0).val = t.val / 12 % 18 := Pipeline.Grid.coords_val t 0 (by decide) rfl
    have e1 : (grid0.coords t 1).val = t.val / 1 % 12 := Pipeline.Grid.coords_val t 1 (by decide) rfl
    simp only [isFirst, k0_cond1, e0, e1]
    word_cmp
   : ∀ t : Fin grid0.N, isFirst (grid0.coords t) ↔ t.val % 12 = 0)

variable (c : Dev nD) (i : grid0.Coords)
  (arg2 : Memref sig .tc .vmem S512x4096 .f32) (harg2 : arg2.IsWhole)
  (arg3 : Memref sig .tc .vmem S1x4096 .f32) (harg3 : arg3.IsWhole)
  (arg4 : Memref sig .tc .vmem S1x1x4096 .f32) (harg4 : arg4.IsWhole)
  (arg5 : Memref sig .tc .vmem S1x1x4096 .f32) (harg5 : arg5.IsWhole)
  (arg6 : Memref sig .tc .vmem S4096x1024 .bf16) (harg6 : arg6.IsWhole)
  (arg7 : Memref sig .tc .vmem S4096x128 .bf16) (harg7 : arg7.IsWhole)
  (arg8 : Memref sig .tc .vmem S1x128 .f32) (harg8 : arg8.IsWhole)
  (arg9 : Memref sig .tc .vmem S512x1024 .bf16) (harg9 : arg9.IsWhole)
  (arg10 : Memref sig .tc .vmem S512x128 .f32) (harg10 : arg10.IsWhole)
  (arg11 : Memref sig .tc .vmem S512x4096 .bf16) (harg11 : arg11.IsWhole)
  (x0 : Vec F S512x4096 .f32) (x1 : Vec F S1x4096 .f32) (x2 : Vec F S1x1x4096 .f32) (x3 : Vec F S1x1x4096 .f32)
  (x4 : Vec F S4096x1024 .bf16) (x5 : Vec F S4096x128 .bf16) (x6 : Vec F S1x128 .f32)

/-- The seven inputs' buffers at their contents. -/
abbrev Inputs : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6)

set_option backward.proofsInPublic true in
set_option maxHeartbeats 4000000 in
/-- The body at a row block's first point: the pieces it leaves in the two outputs and in the scratch. -/
def runFirst (h : isFirst i) :
    Σ' (L9 : List (View.Piece (Elt F) S512x1024 .bf16)) (L10 : List (View.Piece (Elt F) S512x128 .f32)),
      { L11 : List (View.Piece (Elt F) S512x4096 .bf16) // ∀ (E : Set ℕ) (K : PUnit → sProp 𝕄),
        iprop(Inputs (F := F) c arg2 arg3 arg4 arg5 arg6 arg7 arg8 x0 x1 x2 x3 x4 x5 x6
            ∗ (∃ d, owns (c : Thread nD τ) arg9 fullShare d) ∗ (∃ d, owns (c : Thread nD τ) arg10 fullShare d)
            ∗ (∃ d, owns (c : Thread nD τ) arg11 fullShare d)
            ∗ (iprop(Inputs (F := F) c arg2 arg3 arg4 arg5 arg6 arg7 arg8 x0 x1 x2 x3 x4 x5 x6
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11))
              -∗ K ⟨⟩))
          ⊢ wp frame (wpE (defs₀ (F := F)) Variants.none c none) E
              (cc0_even_inproj i arg2 harg2 arg3 harg3 arg4 harg4 arg5 harg5 arg6 harg6 arg7 harg7 arg8 harg8 arg9 harg9
                arg10 harg10 arg11 harg11) K } := by
  refine ⟨?_, ?_, ?_, fun E K => ?run⟩
  case run =>
    simp only [cc0_even_inproj_eq_skeleton]; unfold cc0_even_inproj_skel
    unfold Inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    have hread := @read_after_loop F _
    sl_exec (disch := first | sl_exact h)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]; · iexists _; iexact H7
    isplitl [H8]; · iexists _; iexact H8
    iexists _; iexact H9

set_option backward.proofsInPublic true in
set_option maxHeartbeats 4000000 in
/-- The body at a later point of a row block: the pieces it leaves in the projection's output; the gates' buffer and the
    scratch stay at what they held. -/
def runLater (h : ¬isFirst i) (g : Vec F S512x128 .f32) (xs : Vec F S512x4096 .bf16) :
    { L9 : List (View.Piece (Elt F) S512x1024 .bf16) // ∀ (E : Set ℕ) (K : PUnit → sProp 𝕄),
        iprop(Inputs (F := F) c arg2 arg3 arg4 arg5 arg6 arg7 arg8 x0 x1 x2 x3 x4 x5 x6
            ∗ (∃ d, owns (c : Thread nD τ) arg9 fullShare d) ∗ owns (c : Thread nD τ) arg10 fullShare g
            ∗ owns (c : Thread nD τ) arg11 fullShare xs
            ∗ (iprop(Inputs (F := F) c arg2 arg3 arg4 arg5 arg6 arg7 arg8 x0 x1 x2 x3 x4 x5 x6
                ∗ (∃ f, arg9.view.loc (c : Thread nD τ) ↦[arg9.view.set]{fullShare} arg9.view.writes (Elt F) f L9)
                ∗ owns (c : Thread nD τ) arg10 fullShare g ∗ owns (c : Thread nD τ) arg11 fullShare xs)
              -∗ K ⟨⟩))
          ⊢ wp frame (wpE (defs₀ (F := F)) Variants.none c none) E
              (cc0_even_inproj i arg2 harg2 arg3 harg3 arg4 harg4 arg5 harg5 arg6 harg6 arg7 harg7 arg8 harg8 arg9 harg9
                arg10 harg10 arg11 harg11) K } := by
  refine ⟨?_, fun E K => ?run⟩
  case run =>
    simp only [cc0_even_inproj_eq_skeleton]; unfold cc0_even_inproj_skel
    unfold Inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg10.eq_unread hf8; obtain rfl := harg11.eq_unread hf9
    sl_exec (disch := first | sl_exact h)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.Proof.Inp

end
-- ==== Proof.InpFrame.lean ====
/- The input projection's frame: what every buffer holds after each point of the grid, the body's obligation at each
   point, and from them that @main runs, ends with its arguments unchanged and every counter at zero. Over any float
   values, so that it serves the rounding program and the exact one alike. -/
module

public import proofs.«01_k».proof.Proof.InpRun
public import Idealize.ShloMosaic.Lib.Claim

@[expose] public section

set_option maxRecDepth 16384

noncomputable section

namespace Cert.Proof.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra the run is stated over. -/
local notation "𝕄" => MT nD τ sig Unit (Elt F) ℕ (UR sig nD τ) ℕ

variable (m : (ℓ : Loc nD τ sig) → Buf (Elt F) ℓ) (ρ : Dev nD → PrngReg)

/-! ## The buffers the body is called with -/

abbrev mem0 (t : Fin cfg0.N) : Memref sig .tc .vmem S512x4096 .f32 := win0_0.stage (cfg0.slots t 0)
abbrev mem1 (t : Fin cfg0.N) : Memref sig .tc .vmem S1x4096 .f32 := win0_1.stage (cfg0.slots t 1)
abbrev mem2 (t : Fin cfg0.N) : Memref sig .tc .vmem S1x1x4096 .f32 := win0_2.stage (cfg0.slots t 2)
abbrev mem3 (t : Fin cfg0.N) : Memref sig .tc .vmem S1x1x4096 .f32 := win0_3.stage (cfg0.slots t 3)
abbrev mem4 (t : Fin cfg0.N) : Memref sig .tc .vmem S4096x1024 .bf16 := win0_4.stage (cfg0.slots t 4)
abbrev mem5 (t : Fin cfg0.N) : Memref sig .tc .vmem S4096x128 .bf16 := win0_5.stage (cfg0.slots t 5)
abbrev mem6 (t : Fin cfg0.N) : Memref sig .tc .vmem S1x128 .f32 := win0_6.stage (cfg0.slots t 6)
abbrev mem7 (t : Fin cfg0.N) : Memref sig .tc .vmem S512x1024 .bf16 := win0_7.stage (cfg0.slots t 7)
abbrev mem8 (t : Fin cfg0.N) : Memref sig .tc .vmem S512x128 .f32 := win0_8.stage (cfg0.slots t 8)
/-- The scratch. -/
abbrev memS : Memref sig .tc .vmem S512x4096 .bf16 := Memref.whole cc0_scratch0
/-- The two outputs' buffers and the scratch as views, through which their contents are stated. -/
abbrev viewP : View sig .tc .vmem S512x1024 .bf16 := (Memref.whole cc0_stg7_0 : Memref sig .tc .vmem S512x1024 .bf16).view
abbrev viewG : View sig .tc .vmem S512x128 .f32 := (Memref.whole cc0_stg8_0 : Memref sig .tc .vmem S512x128 .f32).view
abbrev viewS : View sig .tc .vmem S512x4096 .bf16 := memS.view

/-- The invariant the launch gives: the scratch at some contents and the generator register at some state. -/
theorem launch_inv (c : Dev nD) :
    (Pipeline.ΦA spec0 c : sProp 𝕄)
      = iprop(iprop((∃ d, owns (c : Thread nD τ) memS fullShare d)) ∗ (∃ r, prngReg c r)) := by
  unfold Pipeline.ΦA; rw [scopedRest0_eq]; simp only [memS, owns_whole]; try rfl

/-! ## What the points leave -/

/-- The body's run at a row block's first point, on the buffers and blocks of that point. -/
abbrev firstAt (c : Dev nD) (t : Fin cfg0.N) (h : t.val % 12 = 0) :=
  runFirst (F := F) c (grid0.coords t) (mem0 t) (hstage0_0 ((cfg0.slots t 0).cast nbuf0_0))
    (mem1 t) (hstage0_1 ((cfg0.slots t 1).cast nbuf0_1)) (mem2 t) (hstage0_2 ((cfg0.slots t 2).cast nbuf0_2))
    (mem3 t) (hstage0_3 ((cfg0.slots t 3).cast nbuf0_3)) (mem4 t) (hstage0_4 ((cfg0.slots t 4).cast nbuf0_4))
    (mem5 t) (hstage0_5 ((cfg0.slots t 5).cast nbuf0_5)) (mem6 t) (hstage0_6 ((cfg0.slots t 6).cast nbuf0_6))
    (mem7 t) (hstage0_7 ((cfg0.slots t 7).cast nbuf0_7)) (mem8 t) (hstage0_8 ((cfg0.slots t 8).cast nbuf0_8))
    memS (Memref.isWhole_whole _) (iblk m c 0 t) (iblk m c 1 t) (iblk m c 2 t) (iblk m c 3 t) (X0_4 m c t)
    (iblk m c 5 t) (iblk m c 6 t) ((isFirst_iff t).mpr h)

/-- The body's run at a later point, with the gates' buffer at `g` and the scratch at `xs`. -/
abbrev laterAt (c : Dev nD) (t : Fin cfg0.N) (h : ¬t.val % 12 = 0) (g : Vec F S512x128 .f32)
    (xs : Vec F S512x4096 .bf16) :=
  runLater (F := F) c (grid0.coords t) (mem0 t) (hstage0_0 ((cfg0.slots t 0).cast nbuf0_0))
    (mem1 t) (hstage0_1 ((cfg0.slots t 1).cast nbuf0_1)) (mem2 t) (hstage0_2 ((cfg0.slots t 2).cast nbuf0_2))
    (mem3 t) (hstage0_3 ((cfg0.slots t 3).cast nbuf0_3)) (mem4 t) (hstage0_4 ((cfg0.slots t 4).cast nbuf0_4))
    (mem5 t) (hstage0_5 ((cfg0.slots t 5).cast nbuf0_5)) (mem6 t) (hstage0_6 ((cfg0.slots t 6).cast nbuf0_6))
    (mem7 t) (hstage0_7 ((cfg0.slots t 7).cast nbuf0_7)) (mem8 t) (hstage0_8 ((cfg0.slots t 8).cast nbuf0_8))
    memS (Memref.isWhole_whole _) (iblk m c 0 t) (iblk m c 1 t) (iblk m c 2 t) (iblk m c 3 t) (X0_4 m c t)
    (iblk m c 5 t) (iblk m c 6 t) (fun hf => h ((isFirst_iff t).mp hf)) g xs

theorem first_covers_p (c : Dev nD) (t : Fin cfg0.N) (h : t.val % 12 = 0) (y : S512x1024.Idx) :
    ∃ pc ∈ (firstAt m c t h).1, y ∈ pc.1.set :=
  View.cover_of_tiledL (firstAt m c t h).1 S512x1024.size (by sl_kernel_rfl) y

theorem first_covers_g (c : Dev nD) (t : Fin cfg0.N) (h : t.val % 12 = 0) (y : S512x128.Idx) :
    ∃ pc ∈ (firstAt m c t h).2.1, y ∈ pc.1.set :=
  View.cover_of_tiledL (firstAt m c t h).2.1 S512x128.size (by sl_kernel_rfl) y

theorem first_covers_s (c : Dev nD) (t : Fin cfg0.N) (h : t.val % 12 = 0) (y : S512x4096.Idx) :
    ∃ pc ∈ (firstAt m c t h).2.2.1, y ∈ pc.1.set :=
  View.cover_of_tiledL (firstAt m c t h).2.2.1 S32x512.size (by sl_kernel_rfl) y

theorem later_covers_p (c : Dev nD) (t : Fin cfg0.N) (h : ¬t.val % 12 = 0) (g) (xs) (y : S512x1024.Idx) :
    ∃ pc ∈ (laterAt m c t h g xs).1, y ∈ pc.1.set :=
  View.cover_of_tiledL (laterAt m c t h g xs).1 S512x1024.size (by sl_kernel_rfl) y

/-- The first point of a point's row block. -/
def head (t : Fin cfg0.N) : Fin cfg0.N := ⟨t.val / 12 * 12, lt_of_le_of_lt (Nat.div_mul_le_self _ _) t.isLt⟩

theorem head_first (t : Fin cfg0.N) : (head t).val % 12 = 0 := Nat.mul_mod_left _ _

theorem head_of_first (t : Fin cfg0.N) (h : t.val % 12 = 0) : head t = t :=
  Fin.ext (show t.val / 12 * 12 = t.val by omega)

/-- A later point has the row block of the point before. -/
theorem head_pred (t t' : Fin cfg0.N) (h : ¬t.val % 12 = 0) (ht' : t'.val = t.val - 1) : head t' = head t :=
  Fin.ext (show t'.val / 12 * 12 = t.val / 12 * 12 by rw [ht']; omega)

/-- What the scratch holds after a row block's first point. -/
def rowsFirst (c : Dev nD) (t : Fin cfg0.N) (h : t.val % 12 = 0) : Vec F S512x4096 .bf16 :=
  viewS.read (Elt F) (viewS.writes (Elt F) viewS.junk (firstAt m c t h).2.2.1)

/-- What the gates' buffer holds after a row block's first point. -/
def gatesFirst (c : Dev nD) (t : Fin cfg0.N) (h : t.val % 12 = 0) : Vec F S512x128 .f32 :=
  viewG.read (Elt F) (viewG.writes (Elt F) viewG.junk (firstAt m c t h).2.1)

/-- What the scratch holds after any point: what its row block's first point left. -/
def rowsOf (c : Dev nD) (t : Fin cfg0.N) : Vec F S512x4096 .bf16 := rowsFirst m c (head t) (head_first t)

/-- What the gates' buffer holds after any point. -/
def gatesOf (c : Dev nD) (t : Fin cfg0.N) : Vec F S512x128 .f32 := gatesFirst m c (head t) (head_first t)

/-- What the projection's buffer holds after any point. -/
def projOf (c : Dev nD) (t : Fin cfg0.N) : Vec F S512x1024 .bf16 :=
  if h : t.val % 12 = 0 then viewP.read (Elt F) (viewP.writes (Elt F) viewP.junk (firstAt m c t h).1)
  else viewP.read (Elt F) (viewP.writes (Elt F) viewP.junk (laterAt m c t h (gatesOf m c t) (rowsOf m c t)).1)

theorem rowsOf_first (c : Dev nD) (t : Fin cfg0.N) (h : t.val % 12 = 0) : rowsOf m c t = rowsFirst m c t h := by
  have key : ∀ (s : Fin cfg0.N) (hs : s.val % 12 = 0), s = t → rowsFirst m c s hs = rowsFirst m c t h := by
    rintro s hs rfl; rfl
  exact key _ _ (head_of_first t h)

theorem gatesOf_first (c : Dev nD) (t : Fin cfg0.N) (h : t.val % 12 = 0) : gatesOf m c t = gatesFirst m c t h := by
  have key : ∀ (s : Fin cfg0.N) (hs : s.val % 12 = 0), s = t → gatesFirst m c s hs = gatesFirst m c t h := by
    rintro s hs rfl; rfl
  exact key _ _ (head_of_first t h)

theorem rowsOf_pred (c : Dev nD) (t t' : Fin cfg0.N) (h : ¬t.val % 12 = 0) (ht' : t'.val = t.val - 1) :
    rowsOf m c t' = rowsOf m c t := by
  have key : ∀ (s s' : Fin cfg0.N) (hs : s.val % 12 = 0) (hs' : s'.val % 12 = 0), s = s' →
      rowsFirst m c s hs = rowsFirst m c s' hs' := by
    rintro s _ hs hs' rfl; rfl
  exact key _ _ _ _ (head_pred t t' h ht')

theorem gatesOf_pred (c : Dev nD) (t t' : Fin cfg0.N) (h : ¬t.val % 12 = 0) (ht' : t'.val = t.val - 1) :
    gatesOf m c t' = gatesOf m c t := by
  have key : ∀ (s s' : Fin cfg0.N) (hs : s.val % 12 = 0) (hs' : s'.val % 12 = 0), s = s' →
      gatesFirst m c s hs = gatesFirst m c s' hs' := by
    rintro s _ hs hs' rfl; rfl
  exact key _ _ _ _ (head_pred t t' h ht')

/-! ## The proof data -/

/-- The invariant before position `n`: at the start what the launch gives, afterwards the scratch at what the point
    before left. -/
def inv (c : Dev nD) : (n : ℕ) → n ≤ cfg0.N → sProp 𝕄
  | 0, _ => Pipeline.ΦA spec0 c
  | n + 1, hn => iprop(iprop(owns (c : Thread nD τ) memS fullShare (rowsOf m c ⟨n, hn⟩)) ∗ (∃ r, prngReg c r))

theorem inv_start (c : Dev nD) (n : ℕ) (h : n ≤ cfg0.N) (hz : n = 0) : inv m c n h = Pipeline.ΦA spec0 c := by
  subst hz; rfl

theorem inv_after (c : Dev nD) (n : ℕ) (hn : n < cfg0.N) :
    inv m c (n + 1) hn
      = iprop(iprop(owns (c : Thread nD τ) memS fullShare (rowsOf m c ⟨n, hn⟩)) ∗ (∃ r, prngReg c r)) := rfl

theorem inv_later (c : Dev nD) (n : ℕ) (h : n ≤ cfg0.N) (hz : n ≠ 0) :
    inv m c n h = iprop(iprop(owns (c : Thread nD τ) memS fullShare (rowsOf m c ⟨n - 1, by omega⟩))
      ∗ (∃ r, prngReg c r)) := by
  cases n with
  | zero => exact absurd rfl hz
  | succ n => rfl

/-- The pipeline's proof data: the arrays as the region finds them, each input's buffer at its block, the outputs' at
    what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => iblk m c 6 t
    | ⟨7, _⟩ => projOf m c t
    | ⟨8, _⟩ => gatesOf m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = X0_4 m c t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = projOf m c t := by dsimp only [dats]
theorem after8 (c : Dev nD) (t : Fin cfg0.N) : (dats m 0 c).after 8 t = gatesOf m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- At a row block's first point the body stores the gates, -/
theorem gates_stored (t : Fin cfg0.N) (h : t.val % 12 = 0) : cfg0.idle 8 (cfg0.grid.coords t) = false := by
  show (!(k0_cond1 (grid0.coords t) == 1#1)) = false
  rw [Bool.not_eq_false', beq_iff_eq]
  exact (isFirst_iff t).mpr h

/-- and at the others it does not. -/
theorem gates_left (t : Fin cfg0.N) (h : ¬t.val % 12 = 0) : cfg0.idle 8 (cfg0.grid.coords t) = true := by
  show (!(k0_cond1 (grid0.coords t) == 1#1)) = true
  rw [Bool.not_eq_true', beq_eq_false_iff_ne]
  exact fun hf => h ((isFirst_iff t).mp hf)

/-- At a later point of a row block the gates' buffer holds what the first point left: by the points between. -/
theorem before8_at (c : Dev nD) (d) : ∀ (n : ℕ) (t : Fin cfg0.N), t.val = n → ¬t.val % 12 = 0 →
    (dats m 0 c).before 8 t d = gatesOf m c t := by
  intro n
  induction n with
  | zero => intro t ht h; exact absurd (by rw [ht]) h
  | succ n ih =>
    intro t ht h
    have hN : t.val < 216 := lt_of_lt_of_eq t.isLt (show cfg0.N = 216 from N_0)
    have hfl : (cfg0.win 8).flush ⟨t.val - 1, Nat.lt_of_le_of_lt (Nat.sub_le _ _) t.isLt⟩ = false :=
      Bool.eq_false_iff.mpr fun hf => by have := (flush0_8 _).mp hf; dsimp only at this; omega
    rw [(dats m 0 c).before_of_pos 8 t (by omega) ((cfg0.win 8).fetch_out rfl t), hfl, if_neg Bool.false_ne_true]
    unfold Dat.left
    by_cases h' : (t.val - 1) % 12 = 0
    · rw [gates_stored ⟨t.val - 1, Nat.lt_of_le_of_lt (Nat.sub_le _ _) t.isLt⟩ h']
      show (dats m 0 c).kept 8 _ d = _
      unfold Dat.kept
      rw [Pipeline.fill_of_clip_none (cfg := cfg0) 8 _ (fun _ => rfl) d ((dats m 0 c).after 8 _), Window.fill_cut, after8]
      exact gatesOf_pred m c t _ h rfl
    · rw [gates_left ⟨t.val - 1, Nat.lt_of_le_of_lt (Nat.sub_le _ _) t.isLt⟩ h']
      show (dats m 0 c).before 8 _ d = _
      rw [ih ⟨t.val - 1, Nat.lt_of_le_of_lt (Nat.sub_le _ _) t.isLt⟩ (by simp only; omega) h']
      exact gatesOf_pred m c t _ h rfl

theorem before8 (c : Dev nD) (t : Fin cfg0.N) (h : ¬t.val % 12 = 0) (d) :
    (dats m 0 c).before 8 t d = gatesOf m c t := before8_at m c d t.val t rfl h

/-- The gates' buffer at its contents is what a point must leave of it. -/
theorem leaves8 (c : Dev nD) (t : Fin cfg0.N) :
    (owns (c : Thread nD τ) (mem8 t) fullShare (gatesOf m c t) : sProp 𝕄) ⊢ (dats m 0 c).leavesExact 8 t := by
  unfold Dat.leavesExact
  by_cases h : t.val % 12 = 0
  · rw [gates_stored t h]
    show _ ⊢ owns _ _ _ ((dats m 0 c).after 8 t)
    rw [after8]
  · rw [gates_left t h]
    cases hf : (cfg0.win 8).flush t with
    | true =>
      show _ ⊢ owns _ _ _ ((dats m 0 c).after 8 t)
      rw [after8]
    | false =>
      show _ ⊢ iprop(∃ d, owns (c : Thread nD τ) (mem8 t) fullShare ((dats m 0 c).before 8 t d))
      simp only [before8 m c t h]
      iintro H
      iexists (gatesOf m c t); iexact H

/-! ## The body at a point -/

/-- The invariant, what is owed, and the inputs at their blocks: what the body is given and gives back alike. -/
abbrev inputsAt (c : Dev nD) (t : Fin cfg0.N) : sProp 𝕄 :=
  Inputs (F := F) c (mem0 t) (mem1 t) (mem2 t) (mem3 t) (mem4 t) (mem5 t) (mem6 t)
    (iblk m c 0 t) (iblk m c 1 t) (iblk m c 2 t) (iblk m c 3 t) (X0_4 m c t) (iblk m c 5 t) (iblk m c 6 t)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- What it gives back. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ (dats m 0 c).leavesExact 8 t)

/-- The scratch at the named contents is the scratch at some contents. -/
theorem inv_some (c : Dev nD) (n : ℕ) (h : n ≤ cfg0.N) : inv m c n h ⊢ Pipeline.ΦA spec0 c := by
  by_cases hz : n = 0
  · rw [inv_start m c n h hz]
  · rw [inv_later m c n h hz, launch_inv]
    iintro ⟨HS, Hg⟩
    isplitl [HS]
    · iexists _; iexact HS
    iexact Hg

set_option maxHeartbeats 3200000 in
/-- The body at a row block's first point. -/
theorem sound_first (c : Dev nD) (t : Fin cfg0.N) (h : t.val % 12 = 0) :
    iprop(Pipeline.ΦA spec0 c ∗ (dats m 0 c).owesAt () t.castSucc ∗ inputsAt m c t
        ∗ (∃ d, owns (c : Thread nD τ) (mem7 t) fullShare d) ∗ (∃ d, owns (c : Thread nD τ) (mem8 t) fullShare d))
      ⊢ wp frame (wpE (defs₀ (F := F)) Variants.none c none) Set.univ (bodyAt0 t)
        (fun _ => iprop(inv m c (t.val + 1) t.isLt ∗ (dats m 0 c).owesAt () t.castSucc ∗ inputsAt m c t
          ∗ owns (c : Thread nD τ) (mem7 t) fullShare (projOf m c t)
          ∗ owns (c : Thread nD τ) (mem8 t) fullShare (gatesOf m c t))) := by
  unfold bodyAt0
  rw [inv_after, launch_inv, show (⟨t.val, t.isLt⟩ : Fin cfg0.N) = t from rfl, rowsOf_first m c t h, gatesOf_first m c t h]
  unfold projOf rowsFirst gatesFirst
  rw [dif_pos h]
  iintro ⟨⟨HS, Hg⟩, Ho, HI, H7, H8⟩
  iapply ((firstAt m c t h).2.2.2 Set.univ _)
  isplitl [HI]; · iexact HI
  isplitl [H7]; · iexact H7
  isplitl [H8]; · iexact H8
  isplitl [HS]; · iexact HS
  iintro ⟨HI, ⟨%e7, H7⟩, ⟨%e8, H8⟩, ⟨%es, HS⟩⟩
  isplitl [HS Hg]
  · isplitl [HS]
    · unfold owns; iexists _; isplitr
      swap; · iexact HS
      ipureintro; exact View.read_writes_of_cover _ _ _ _ _ (first_covers_s m c t h)
    iexact Hg
  isplitl [Ho]; · iexact Ho
  isplitl [HI]; · iexact HI
  isplitl [H7]
  · unfold owns; iexists _; isplitr
    swap; · iexact H7
    ipureintro; exact View.read_writes_of_cover _ _ _ _ _ (first_covers_p m c t h)
  unfold owns; iexists _; isplitr
  swap; · iexact H8
  ipureintro; exact View.read_writes_of_cover _ _ _ _ _ (first_covers_g m c t h)

set_option maxHeartbeats 3200000 in
/-- The body at a later point. -/
theorem sound_later (c : Dev nD) (t : Fin cfg0.N) (h : ¬t.val % 12 = 0) :
    iprop(inv m c t.val (Nat.le_of_lt t.isLt) ∗ (dats m 0 c).owesAt () t.castSucc ∗ inputsAt m c t
        ∗ (∃ d, owns (c : Thread nD τ) (mem7 t) fullShare d)
        ∗ owns (c : Thread nD τ) (mem8 t) fullShare (gatesOf m c t))
      ⊢ wp frame (wpE (defs₀ (F := F)) Variants.none c none) Set.univ (bodyAt0 t)
        (fun _ => iprop(inv m c (t.val + 1) t.isLt ∗ (dats m 0 c).owesAt () t.castSucc ∗ inputsAt m c t
          ∗ owns (c : Thread nD τ) (mem7 t) fullShare (projOf m c t)
          ∗ owns (c : Thread nD τ) (mem8 t) fullShare (gatesOf m c t))) := by
  unfold bodyAt0
  rw [inv_after, inv_later m c _ _ (fun hz => h (by rw [hz])), show (⟨t.val, t.isLt⟩ : Fin cfg0.N) = t from rfl,
    rowsOf_pred m c t _ h rfl]
  unfold projOf
  rw [dif_neg h]
  iintro ⟨⟨HS, Hg⟩, Ho, HI, H7, H8⟩
  iapply ((laterAt m c t h (gatesOf m c t) (rowsOf m c t)).2 Set.univ _)
  isplitl [HI]; · iexact HI
  isplitl [H7]; · iexact H7
  isplitl [H8]; · iexact H8
  isplitl [HS]; · iexact HS
  iintro ⟨HI, ⟨%e7, H7⟩, H8, HS⟩
  isplitl [HS Hg]
  · isplitl [HS]
    · iexact HS
    iexact Hg
  isplitl [Ho]; · iexact Ho
  isplitl [HI]; · iexact HI
  isplitl [H7]
  · unfold owns; iexists _; isplitr
    swap; · iexact H7
    ipureintro; exact View.read_writes_of_cover _ _ _ _ _ (later_covers_p m c t h _ _)
  iexact H8

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6]
  rw [show (dats m 0 c).owesAt () t.succ = (dats m 0 c).owesAt () t.castSucc from rfl,
    after0, after1, after2, after3, after4, after5, after6, after7,
    show (dats m 0 c).Φ t.succ = inv m c (t.val + 1) t.isLt from rfl, inv_at]
  by_cases h : t.val % 12 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := F)) Variants.none (c : Thread nD τ) none) Set.univ)
    isplitl [HΦ Ho H0 H1 H2 H3 H4 H5 H6 H7 H8]
    · iapply (sound_first m c t h)
      isplitl [HΦ]
      · iapply (inv_some m c t.val (Nat.le_of_lt t.isLt)); iexact HΦ
      isplitl [Ho]; · iexact Ho
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      iexists _; iexact H8
    · iintro %_ ⟨HΦ, Ho, ⟨H0, H1, H2, H3, H4, H5, H6⟩, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves8 m c t); iexact H8
  · simp only [before8 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := F)) Variants.none (c : Thread nD τ) none) Set.univ)
    isplitl [HΦ Ho H0 H1 H2 H3 H4 H5 H6 H7 H8]
    · iapply (sound_later m c t h)
      isplitl [HΦ]; · iexact HΦ
      isplitl [Ho]; · iexact Ho
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      iexact H8
    · iintro %_ ⟨HΦ, Ho, ⟨H0, H1, H2, H3, H4, H5, H6⟩, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves8 m c t); iexact H8

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

theorem inv_enter (c : Dev nD) : Pipeline.ΦA spec0 c ⊢ (dats m 0 c).Φ 0 := by
  rw [show (dats m 0 c).Φ 0 = inv m c 0 (Nat.zero_le _) from rfl, inv_start m c 0 _ rfl]
  try exact Idealize.SL.BI.Entails.refl _

theorem inv_leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt)
    from rfl]
  exact inv_some m c _ _

/-! ## The run -/

set_option backward.isDefEq.respectTransparency.types false in
/-- @main runs from any memory, ends with the arrays at what the proof data says and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_enter m)
    (hout := inv_leave m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_quiescent m ρ))

end Cert.Proof.Inp

end
-- ==== Proof.InpSame.lean ====
/- The input projection's printed program and its idealization have one text, so the run of the one is the run of the other. -/
module

public import proofs.«01_k».proof.Defs
public import proofs.«01_k».proof.Proof.Gen.Kernel4
public import proofs.«01_k».proof.Proof.InpFrame

@[expose] public section

set_option maxRecDepth 16384

noncomputable section

open Idealize.ShloMosaic Idealize.SL.Sem

namespace Cert.Proof.Inp

/-- The two programs' kernel functions are the same, -/
theorem body_same : Cert.Kernel4.defs₀ (F := Bits) = Cert.Kernel4Ideal.defs₀ (F := Bits) := by
  unfold Cert.Kernel4.defs₀ Cert.Kernel4Ideal.defs₀
  refine congrArg (Defs.onTc (Λ := Cert.Kernel4Ideal.Λ₀)) (funext fun l => funext fun a => ?_)
  match l, a with
  | ⟨0, _⟩, (t, s) => rfl
  | ⟨_ + 1, h⟩, _ => exact absurd h (Nat.not_lt.2 (Nat.le_add_left _ _))

/-- and so are their launches. -/
theorem defs_same : Cert.Kernel4.defs (F := Bits) = Cert.Kernel4Ideal.defs (F := Bits) := by
  unfold Cert.Kernel4.defs Cert.Kernel4Ideal.defs
  exact congrArg (Pipeline.defs (Cert.Kernel4Ideal.pcfgs (F := Bits))) body_same

/-- The printed program terminates with its arguments unchanged and its counters at zero. -/
theorem frame_kernel4 : Cert.quiescent_Kernel4 (hKernel4 := Cert.Kernel4.Gen.facts) := fun m ρ _ => by
  rw [defs_same]
  exact (θ_run Cert.Kernel4Ideal.defs _ _).mono (fun _ h => h) (frame (F := Bits) m ρ)

end Cert.Proof.Inp

end
-- ==== Proof.InpEntry.lean ====
/- What the input projection's loop leaves in the scratch: the modulated rows, the same the MLP block's first visit stores. And
   what its two products give at a place. -/
module

public import proofs.«01_k».proof.Proof.InpFrame
public import proofs.«01_k».proof.Proof.MlpEntry
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Inp
open Cert.Kernel4Ideal Cert.Kernel4Ideal.Gen

/-- The eight column slices of trip `k` begin at row `32 k` and at the multiples of 512. -/
theorem offs : ∀ k : Fin k0_t1_loop.trips, k0_off1 k = ![32 * k.val, 0] ∧ k0_off2 k = ![32 * k.val, 512] ∧ k0_off3 k = ![32 * k.val, 1024] ∧
    k0_off4 k = ![32 * k.val, 1536] ∧ k0_off5 k = ![32 * k.val, 2048] ∧ k0_off6 k = ![32 * k.val, 2560] ∧
    k0_off7 k = ![32 * k.val, 3072] ∧ k0_off8 k = ![32 * k.val, 3584] := by decide +kernel

/-- The reciprocal root mean square is the one the MLP block computes from the same eight slices. -/
theorem rstd_same (A0 A1 A2 A3 A4 A5 A6 A7 : Vec Ideal S32x512 .f32) (p : Fin 32) :
    k0_pay4 A0 A1 A2 A3 A4 A5 A6 A7 (ix2 p 0)
      = Cert.Kernel2Ideal.Gen.k0_pay8 (Cert.Kernel2Ideal.Gen.k0_pay7 A0 A1 A2 A3 A4 A5 A6 A7) (ix2 p 0) := by
  pointwise [k0_pay4, Cert.Kernel2Ideal.Gen.k0_pay7, Cert.Kernel2Ideal.Gen.k0_pay8]

variable (𝒱 : Variants) (c : Dev nD) (bd : Option 𝒱.V) (i : grid0.Coords)
  (arg2 : Memref sig .tc .vmem S512x4096 .f32) (harg2 : arg2.IsWhole)
  (arg3 : Memref sig .tc .vmem S1x4096 .f32) (harg3 : arg3.IsWhole)
  (arg4 : Memref sig .tc .vmem S1x1x4096 .f32) (harg4 : arg4.IsWhole)
  (arg5 : Memref sig .tc .vmem S1x1x4096 .f32) (harg5 : arg5.IsWhole)
  (arg6 : Memref sig .tc .vmem S4096x1024 .bf16) (harg6 : arg6.IsWhole)
  (arg7 : Memref sig .tc .vmem S4096x128 .bf16) (harg7 : arg7.IsWhole)
  (arg8 : Memref sig .tc .vmem S1x128 .f32) (harg8 : arg8.IsWhole)
  (arg9 : Memref sig .tc .vmem S512x1024 .bf16) (harg9 : arg9.IsWhole)
  (arg10 : Memref sig .tc .vmem S512x128 .f32) (harg10 : arg10.IsWhole)
  (arg11 : Memref sig .tc .vmem S512x4096 .bf16) (harg11 : arg11.IsWhole)

/-- Every store of trip `k` is a slice of the modulated rows. -/
theorem trip_pieces (h1 : k0_cond1 i = 1#1) (x0 : Vec Ideal S512x4096 .f32) (x1 : Vec Ideal S1x4096 .f32) (x2 x3 : Vec Ideal S1x1x4096 .f32)
    (k : Fin k0_t1_loop.trips) :
    View.PiecesOf (Mlp.modRows x0 x1 x2 x3)
      (tripRun (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3) k).1 := by
  unfold tripRun
  frame_open
  obtain ⟨o1, o2, o3, o4, o5, o6, o7, o8⟩ := offs k
  simp only [View.PiecesOf, View.readAt_eq_ld, Memref.IsWhole.read_unread]
  have hk : k.val < 16 := k.isLt
  refine ⟨fun x => ?_, fun x => ?_, fun x => ?_, fun x => ?_, fun x => ?_, fun x => ?_, fun x => ?_, fun x => ?_, trivial⟩
  all_goals
    obtain ⟨p, q, rfl⟩ : ∃ (p : Fin 32) (q : Fin 512), x = ix2 p q := ⟨x 0, x 1, by funext a; match a with | ⟨0, _⟩ => rfl | ⟨1, _⟩ => rfl⟩
    rw [Mlp.emb_ix2 _ _ p q _ _ (by first | exact o1 | exact o2 | exact o3 | exact o4 | exact o5 | exact o6 | exact o7 | exact o8) (by omega) (by omega)]
    pointwise [k0_pay1, k0_pay5, k0_pay6, k0_pay7, k0_pay8, k0_pay9, k0_pay10, k0_pay11, k0_pay12, k0_pay13, k0_pay14, k0_pay15, Mlp.modRows]
    rw [rstd_same, Mlp.rstd_of_slices x0 (32 * k.val) (by omega)]
    · simp only [o1, o2, o3, o4, o5, o6, o7, o8]
      first | rfl | simp only [Matrix.cons_val_zero, Matrix.cons_val_one, Nat.zero_add]
    all_goals
      intro p q
      pointwise
      simp only [o1, o2, o3, o4, o5, o6, o7, o8]
      first | rfl | simp only [Matrix.cons_val_zero, Matrix.cons_val_one, Nat.zero_add]

/-- So is every store of the trips before trip `n`. -/
theorem loop_pieces (h1 : k0_cond1 i = 1#1) (x0 : Vec Ideal S512x4096 .f32) (x1 : Vec Ideal S1x4096 .f32) (x2 x3 : Vec Ideal S1x1x4096 .f32) :
    ∀ n, n ≤ k0_t1_loop.trips → View.PiecesOf (Mlp.modRows x0 x1 x2 x3)
      (tripsBefore (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3) n)
  | 0, _ => trivial
  | n + 1, hn => by
    rw [tripsBefore_succ (F := Ideal) 𝒱 c bd i arg2 harg2 arg3 harg3 arg4 harg4 arg5 harg5 arg6 harg6 arg7 harg7 arg8 harg8 arg9 harg9 arg10
        harg10 arg11 harg11 h1 _ _ _ _ ⟨n, hn⟩]
    exact Mlp.piecesOf_append (trip_pieces _ _ _ _ _ _ _ _ _ _ _ _ _ _ _ _ _ _ _ _ _ _ _ _ h1 x0 x1 x2 x3 ⟨n, hn⟩)
      (loop_pieces h1 x0 x1 x2 x3 n (Nat.le_of_succ_le hn))

/-- The sixteen trips leave the modulated rows in the whole block. -/
theorem loop_canon (h1 : k0_cond1 i = 1#1) (x0 : Vec Ideal S512x4096 .f32) (x1 : Vec Ideal S1x4096 .f32) (x2 x3 : Vec Ideal S1x1x4096 .f32)
    (y : S512x4096.Idx) :
    View.canon (tripsBefore (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3)
      (Scf.trips k0_t1_loop.lb k0_t1_loop.ub k0_t1_loop.st)) y = Mlp.modRows x0 x1 x2 x3 y := by
  have hc := View.cover_of_tiledL (tripsBefore (F := Ideal) 𝒱 c bd i arg2 harg2 arg3 harg3 arg4 harg4 arg5 harg5 arg6 harg6 arg7 harg7 arg8 harg8 arg9 harg9 arg10
        harg10 arg11 harg11 h1 (harg2.unread x0) (harg3.unread x1) (harg4.unread x2) (harg5.unread x3)
      (Scf.trips k0_t1_loop.lb k0_t1_loop.ub k0_t1_loop.st)) S32x512.size (by sl_kernel_rfl) y
  have h := View.canon_append_of_piecesOf (Mlp.modRows x0 x1 x2 x3) [] _
    (loop_pieces 𝒱 c bd i arg2 harg2 arg3 harg3 arg4 harg4 arg5 harg5 arg6 harg6 arg7 harg7 arg8 harg8 arg9 harg9 arg10
        harg10 arg11 harg11 h1 x0 x1 x2 x3 _ (le_refl _)) y hc
  rwa [List.append_nil] at h

/-- The projection's product at a place. -/
theorem proj_point (u : Vec Ideal S512x4096 .bf16) (w : Vec Ideal S4096x1024 .bf16) (p : Fin 512) (q : Fin 1024) :
    k0_pay3 u w (ix2 p q) = ∑ k : Fin 4096, u (ix2 p k) * w (ix2 k q) := by
  pointwise [k0_pay3]

/-- The gates' product at a place, with the bias. -/
theorem gate_point (u : Vec Ideal S512x4096 .bf16) (w : Vec Ideal S4096x128 .bf16) (b : Vec Ideal S1x128 .f32) (p : Fin 512) (q : Fin 128) :
    k0_pay2 u w b (ix2 p q) = (∑ k : Fin 4096, u (ix2 p k) * w (ix2 k q)) + b (ix2 0 q) := by
  pointwise [k0_pay2]

end Cert.Proof.Inp

end
-- ==== Proof.InpSpec.lean ====
/- The input projection's mathematics over whole arrays: each row normed and modulated, times the weight; the last 32
   columns with a bias, padded with zeros to 128. -/
module

public import proofs.«01_k».proof.Proof.MlpSpec
public import proofs.«01_k».proof.Proof.Gen.Kernel4Ideal
public import Idealize.ShloMosaic.Lib.KernelVsHost

@[expose] public section

noncomputable section

open Idealize.ShloMosaic Idealize.ShloMosaic.TcCoe Idealize.SL.Sem

namespace Cert.Proof.Inp

open Cert.Kernel4Ideal

/-- The padding value is zero: the integer zero as a float. -/
theorem pad_zero (φ : FTy) : (FloatOps.sitofp φ (0#32 : BitVec 32) : Ideal φ) = (0 : EReal) := sitofp_zero

/-- The row of the scale and shift tables that row `r` is modulated by: its sample among the first 8192 rows, the fifth
    row for the 1024 after them. -/
def tableRow (r : Fin 9216) : Fin 8 := ⟨min (r.val / 2048) 4, by omega⟩

/-- Row `r` normed and modulated. -/
def rowIn (X : FVec Ideal S9216x4096 .f32) (g : FVec Ideal S4096 .f32) (sh sc : FVec Ideal S8x1x4096 .f32) (r : Fin 9216) :
    Fin 4096 → EReal :=
  Mlp.rowMod (fun k => X (ix2 r k)) (fun k => g (ix1 k)) (fun k => sh (ix3 (tableRow r) 0 k)) (fun k => sc (ix3 (tableRow r) 0 k))

/-- A row's product with column `q` of the weight. -/
def rowTimes (u : Fin 4096 → EReal) (W : FVec Ideal S4096x12320 .f32) (q : Fin 12320) : EReal :=
  ∑ k : Fin 4096, u k * W (ix2 k q)

/-- The projection of a row at column `q`. -/
def projAt (u : Fin 4096 → EReal) (W : FVec Ideal S4096x12320 .f32) (q : Fin 12288) : EReal :=
  rowTimes u W ⟨q.val, by omega⟩

/-- The gates of a row at column `q`: from the 32 columns after the projection's, with the bias, and zero past them. -/
def gateAt (u : Fin 4096 → EReal) (W : FVec Ideal S4096x12320 .f32) (b : FVec Ideal S32 .f32) (q : Fin 128) : EReal :=
  if h : q.val < 32 then rowTimes u W ⟨12288 + q.val, by omega⟩ + b (ix1 ⟨q.val, h⟩) else 0

end Cert.Proof.Inp

end
-- ==== Proof.InpBlocks.lean ====
/- What each point of the input projection's grid reads, in terms of the program's arguments. -/
module

public import proofs.«01_k».proof.Proof.InpEntry
public import proofs.«01_k».proof.Proof.InpSpec
public import proofs.«01_k».proof.Proof.MlpBlocks
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Proof.Inp
open Cert.Kernel4Ideal Cert.Kernel4Ideal.Gen

variable (m : (ℓ : Loc nD τ sig) → Buf (Elt Ideal) ℓ) (c : Dev nD)

/-- The block each window reads or writes at a point: the row block is the point's quotient by 12, the column block its
    remainder, the table row the sample of the row block or the fifth. -/
theorem blockIdx : ∀ t : Fin cfg0.N,
    win0_0.index t = ![t.val / 12, 0] ∧ win0_1.index t = ![0, 0] ∧ win0_2.index t = ![min (t.val / 12 / 4) 4, 0, 0] ∧
    win0_3.index t = ![min (t.val / 12 / 4) 4, 0, 0] ∧ win0_4.index t = ![0, t.val % 12] ∧ win0_5.index t = ![0, 0] ∧
    win0_6.index t = ![0, 0] ∧ win0_7.index t = ![t.val / 12, t.val % 12] ∧ win0_8.index t = ![t.val / 12, 0] :=
  (by decide +kernel : ∀ t : Fin grid0.N, _)

/-- The row of the whole array that row `p` of a point's row block is. -/
def rowAt (t : Fin cfg0.N) (p : Fin 512) : Fin 9216 :=
  ⟨512 * (t.val / 12) + p.val, by have h : t.val < 216 := t.isLt; have := p.isLt; omega⟩

/-- The column that column `q` of a point's column block is. -/
def colAt (t : Fin cfg0.N) (q : Fin 1024) : Fin 12288 :=
  ⟨1024 * (t.val % 12) + q.val, by have := q.isLt; omega⟩

/-- The gain as the call receives it: one row. -/
theorem V_main_v5 : V m c main_v5 = shapeCast S1x4096 (m ((c.tc : Thread nD τ).loc main_arg1)) shapeCasts_S4096_S1x4096 := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-- The weight, cast. -/
theorem V_main_v0 : V m c main_v0 = (truncf .bf16 (m ((c.tc : Thread nD τ).loc main_arg4) : FVec Ideal S4096x12320 .f32) bitsLt_bf16_f32 : FVec Ideal S4096x12320 .bf16) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gates' columns of the cast weight, padded. -/
theorem V_main_v2 : V m c main_v2 = (pad S4096x128 ![0, 0] ![0, 96] ![0, 0]
    (extractStridedSlice S4096x32 ![0, 12288] (truncf .bf16 (m ((c.tc : Thread nD τ).loc main_arg4) : FVec Ideal S4096x12320 .f32) bitsLt_bf16_f32 : FVec Ideal S4096x12320 .bf16) slices_S4096x12320_S4096x32_0_12288)
    (sitofp .bf16 (constantI S_ 32 0#32)) pads_S4096x32_S4096x128_000_0960 h_S_ : FVec Ideal S4096x128 .bf16) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-- The bias, padded, as one row. -/
theorem V_main_v4 : V m c main_v4 = (shapeCast S1x128 (pad S128 ![0] ![96] ![0] (m ((c.tc : Thread nD τ).loc main_arg5) : FVec Ideal S32 .f32)
    (sitofp .f32 (constantI S_ 32 0#32)) pads_S32_S128_0960 h_S_ : FVec Ideal S128 .f32) shapeCasts_S128_S1x128 : FVec Ideal S1x128 .f32) := by
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-- Column `q` of the gates' columns of the weight, padded with zeros. -/
def gateCol (W : FVec Ideal S4096x12320 .f32) (k : Fin 4096) (q : Fin 128) : EReal :=
  if h : q.val < 32 then W (ix2 k ⟨12288 + q.val, by omega⟩) else 0

/-- The bias, padded with zeros. -/
def biasAt (b : FVec Ideal S32 .f32) (q : Fin 128) : EReal := if h : q.val < 32 then b (ix1 ⟨q.val, h⟩) else 0

theorem gainRow_point (g : FVec Ideal S4096 .f32) (d : Fin 4096) :
    (shapeCast S1x4096 g shapeCasts_S4096_S1x4096 : FVec Ideal S1x4096 .f32) (ix2 0 d) = g (ix1 d) := by
  pointwise []

theorem V_gain (d : Fin 4096) : V m c main_v5 (ix2 0 d) = m ((c.tc : Thread nD τ).loc main_arg1) (ix1 d) :=
  (congrFun (V_main_v5 m c) (ix2 0 d)).trans (gainRow_point _ d)

theorem V_weight (k : Fin 4096) (q : Fin 12320) : V m c main_v0 (ix2 k q) = m ((c.tc : Thread nD τ).loc main_arg4) (ix2 k q) :=
  congrFun (V_main_v0 m c) (ix2 k q)

theorem V_gateWeight (k : Fin 4096) (q : Fin 128) :
    V m c main_v2 (ix2 k q) = gateCol (m ((c.tc : Thread nD τ).loc main_arg4)) k q := by
  rw [V_main_v2]
  unfold gateCol
  pointwise []
  rw [pad_zero]

theorem biasRow_point (b : FVec Ideal S32 .f32) (q : Fin 128) :
    (shapeCast S1x128 (pad S128 ![0] ![96] ![0] b (sitofp .f32 (constantI S_ 32 0#32)) pads_S32_S128_0960 h_S_ : FVec Ideal S128 .f32)
      shapeCasts_S128_S1x128 : FVec Ideal S1x128 .f32) (ix2 0 q) = biasAt b q := by
  unfold biasAt
  pointwise []
  rw [pad_zero]

theorem V_bias (q : Fin 128) : V m c main_v4 (ix2 0 q) = biasAt (m ((c.tc : Thread nD τ).loc main_arg5)) q := by
  rw [V_main_v4]
  exact biasRow_point _ q

theorem tableRow_at (t : Fin cfg0.N) (p : Fin 512) : (tableRow (rowAt t p)).val = min (t.val / 12 / 4) 4 := by
  have := p.isLt
  simp only [tableRow, rowAt]
  omega

theorem blk0 (t : Fin cfg0.N) (p : Fin 512) (k : Fin 4096) :
    iblk m c 0 t (ix2 p k) = m ((c.tc : Thread nD τ).loc main_arg0) (ix2 (rowAt t p) k) := by
  have e := (blockIdx t).1
  blk_simp [iblk, e, V_main_arg0]
  rw [show (win0_0.blk t).view.emb (ix2 p k) = ix2 (rowAt t p) k by blk_ext [e, rowAt]]
  exact congrFun (V_main_arg0 m c) _

theorem blk1 (t : Fin cfg0.N) (k : Fin 4096) :
    iblk m c 1 t (ix2 0 k) = m ((c.tc : Thread nD τ).loc main_arg1) (ix1 k) := by
  have e := (blockIdx t).2.1
  blk_simp [iblk, e]
  rw [show (win0_1.blk t).view.emb (ix2 0 k) = ix2 0 k by blk_ext [e]]
  exact V_gain m c _

theorem blk2 (t : Fin cfg0.N) (p : Fin 512) (k : Fin 4096) :
    iblk m c 2 t (ix3 0 0 k) = m ((c.tc : Thread nD τ).loc main_arg2) (ix3 (tableRow (rowAt t p)) 0 k) := by
  have e := (blockIdx t).2.2.1
  have h := tableRow_at t p
  blk_simp [iblk, e, V_main_arg2]
  rw [show (win0_2.blk t).view.emb (ix3 0 0 k) = ix3 (tableRow (rowAt t p)) 0 k by blk_ext [e, h]]
  exact congrFun (V_main_arg2 m c) _

theorem blk3 (t : Fin cfg0.N) (p : Fin 512) (k : Fin 4096) :
    iblk m c 3 t (ix3 0 0 k) = m ((c.tc : Thread nD τ).loc main_arg3) (ix3 (tableRow (rowAt t p)) 0 k) := by
  have e := (blockIdx t).2.2.2.1
  have h := tableRow_at t p
  blk_simp [iblk, e, V_main_arg3]
  rw [show (win0_3.blk t).view.emb (ix3 0 0 k) = ix3 (tableRow (rowAt t p)) 0 k by blk_ext [e, h]]
  exact congrFun (V_main_arg3 m c) _

theorem blk4 (t : Fin cfg0.N) (k : Fin 4096) (q : Fin 1024) :
    X0_4 m c t (ix2 k q) = m ((c.tc : Thread nD τ).loc main_arg4) (ix2 k ⟨(colAt t q).val, by have := (colAt t q).isLt; omega⟩) := by
  have e := (blockIdx t).2.2.2.2.1
  unfold X0_4 Pipeline.Window.fill
  rw [dif_pos (moved0_4 t _)]
  blk_simp [iblk, e]
  rw [show (win0_4.blk t).view.emb _ = ix2 k (⟨(colAt t q).val, by have := (colAt t q).isLt; omega⟩ : Fin 12320) by blk_ext [e, colAt]]
  exact V_weight m c _ _

theorem blk5 (t : Fin cfg0.N) (k : Fin 4096) (q : Fin 128) :
    iblk m c 5 t (ix2 k q) = gateCol (m ((c.tc : Thread nD τ).loc main_arg4)) k q := by
  have e := (blockIdx t).2.2.2.2.2.1
  blk_simp [iblk, e]
  rw [show (win0_5.blk t).view.emb (ix2 k q) = ix2 k q by blk_ext [e]]
  exact V_gateWeight m c _ _

theorem blk6 (t : Fin cfg0.N) (q : Fin 128) : iblk m c 6 t (ix2 0 q) = biasAt (m ((c.tc : Thread nD τ).loc main_arg5)) q := by
  have e := (blockIdx t).2.2.2.2.2.2.1
  blk_simp [iblk, e]
  rw [show (win0_6.blk t).view.emb (ix2 0 q) = ix2 0 q by blk_ext [e]]
  exact V_bias m c _

/-- A row of the arguments, normed and modulated. -/
def inRow (r : Fin 9216) : Fin 4096 → EReal :=
  rowIn (m ((c.tc : Thread nD τ).loc main_arg0)) (m ((c.tc : Thread nD τ).loc main_arg1)) (m ((c.tc : Thread nD τ).loc main_arg2))
    (m ((c.tc : Thread nD τ).loc main_arg3)) r

/-- The modulated rows of a point's blocks are the rows of the arguments. -/
theorem modRows_point (t : Fin cfg0.N) (p : Fin 512) (k : Fin 4096) :
    Mlp.modRows (iblk m c 0 t) (iblk m c 1 t) (iblk m c 2 t) (iblk m c 3 t) (ix2 p k) = inRow m c (rowAt t p) k := by
  rw [Mlp.modRows_row, funext (blk0 m c t p), funext (blk1 m c t), funext (blk2 m c t p), funext (blk3 m c t p)]
  rfl

end Cert.Proof.Inp
end
-- ==== Proof.InpValue.lean ====
/- What the input projection's two output arrays hold after the last point. -/
module

public import proofs.«01_k».proof.Proof.InpBlocks
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Proof.Inp
open Cert.Kernel4Ideal Cert.Kernel4Ideal.Gen

variable (m : (ℓ : Loc nD τ sig) → Buf (Elt Ideal) ℓ) (c : Dev nD)

/-- A row block's first point leaves its modulated rows in the scratch. -/
theorem rowsFirst_eq (t : Fin cfg0.N) (h : t.val % 12 = 0) (y : S512x4096.Idx) :
    rowsFirst m c t h y = Mlp.modRows (iblk m c 0 t) (iblk m c 1 t) (iblk m c 2 t) (iblk m c 3 t) y := by
  unfold rowsFirst
  rw [View.read_writes_junk_eq_canon]
  unfold firstAt runFirst
  dsimp only
  exact loop_canon ..

/-- The scratch read whole after the loop is the rows left in it. -/
theorem scratch_read (t : Fin cfg0.N) (h : t.val % 12 = 0) :
    (View.whole cc0_scratch0).readCov (firstAt m c t h).2.2.1 (Rect.unit ![0, 0] ![512, 4096] inb_S512x4096_S512x4096_0_0).toLoadRect
      = rowsFirst m c t h := by
  unfold rowsFirst
  rw [View.readCov_eq_canon', View.read_writes_junk_eq_canon]
  funext y
  obtain ⟨p, k, rfl⟩ : ∃ (p : Fin 512) (k : Fin 4096), y = ix2 p k := ⟨y 0, y 1, by funext a; match a with | ⟨0, _⟩ => rfl | ⟨1, _⟩ => rfl⟩
  have e : (Rect.unit (s := S512x4096) ![0, 0] ![512, 4096] inb_S512x4096_S512x4096_0_0).idx (ix2 p k) = ix2 p k := by
    funext a
    match a with
    | ⟨0, _⟩ => exact Fin.ext ((Rect.idx_unit_val ..).trans (Nat.zero_add _))
    | ⟨1, _⟩ => exact Fin.ext ((Rect.idx_unit_val ..).trans (Nat.zero_add _))
  exact congrArg _ e

/-- A buffer holding an array, read over its whole box, gives the array. -/
theorem load_whole {n k : Nat} {e : EltTy} (r : Memref sig .tc .vmem ⟨2, ![n, k]⟩ e) (hr : r.IsWhole)
    (X : (⟨2, ![n, k]⟩ : Shape).Idx → Elt Ideal e) (inb : ∀ a, (![0, 0] : Fin 2 → Nat) a + (![n, k] : Fin 2 → Nat) a ≤ (![n, k] : Fin 2 → Nat) a) :
    r.view.readAt (Elt Ideal) (Rect.unit (s := ⟨2, ![n, k]⟩) ![0, 0] ![n, k] inb).toLoadRect (hr.unread X) = X := by
  refine (View.readAt_eq_ld ..).trans ?_
  rw [Memref.IsWhole.read_unread]
  exact View.ld_unit_zero (S := ⟨2, ![n, k]⟩) (by funext a; match a with | ⟨0, _⟩ => rfl | ⟨1, _⟩ => rfl) inb X

/-- The gates of those rows are in the second output's buffer, -/
theorem gatesFirst_eq (t : Fin cfg0.N) (h : t.val % 12 = 0) :
    gatesFirst m c t h = k0_pay2 (rowsFirst m c t h) (iblk m c 5 t) (iblk m c 6 t) := by
  rw [← scratch_read]
  unfold gatesFirst firstAt runFirst
  dsimp only
  rw [View.read_writes_full]
  exact congrArg₂ (k0_pay2 _) (load_whole ..) (load_whole ..)

/-- and at every point the first output's buffer is left the product of the scratch's rows with the point's columns. -/
theorem projOf_eq (t : Fin cfg0.N) : projOf m c t = k0_pay3 (rowsOf m c t) (X0_4 m c t) := by
  unfold projOf
  by_cases h : t.val % 12 = 0
  · rw [dif_pos h, rowsOf_first m c t h, ← scratch_read]
    unfold firstAt runFirst
    dsimp only
    rw [View.read_writes_full]
    exact congrArg (k0_pay3 _) (load_whole ..)
  · rw [dif_neg h]
    unfold laterAt runLater
    dsimp only
    rw [View.read_writes_full]
    exact congrArg₂ k0_pay3 (load_whole ..) (load_whole ..)

/-- The rows the scratch holds at a point are those of the point's row block. -/
theorem rowsOf_point (t : Fin cfg0.N) (p : Fin 512) (k : Fin 4096) : rowsOf m c t (ix2 p k) = inRow m c (rowAt t p) k := by
  have e : rowAt (head t) p = rowAt t p := Fin.ext (by simp only [rowAt, head]; omega)
  exact (rowsFirst_eq m c (head t) (head_first t) _).trans ((modRows_point m c (head t) p k).trans (by rw [e]))

/-- The first output's block at a place. -/
theorem projOf_point (t : Fin cfg0.N) (p : Fin 512) (q : Fin 1024) :
    projOf m c t (ix2 p q) = projAt (inRow m c (rowAt t p)) (m ((c.tc : Thread nD τ).loc main_arg4)) (colAt t q) := by
  rw [projOf_eq, proj_point]
  exact Finset.sum_congr rfl fun k _ => congrArg₂ (· * ·) (rowsOf_point m c t p k) (blk4 m c t k q)

/-- A product with the padded columns, with the padded bias, is the padded gates. -/
theorem gate_padded (u : Fin 4096 → EReal) (W : FVec Ideal S4096x12320 .f32) (b : FVec Ideal S32 .f32) (q : Fin 128) :
    (∑ k : Fin 4096, u k * gateCol W k q) + biasAt b q = gateAt u W b q := by
  unfold gateCol biasAt gateAt
  by_cases h : q.val < 32
  · simp only [dif_pos h]
    rfl
  · simp only [dif_neg h, mul_zero, Finset.sum_const_zero, add_zero]

/-- The second output's block at a place. -/
theorem gatesOf_point (t : Fin cfg0.N) (p : Fin 512) (q : Fin 128) :
    gatesOf m c t (ix2 p q) = gateAt (inRow m c (rowAt t p)) (m ((c.tc : Thread nD τ).loc main_arg4)) (m ((c.tc : Thread nD τ).loc main_arg5)) q := by
  unfold gatesOf
  rw [gatesFirst_eq, gate_point, ← gate_padded]
  exact congrArg₂ (· + ·) (Finset.sum_congr rfl fun k _ => congrArg₂ (· * ·) (rowsOf_point m c t p k) (blk5 m c (head t) k q)) (blk6 m c (head t) q)

/-- The first result: every row's projection. -/
def targetProj (y : S9216x12288.Idx) : EReal :=
  projAt (inRow m c (y 0)) (m ((c.tc : Thread nD τ).loc main_arg4)) (y 1)

/-- The second result: every row's gates. -/
def targetGate (y : S9216x128.Idx) : EReal :=
  gateAt (inRow m c (y 0)) (m ((c.tc : Thread nD τ).loc main_arg4)) (m ((c.tc : Thread nD τ).loc main_arg5)) (y 1)

/-- The first output array after the last point. -/
theorem array_proj : (dats m 0 c).arrAt 7 cfg0.N = targetProj m c := by
  refine (dats m 0 c).arrAt_eq_of_covers 7 _ (by decide +kernel) fun t hf y => ?_
  obtain ⟨p, d, rfl⟩ : ∃ (p : Fin 512) (d : Fin 1024), y = ix2 p d := ⟨y 0, y 1, by funext a; match a with | ⟨0, _⟩ => rfl | ⟨1, _⟩ => rfl⟩
  have e := (blockIdx t).2.2.2.2.2.2.2.1
  blk_simp
  rw [after7, projOf_point]
  rw [show (win0_7.blk t).view.emb (ix2 p d) = ix2 (rowAt t p) (colAt t d) by blk_ext [e, rowAt, colAt]]
  rfl

/-- The second output array after the last point. -/
theorem array_gate : (dats m 0 c).arrAt 8 cfg0.N = targetGate m c := by
  refine (dats m 0 c).arrAt_eq_of_covers 8 _ (by decide +kernel) fun t hf y => ?_
  obtain ⟨p, d, rfl⟩ : ∃ (p : Fin 512) (d : Fin 128), y = ix2 p d := ⟨y 0, y 1, by funext a; match a with | ⟨0, _⟩ => rfl | ⟨1, _⟩ => rfl⟩
  have e := (blockIdx t).2.2.2.2.2.2.2.2
  blk_simp
  rw [after8, gatesOf_point]
  rw [show (win0_8.blk t).view.emb (ix2 p d) = ix2 (rowAt t p) d by blk_ext [e, rowAt]]
  rfl

end Cert.Proof.Inp
end
-- ==== Proof.InpReference.lean ====
/- The input projection's reference at a place of each of its two results. -/
module

public import proofs.«01_k».proof.Proof.Gen.Reference4Ideal.Run
public import proofs.«01_k».proof.Proof.MlpReference
public import proofs.«01_k».proof.Proof.InpSpec

@[expose] public section

set_option maxRecDepth 16384

noncomputable section

open Idealize.ShloMosaic Idealize.ShloMosaic.TcCoe Idealize.SL.Sem

namespace Cert.Proof.Inp
open Cert.Reference4Ideal Cert.Reference4Ideal.Gen

/-- The first 8192 rows, sample by sample. -/
def latIn (X : FVec Ideal S9216x4096 .f32) : FVec Ideal S4x2048x4096 .f32 :=
  shapeCast S4x2048x4096 (extractStridedSlice S8192x4096 ![0, 0] X slices_S9216x4096_S8192x4096_0_0) shapeCasts_S8192x4096_S4x2048x4096

/-- The 1024 rows after them. -/
def ctxIn (X : FVec Ideal S9216x4096 .f32) : FVec Ideal S4x256x4096 .f32 :=
  shapeCast S4x256x4096 (extractStridedSlice S1024x4096 ![8192, 0] X slices_S9216x4096_S1024x4096_8192_0) shapeCasts_S1024x4096_S4x256x4096

/-- The column of reciprocal root mean squares of the later rows. -/
def ctxRstd (Y : FVec Ideal S4x256x4096 .f32) : FVec Ideal S4x256x1 .f32 :=
  Host.rsqrt (addf (Host.divf (broadcastInDim S4x256x1 ![0, 1] bcast_S4x256_S4x256x1_0_1 (Host.reduceAdd (mulf Y Y) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))

/-- The fifth row of a table. -/
def fifth (T : FVec Ideal S8x1x4096 .f32) : FVec Ideal S1x4096 .f32 :=
  shapeCast S1x4096 (extractStridedSlice S1x1x4096 ![4, 0, 0] T slices_S8x1x4096_S1x1x4096_4_0_0) shapeCasts_S1x1x4096_S1x4096

/-- One row over all the later rows. -/
def ctxSpread (v : FVec Ideal S1x4096 .f32) : FVec Ideal S4x256x4096 .f32 :=
  broadcastInDim S4x256x4096 ![0, 1, 2] bcast_S1x1x4096_S4x256x4096_0_1_2 (broadcastInDim S1x1x4096 ![1, 2] bcast_S1x4096_S1x1x4096_1_2 v)

/-- The later rows normed and modulated. -/
def ctxMod (Y : FVec Ideal S4x256x4096 .f32) (g : FVec Ideal S4096 .f32) (sh sc : FVec Ideal S8x1x4096 .f32) : FVec Ideal S4x256x4096 .f32 :=
  addf (mulf (mulf (mulf Y (broadcastInDim S4x256x4096 ![0, 1, 2] bcast_S4x256x1_S4x256x4096_0_1_2 (ctxRstd Y))) (broadcastInDim S4x256x4096 ![0, 1, 2] bcast_S1x1x4096_S4x256x4096_0_1_2 (broadcastInDim S1x1x4096 ![2] bcast_S4096_S1x1x4096_2 g)))
    (ctxSpread (addf (broadcastInDim S1x4096 ![] bcast_S_S1x4096 (constant S_ .f32 0x3F800000#32)) (fifth sc)))) (ctxSpread (fifth sh))

/-- All the rows normed and modulated. -/
def refRows (X : FVec Ideal S9216x4096 .f32) (g : FVec Ideal S4096 .f32) (sh sc : FVec Ideal S8x1x4096 .f32) : FVec Ideal S9216x4096 .f32 :=
  concatenate S9216x4096 0 [⟨S8192x4096, shapeCast S8192x4096 (Mlp.refMod (latIn X) g sh sc) shapeCasts_S4x2048x4096_S8192x4096⟩, ⟨S1024x4096, shapeCast S1024x4096 (ctxMod (ctxIn X) g sh sc) shapeCasts_S4x256x4096_S1024x4096⟩] concatenates_S8192x4096_S1024x4096_S9216x4096_d0

/-- Their product with the weight. -/
def refProd (U : FVec Ideal S9216x4096 .f32) (W : FVec Ideal S4096x12320 .f32) : FVec Ideal S9216x12320 .f32 :=
  Host.dotGeneral dot_S9216x4096_S4096x12320_S9216x12320_1_0_0_1_n_n none U W

/-- The first result: the first 12288 columns. -/
def refProj (P : FVec Ideal S9216x12320 .f32) : FVec Ideal S9216x12288 .bf16 :=
  truncf .bf16 (extractStridedSlice S9216x12288 ![0, 0] P slices_S9216x12320_S9216x12288_0_0) bitsLt_bf16_f32

/-- The second: the last 32 columns with the bias, padded with zeros to 128. -/
def refGate (P : FVec Ideal S9216x12320 .f32) (b : FVec Ideal S32 .f32) : FVec Ideal S9216x128 .f32 :=
  pad S9216x128 ![0, 0] ![0, 96] ![0, 0] (addf (extractStridedSlice S9216x32 ![0, 12288] P slices_S9216x12320_S9216x32_0_12288) (broadcastInDim S9216x32 ![0, 1] bcast_S1x32_S9216x32_0_1 (broadcastInDim S1x32 ![1] bcast_S32_S1x32_1 b))) (sitofp .f32 (constantI S_ 32 0#32)) pads_S9216x32_S9216x128_000_0960 h_S_

theorem latIn_point (X : FVec Ideal S9216x4096 .f32) (b : Fin 4) (s : Fin 2048) (k : Fin 4096) :
    latIn X (ix3 b s k) = X (ix2 ⟨b.val * 2048 + s.val, by omega⟩ k) := by
  pointwise [latIn]

theorem ctxIn_point (X : FVec Ideal S9216x4096 .f32) (b : Fin 4) (s : Fin 256) (k : Fin 4096) :
    ctxIn X (ix3 b s k) = X (ix2 ⟨8192 + (b.val * 256 + s.val), by omega⟩ k) := by
  pointwise [ctxIn]

theorem ctxRstd_point (Y : FVec Ideal S4x256x4096 .f32) (b : Fin 4) (s : Fin 256) :
    ctxRstd Y (ix3 b s 0) = Mlp.rowRstd fun k => Y (ix3 b s k) := by
  pointwise [ctxRstd]
  rfl

theorem fifth_point (T : FVec Ideal S8x1x4096 .f32) (k : Fin 4096) : fifth T (ix2 0 k) = T (ix3 4 0 k) := by
  pointwise [fifth]

theorem ctxSpread_point (v : FVec Ideal S1x4096 .f32) (b : Fin 4) (s : Fin 256) (k : Fin 4096) : ctxSpread v (ix3 b s k) = v (ix2 0 k) := by
  pointwise [ctxSpread]

theorem ctxMod_point (Y : FVec Ideal S4x256x4096 .f32) (g : FVec Ideal S4096 .f32) (sh sc : FVec Ideal S8x1x4096 .f32) (b : Fin 4) (s : Fin 256) (d : Fin 4096) :
    ctxMod Y g sh sc (ix3 b s d) = Mlp.rowMod (fun k => Y (ix3 b s k)) (fun k => g (ix1 k)) (fun k => sh (ix3 4 0 k)) (fun k => sc (ix3 4 0 k)) d := by
  pointwise [ctxMod, ctxRstd_point, ctxSpread_point, fifth_point]
  rfl

/-- A row of the flat array is a row of a group of 256. -/
theorem flatCtx_point (Y : FVec Ideal S4x256x4096 .f32) (r : Fin 1024) (d : Fin 4096) :
    shapeCast S1024x4096 Y shapeCasts_S4x256x4096_S1024x4096 (ix2 r d) = Y (ix3 ⟨r.val / 256, by omega⟩ ⟨r.val % 256, by omega⟩ d) := by
  pointwise []

theorem refRows_low (X : FVec Ideal S9216x4096 .f32) (g : FVec Ideal S4096 .f32) (sh sc : FVec Ideal S8x1x4096 .f32) (r : Fin 9216) (h : r.val < 8192) (k : Fin 4096) :
    refRows X g sh sc (ix2 r k) = rowIn X g sh sc r k := by
  refine (concatenate_pair_apply_left (t := S9216x4096) (s₁ := S8192x4096) (s₂ := S1024x4096) (0 : Fin 2) _ _ concatenates_S8192x4096_S1024x4096_S9216x4096_d0
    (ix2 r k) rfl (ix2 (⟨r.val, h⟩ : Fin 8192) k) fun b => match b with | ⟨0, _⟩ => rfl | ⟨1, _⟩ => rfl).trans ?_
  refine (Mlp.flat_point (Mlp.refMod (latIn X) g sh sc) ⟨r.val, h⟩ k).trans ?_
  refine (Mlp.refMod_point _ _ _ _ _ _ _).trans ?_
  have hr : ∀ h', (⟨(Mlp.sampleOf ⟨r.val, h⟩).val * 2048 + (Mlp.tokenOf ⟨r.val, h⟩).val, h'⟩ : Fin 9216) = r := fun h' =>
    Fin.ext (by simp only [Mlp.sampleOf, Mlp.tokenOf]; omega)
  have ht : (Mlp.sampleOf ⟨r.val, h⟩).castLE (by decide) = tableRow r := Fin.ext (by
    simp only [Mlp.sampleOf, tableRow, Fin.val_castLE]; omega)
  simp only [latIn_point, hr, ht]
  rfl

theorem refRows_high (X : FVec Ideal S9216x4096 .f32) (g : FVec Ideal S4096 .f32) (sh sc : FVec Ideal S8x1x4096 .f32) (r : Fin 9216) (h : ¬r.val < 8192) (k : Fin 4096) :
    refRows X g sh sc (ix2 r k) = rowIn X g sh sc r k := by
  have hl := r.isLt
  refine (concatenate_pair_apply_right (t := S9216x4096) (s₁ := S8192x4096) (s₂ := S1024x4096) (0 : Fin 2) _ _ concatenates_S8192x4096_S1024x4096_S9216x4096_d0
    (ix2 r k) rfl rfl (ix2 (⟨r.val - 8192, by omega⟩ : Fin 1024) k) (fun b hb => match b with | ⟨0, _⟩ => absurd rfl hb | ⟨1, _⟩ => rfl) (Nat.sub_add_cancel (Nat.le_of_not_lt h))).trans ?_
  refine (flatCtx_point (ctxMod (ctxIn X) g sh sc) ⟨r.val - 8192, by omega⟩ k).trans ?_
  refine (ctxMod_point _ _ _ _ _ _ _).trans ?_
  have hr : ∀ h', (⟨8192 + ((r.val - 8192) / 256 * 256 + (r.val - 8192) % 256), h'⟩ : Fin 9216) = r := fun h' =>
    Fin.ext (by simp only; omega)
  have ht : (4 : Fin 8) = tableRow r := Fin.ext (by show 4 = min (r.val / 2048) 4; omega)
  simp only [ctxIn_point, hr, ht]
  rfl

theorem refRows_point (X : FVec Ideal S9216x4096 .f32) (g : FVec Ideal S4096 .f32) (sh sc : FVec Ideal S8x1x4096 .f32) (r : Fin 9216) (k : Fin 4096) :
    refRows X g sh sc (ix2 r k) = rowIn X g sh sc r k := by
  by_cases h : r.val < 8192
  · exact refRows_low X g sh sc r h k
  · exact refRows_high X g sh sc r h k

theorem refProd_point (U : FVec Ideal S9216x4096 .f32) (W : FVec Ideal S4096x12320 .f32) (r : Fin 9216) (q : Fin 12320) :
    refProd U W (ix2 r q) = rowTimes (fun k => U (ix2 r k)) W q := by
  pointwise [refProd]
  rfl

theorem refProj_point (P : FVec Ideal S9216x12320 .f32) (r : Fin 9216) (q : Fin 12288) :
    refProj P (ix2 r q) = P (ix2 r ⟨q.val, by omega⟩) := by
  pointwise [refProj]

theorem refGate_point (P : FVec Ideal S9216x12320 .f32) (b : FVec Ideal S32 .f32) (r : Fin 9216) (q : Fin 128) :
    refGate P b (ix2 r q) = if h : q.val < 32 then P (ix2 r ⟨12288 + q.val, by omega⟩) + b (ix1 ⟨q.val, h⟩) else 0 := by
  pointwise [refGate, pad_zero]

/-- The first result at a place. -/
theorem ref_proj (X : FVec Ideal S9216x4096 .f32) (g : FVec Ideal S4096 .f32) (sh sc : FVec Ideal S8x1x4096 .f32) (W : FVec Ideal S4096x12320 .f32)
    (r : Fin 9216) (q : Fin 12288) : refProj (refProd (refRows X g sh sc) W) (ix2 r q) = projAt (rowIn X g sh sc r) W q := by
  rw [refProj_point, refProd_point, funext (refRows_point X g sh sc r)]
  rfl

/-- The second result at a place. -/
theorem ref_gate (X : FVec Ideal S9216x4096 .f32) (g : FVec Ideal S4096 .f32) (sh sc : FVec Ideal S8x1x4096 .f32) (W : FVec Ideal S4096x12320 .f32)
    (b : FVec Ideal S32 .f32) (r : Fin 9216) (q : Fin 128) :
    refGate (refProd (refRows X g sh sc) W) b (ix2 r q) = gateAt (rowIn X g sh sc r) W b q := by
  rw [refGate_point]
  unfold gateAt
  split
  · rw [refProd_point, funext (refRows_point X g sh sc r)]
  · rfl

/-- What the run ends with is the two results above. -/
theorem res_gate (m : (ℓ : Loc nD τ sig) → Buf (Elt Ideal) ℓ) (c : Dev nD) :
    Value.res_main_v60 m c = refGate (refProd (refRows (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)))
      (m ((c.tc : Thread nD τ).loc main_arg5)) := rfl

end Cert.Proof.Inp
end
-- ==== Proof.InpClaim.lean ====
/- The input projection and its reference end with equal results. -/
module

public import proofs.«01_k».proof.Defs
public import proofs.«01_k».proof.Proof.InpValue
public import proofs.«01_k».proof.Proof.InpReference

@[expose] public section

set_option maxRecDepth 16384

noncomputable section

open Idealize.ShloMosaic Idealize.ShloMosaic.TcCoe Idealize.SL.Sem
open Idealize.ShloMosaic.Pipeline (Dat)

namespace Cert.Proof.Inp

section
open Cert.Kernel4Ideal Cert.Kernel4Ideal.Gen

/-- The kernel program's run: the results are the rows' projections and gates, the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = targetProj m c
      ∧ r.2.mem ((c.tc : Thread nD τ).loc main_v6_1) = targetGate m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 7).trans (array_proj m c),
      ((h c).1 8).trans (array_gate m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)
end

/-- From memories agreeing on the arguments the two programs end with the same two arrays. -/
theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => targetProj m c, fun c => targetGate m c, kernel_run m g, ?_⟩
  refine (θ_run Cert.Reference4Ideal.defs _ _).mono (fun r h c => ⟨(h c).1.trans ?_, (h c).2.1.trans ?_, (h c).2.2⟩)
    (Cert.Reference4Ideal.Value.run (F := Ideal) m' g')
  · obtain ⟨e0, e1, e2, e3, e4, e5⟩ := hag c
    funext y
    obtain ⟨p, d, rfl⟩ : ∃ (p : Fin 9216) (d : Fin 12288), y = ix2 p d := ⟨y 0, y 1, by funext a; match a with | ⟨0, _⟩ => rfl | ⟨1, _⟩ => rfl⟩
    refine (ref_proj _ _ _ _ _ p d).trans ?_
    rw [e0, e1, e2, e3, e4]
    rfl
  · obtain ⟨e0, e1, e2, e3, e4, e5⟩ := hag c
    refine (res_gate m' c).trans ?_
    funext y
    obtain ⟨p, d, rfl⟩ : ∃ (p : Fin 9216) (d : Fin 128), y = ix2 p d := ⟨y 0, y 1, by funext a; match a with | ⟨0, _⟩ => rfl | ⟨1, _⟩ => rfl⟩
    refine (ref_gate _ _ _ _ _ _ p d).trans ?_
    rw [e0, e1, e2, e3, e4, e5]
    rfl

end Cert.Proof.Inp
end
-- ==== Proof.LowSpec.lean ====
/- Three products of a row with a narrow factor, one per group: the decays, the rates and the gates. -/
module

public import proofs.«01_k».proof.Proof.Gen.Kernel5Ideal.Frame
public import proofs.«01_k».proof.Proof.MlpEntry
public import Idealize.ShloMosaic.Lib.Pipeline.ReadBack
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.Proof.Low

open Cert.Kernel5Ideal Cert.Kernel5Ideal.Gen

/-- Group `g`'s product at row `r`, column `d`: the row from the last three of the six groups of rows. -/
def lowAt (X : Vec Ideal S6x9216x4096 .bf16) (W : Fin 3 → Fin 4096 → Fin 512 → EReal) (g : Fin 3) (r : Fin 9216) (d : Fin 512) : EReal :=
  ∑ k : Fin 4096, X (ix3 ⟨3 + g.val, by omega⟩ r k) * W g k d

/-- Column `d` of two factors of 128 columns side by side, zero past them. -/
def pairAt (A : FVec Ideal S2x4096x128 .f32) (k : Fin 4096) (d : Fin 512) : EReal :=
  if h : d.val < 128 then A (ix3 0 k ⟨d.val, h⟩) else if h : d.val < 256 then A (ix3 1 k ⟨d.val - 128, by omega⟩) else 0

/-- Column `d` of one factor of 480 columns, zero past them. -/
def gateAt (G : FVec Ideal S4096x480 .f32) (k : Fin 4096) (d : Fin 512) : EReal :=
  if h : d.val < 480 then G (ix2 k ⟨d.val, h⟩) else 0

/-- The three groups' factors. -/
def factorAt (A B : FVec Ideal S2x4096x128 .f32) (G : FVec Ideal S4096x480 .f32) (g : Fin 3) (k : Fin 4096) (d : Fin 512) : EReal :=
  if g.val = 0 then pairAt A k d else if g.val = 1 then pairAt B k d else gateAt G k d

/-- A weight block without its leading coordinate. -/
def flatBlock (w : Vec Ideal S1x4096x512 .bf16) : Vec Ideal S4096x512 .bf16 := fun j => w (ix3 0 (j 0) (j 1))

theorem offs : ∀ k : Fin k0_t1_loop.trips, k0_off1 k = ![0, 256 * k.val, 0] ∧ k0_off2 k = ![256 * k.val, 0] := by decide +kernel

variable (𝒱 : Variants) (c : Dev nD) (bd : Option 𝒱.V) (i : grid0.Coords) (arg3 : Memref sig .tc .vmem S1x512x4096 .bf16)
    (harg3 : arg3.IsWhole) (arg4 : Memref sig .tc .vmem S1x4096x512 .bf16) (harg4 : arg4.IsWhole)
    (arg5 : Memref sig .tc .vmem S1x512x512 .f32) (harg5 : arg5.IsWhole) (arg6 : Memref sig .tc .vmem S4096x512 .bf16)
    (harg6 : arg6.IsWhole)

/-- Trip `k` copies 256 rows of the weight block. -/
theorem copy_pieces (h1 : k0_cond1 i = 1#1) (w : Vec Ideal S1x4096x512 .bf16) (k : Fin k0_t1_loop.trips) :
    View.PiecesOf (flatBlock w)
      (tripL_k0_t1 (F := Ideal) 𝒱 c bd i arg3 harg3 arg4 harg4 arg5 harg5 arg6 harg6 h1 (harg4.unread w) k) := by
  unfold tripL_k0_t1 trip_k0_t1
  frame_open
  obtain ⟨o1, o2⟩ := offs k
  simp only [View.PiecesOf, View.readAt_eq_ld, Memref.IsWhole.read_unread]
  have hk : k.val < 16 := k.isLt
  refine ⟨fun x => ?_, trivial⟩
  obtain ⟨p, q, rfl⟩ : ∃ (p : Fin 256) (q : Fin 512), x = ix2 p q := ⟨x 0, x 1, by funext a; match a with | ⟨0, _⟩ => rfl | ⟨1, _⟩ => rfl⟩
  pointwise [k0_pay1, flatBlock]
  refine congrArg w (funext fun a => Fin.ext ?_)
  match a with
  | ⟨0, _⟩ => simp [o1, ix3]
  | ⟨1, _⟩ => simp [o1, o2, ix3, ix2]
  | ⟨2, _⟩ => simp [o1, o2, ix3, ix2]

/-- So do the trips before trip `n`. -/
theorem copies_before (h1 : k0_cond1 i = 1#1) (w : Vec Ideal S1x4096x512 .bf16) : ∀ n, n ≤ k0_t1_loop.trips → View.PiecesOf (flatBlock w)
      (pb_k0_t1 (F := Ideal) 𝒱 c bd i arg3 harg3 arg4 harg4 arg5 harg5 arg6 harg6 h1 (harg4.unread w) n)
  | 0, _ => trivial
  | n + 1, hn => by
    rw [pb_k0_t1_succ (F := Ideal) 𝒱 c bd i arg3 harg3 arg4 harg4 arg5 harg5 arg6 harg6 h1 _ ⟨n, hn⟩]
    exact Mlp.piecesOf_append (copy_pieces _ _ _ _ _ _ _ _ _ _ _ _ h1 w ⟨n, hn⟩) (copies_before h1 w n (Nat.le_of_succ_le hn))

/-- The sixteen trips copy the whole weight block. -/
theorem copies_canon (h1 : k0_cond1 i = 1#1) (w : Vec Ideal S1x4096x512 .bf16) (y : S4096x512.Idx) :
    View.canon (pb_k0_t1 (F := Ideal) 𝒱 c bd i arg3 harg3 arg4 harg4 arg5 harg5 arg6 harg6 h1 (harg4.unread w)
      (Scf.trips k0_t1_loop.lb k0_t1_loop.ub k0_t1_loop.st)) y = flatBlock w y := by
  have hc := View.cover_of_tiledL (pb_k0_t1 (F := Ideal) 𝒱 c bd i arg3 harg3 arg4 harg4 arg5 harg5 arg6 harg6 h1 (harg4.unread w)
      (Scf.trips k0_t1_loop.lb k0_t1_loop.ub k0_t1_loop.st)) S256x512.size (by sl_kernel_rfl) y
  have h := View.canon_append_of_piecesOf (flatBlock w) [] _
    (copies_before 𝒱 c bd i arg3 harg3 arg4 harg4 arg5 harg5 arg6 harg6 h1 w _ (le_refl _)) y hc
  rwa [List.append_nil] at h

/-- A point's product, entry by entry. -/
theorem product_point (x : Vec Ideal S1x512x4096 .bf16) (w : Vec Ideal S4096x512 .bf16) (p : Fin 512) (q : Fin 512) :
    k0_pay2 x w (ix3 0 p q) = ∑ k : Fin 4096, x (ix3 0 p k) * w (ix2 k q) := by
  pointwise [k0_pay2]

end Cert.Proof.Low
end
-- ==== Proof.LowEntry.lean ====
/- The narrow factors as the call receives them: padded to 512 columns and stacked. -/
module

public import proofs.«01_k».proof.Proof.LowSpec
public import proofs.«01_k».proof.Proof.InpSpec
public import Idealize.ShloMosaic.Lib.StableHlo.Run

@[expose] public section

set_option maxRecDepth 16384

noncomputable section

open Idealize.ShloMosaic Idealize.ShloMosaic.TcCoe Idealize.SL.Sem

namespace Cert.Proof.Low
open Cert.Kernel5Ideal Cert.Kernel5Ideal.Gen
open Cert.Proof.Inp (pad_zero)

/-- Two factors side by side, padded with zeros. -/
def pairWide (A : FVec Ideal S2x4096x128 .f32) : FVec Ideal S4096x512 .f32 :=
  pad S4096x512 ![0, 0] ![0, 256] ![0, 0] (concatenate S4096x256 1
    [⟨S4096x128, shapeCast S4096x128 (extractStridedSlice S1x4096x128 ![0, 0, 0] (pad S2x4096x128 ![0, 0, 0] ![0, 0, 0] ![0, 0, 0] A (sitofp .f32 (constantI S_ 32 0#32)) pads_S2x4096x128_S2x4096x128_000_000_000 h_S_) slices_S2x4096x128_S1x4096x128_0_0_0) shapeCasts_S1x4096x128_S4096x128⟩,
     ⟨S4096x128, shapeCast S4096x128 (extractStridedSlice S1x4096x128 ![1, 0, 0] (pad S2x4096x128 ![0, 0, 0] ![0, 0, 0] ![0, 0, 0] A (sitofp .f32 (constantI S_ 32 0#32)) pads_S2x4096x128_S2x4096x128_000_000_000 h_S_) slices_S2x4096x128_S1x4096x128_1_0_0) shapeCasts_S1x4096x128_S4096x128⟩]
    concatenates_S4096x128_S4096x128_S4096x256_d1) (sitofp .f32 (constantI S_ 32 0#32)) pads_S4096x256_S4096x512_000_02560 h_S_

/-- One factor padded with zeros. -/
def gateWide (G : FVec Ideal S4096x480 .f32) : FVec Ideal S4096x512 .f32 :=
  pad S4096x512 ![0, 0] ![0, 32] ![0, 0] G (sitofp .f32 (constantI S_ 32 0#32)) pads_S4096x480_S4096x512_000_0320 h_S_

/-- The three stacked, cast. -/
def factors (A B : FVec Ideal S2x4096x128 .f32) (G : FVec Ideal S4096x480 .f32) : FVec Ideal S3x4096x512 .bf16 :=
  truncf .bf16 (concatenate S3x4096x512 0
    [⟨S1x4096x512, broadcastInDim S1x4096x512 ![1, 2] bcast_S4096x512_S1x4096x512_1_2 (pairWide A)⟩,
     ⟨S1x4096x512, broadcastInDim S1x4096x512 ![1, 2] bcast_S4096x512_S1x4096x512_1_2 (pairWide B)⟩,
     ⟨S1x4096x512, broadcastInDim S1x4096x512 ![1, 2] bcast_S4096x512_S1x4096x512_1_2 (gateWide G)⟩]
    concatenates_S1x4096x512_S1x4096x512_S1x4096x512_S3x4096x512_d0) bitsLt_bf16_f32

theorem pairWide_point (A : FVec Ideal S2x4096x128 .f32) (k : Fin 4096) (d : Fin 512) : pairWide A (ix2 k d) = pairAt A k d := by
  unfold pairAt
  by_cases h1 : d.val < 128
  · have h2 : d.val < 256 := by omega
    pointwise [pairWide, h1, h2]
  · by_cases h2 : d.val < 256
    · have h3 : d.val - 128 < 128 := by omega
      pointwise [pairWide, h1, h2, h3]
    · pointwise [pairWide, h1, h2]
      rw [pad_zero]

theorem gateWide_point (G : FVec Ideal S4096x480 .f32) (k : Fin 4096) (d : Fin 512) : gateWide G (ix2 k d) = gateAt G k d := by
  pointwise [gateWide, gateAt]
  rw [pad_zero]

theorem factors_point (A B : FVec Ideal S2x4096x128 .f32) (G : FVec Ideal S4096x480 .f32) (g : Fin 3) (k : Fin 4096) (d : Fin 512) :
    factors A B G (ix3 g k d) = factorAt A B G g k d := by
  fin_cases g <;> pointwise [factors, factorAt, pairWide_point, gateWide_point]

variable (m : (ℓ : Loc nD τ sig) → Buf (Elt Ideal) ℓ) (c : Dev nD)

theorem V_main_v19 : V m c main_v19 = factors (m ((c.tc : Thread nD τ).loc main_arg1)) (m ((c.tc : Thread nD τ).loc main_arg2)) (m ((c.tc : Thread nD τ).loc main_arg3)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append, StableHlo.TRef.binary, StableHlo.TRef.unary, StableHlo.TRef.toBuf, StableHlo.TRef.ofBuf, cast_eq]
  after_results_simp <;> rfl

end Cert.Proof.Low
end
-- ==== Proof.LowValue.lean ====
/- What the output array of the narrow products holds after the last point. -/
module

public import proofs.«01_k».proof.Proof.LowEntry

@[expose] public section

set_option maxRecDepth 16384

noncomputable section

open Idealize.ShloMosaic Idealize.ShloMosaic.TcCoe Idealize.SL.Sem
open Idealize.ShloMosaic.Pipeline (Dat)

namespace Cert.Proof.Low
open Cert.Kernel5Ideal Cert.Kernel5Ideal.Gen

variable (m : (ℓ : Loc nD τ sig) → Buf (Elt Ideal) ℓ) (c : Dev nD)

/-- A point's group is its quotient by 18, its row block the remainder. -/
theorem blockIdx : ∀ t : Fin cfg0.N,
    win0_0.index t = ![3 + t.val / 18, t.val % 18, 0] ∧ win0_1.index t = ![t.val / 18, 0, 0] ∧
    win0_2.index t = ![t.val / 18, t.val % 18, 0] :=
  (by decide +kernel : ∀ t : Fin grid0.N, _)

/-- The group a point works on. -/
def groupOf (t : Fin cfg0.N) : Fin 3 := ⟨t.val / 18, by have h : t.val < 54 := t.isLt; omega⟩

/-- The row of the group that row `p` of the point's block is. -/
def rowOf (t : Fin cfg0.N) (p : Fin 512) : Fin 9216 := ⟨512 * (t.val % 18) + p.val, by have := p.isLt; omega⟩

/-- The factors' column, from the arguments. -/
def factorOf (g : Fin 3) (k : Fin 4096) (d : Fin 512) : EReal :=
  factorAt (m ((c.tc : Thread nD τ).loc main_arg1)) (m ((c.tc : Thread nD τ).loc main_arg2)) (m ((c.tc : Thread nD τ).loc main_arg3)) g k d

theorem rows_at (t : Fin cfg0.N) (p : Fin 512) (k : Fin 4096) :
    iblk m c 0 t (ix3 0 p k) = m ((c.tc : Thread nD τ).loc main_arg0) (ix3 ⟨3 + (groupOf t).val, by omega⟩ (rowOf t p) k) := by
  have e := (blockIdx t).1
  blk_simp [iblk, e, V_main_arg0]
  rw [show (win0_0.blk t).view.emb (ix3 0 p k) = ix3 (⟨3 + (groupOf t).val, by omega⟩ : Fin 6) (rowOf t p) k by
    blk_ext [e, groupOf, rowOf]]
  exact congrFun (V_main_arg0 m c) _

theorem weights_at (t : Fin cfg0.N) (k : Fin 4096) (q : Fin 512) :
    iblk m c 1 t (ix3 0 k q) = factorOf m c (groupOf t) k q := by
  have e := (blockIdx t).2.1
  blk_simp [iblk, e]
  rw [show (win0_1.blk t).view.emb (ix3 0 k q) = ix3 (groupOf t) k q by blk_ext [e, groupOf]]
  exact (congrFun (V_main_v19 m c) _).trans (factors_point _ _ _ _ _ _)

/-- The weight block kept over the points of one group. -/
def kept (t : Fin cfg0.N) : Vec Ideal S4096x512 .bf16 := flatBlock (iblk m c 1 t)

theorem kept_point (t : Fin cfg0.N) (k : Fin 4096) (q : Fin 512) :
    kept m c t (ix2 k q) = factorOf m c (groupOf t) k q := weights_at m c t k q

theorem kept_congr (t s : Fin cfg0.N) (h : t.val / 18 = s.val / 18) : kept m c t = kept m c s := by
  have hg : groupOf t = groupOf s := Fin.ext (by simp only [groupOf]; omega)
  funext y
  obtain ⟨k, q, rfl⟩ : ∃ (k : Fin 4096) (q : Fin 512), y = ix2 k q := ⟨y 0, y 1, by funext a; match a with | ⟨0, _⟩ => rfl | ⟨1, _⟩ => rfl⟩
  rw [kept_point, kept_point, hg]

theorem first_scratch (t : Fin cfg0.N) (h0 : t.val % 18 = 0) : (outsAt0 m c t.val t.isLt).2 = kept m c t := by
  rw [outsAt0_A m c t h0]
  funext y
  frame_out
  exact copies_canon ..

theorem carried_scratch (t : Fin cfg0.N) (h0 : ¬t.val % 18 = 0) :
    (outsAt0 m c t.val t.isLt).2 = (outsAt0 m c (t.val - 1) (Nat.lt_of_le_of_lt (Nat.sub_le _ _) t.isLt)).2 := by
  rw [outsAt0_B m c t h0]
  rfl

/-- Every point leaves its weight block in the scratch. -/
theorem scratch_eq (n : ℕ) : ∀ h : n < cfg0.N, (outsAt0 m c n h).2 = kept m c ⟨n, h⟩ := by
  induction n with
  | zero => exact fun h => first_scratch m c ⟨0, h⟩ rfl
  | succ n ih =>
    intro h
    by_cases h0 : (n + 1) % 18 = 0
    · exact first_scratch m c ⟨n + 1, h⟩ h0
    · refine (carried_scratch m c ⟨n + 1, h⟩ h0).trans ((ih (by omega)).trans (kept_congr m c _ _ ?_))
      show n / 18 = (n + 1) / 18
      omega

/-- The rows a point multiplies. -/
def rowsAt (t : Fin cfg0.N) : Vec Ideal S1x512x4096 .bf16 := iblk m c 0 t

/-- A point's output block is the product of its rows with the kept weight block. -/
theorem out_eq (t : Fin cfg0.N) (p : Fin 512) (q : Fin 512) :
    (outsAt0 m c t.val t.isLt).1 (ix3 0 p q) = ∑ k : Fin 4096, rowsAt m c t (ix3 0 p k) * kept m c t (ix2 k q) := by
  by_cases h0 : t.val % 18 = 0
  · rw [outsAt0_A m c t h0]
    frame_out
    rw [View.readCov_eq_canon']
    refine (product_point _ _ p q).trans (Finset.sum_congr rfl fun k _ => congrArg (rowsAt m c t (ix3 0 p k) * ·) ?_)
    have e : (Rect.unit (s := S4096x512) ![0, 0] ![4096, 512] inb_S4096x512_S4096x512_0_0).idx (ix2 k q) = ix2 k q := by
      funext a
      match a with
      | ⟨0, _⟩ => exact Fin.ext ((Rect.idx_unit_val ..).trans (Nat.zero_add _))
      | ⟨1, _⟩ => exact Fin.ext ((Rect.idx_unit_val ..).trans (Nat.zero_add _))
    exact (congrArg _ e).trans (copies_canon ..)
  · have hs := (carried_scratch m c t h0).symm.trans (scratch_eq m c t.val t.isLt)
    rw [outsAt0_B m c t h0]
    frame_out
    refine (product_point _ _ p q).trans ?_
    rw [read_unread_whole, hs]
    rfl

/-- The stacked products, from the arguments. -/
def target (y : S3x9216x512.Idx) : EReal :=
  lowAt (m ((c.tc : Thread nD τ).loc main_arg0)) (factorOf m c) (y 0) (y 1) (y 2)

theorem array_eq : (dats m 0 c).arrAt 2 cfg0.N = target m c := by
  refine (dats m 0 c).arrAt_eq_of_covers 2 _ (by decide +kernel) fun t hf y => ?_
  obtain ⟨z, p, q, rfl⟩ : ∃ (z : Fin 1) (p : Fin 512) (q : Fin 512), y = ix3 z p q :=
    ⟨y 0, y 1, y 2, by funext a; match a with | ⟨0, _⟩ => rfl | ⟨1, _⟩ => rfl | ⟨2, _⟩ => rfl⟩
  obtain rfl : z = 0 := Subsingleton.elim _ _
  have e := (blockIdx t).2.2
  blk_simp
  rw [after0_2, out_eq]
  rw [show (win0_2.blk t).view.emb (ix3 0 p q) = ix3 (groupOf t) (rowOf t p) q by blk_ext [e, groupOf, rowOf]]
  simp only [rowsAt, rows_at, kept_point]
  rfl

end Cert.Proof.Low
end
-- ==== Proof.LowReference.lean ====
module

public import proofs.«01_k».proof.Proof.LowSpec
public import proofs.«01_k».proof.Proof.InpSpec
public import proofs.«01_k».proof.Proof.Gen.Reference5Ideal.Run

@[expose] public section

set_option maxRecDepth 16384

noncomputable section

open Idealize.ShloMosaic Idealize.ShloMosaic.TcCoe Idealize.SL.Sem

namespace Cert.Proof.Low
open Cert.Reference5Ideal Cert.Reference5Ideal.Gen
open Cert.Proof.Inp (pad_zero)

/-- A group's rows, widened to f32. -/
def refFlat (A : FVec Ideal S1x9216x4096 .bf16) : FVec Ideal S9216x4096 .f32 :=
  extf .f32 (shapeCast S9216x4096 A shapeCasts_S1x9216x4096_S9216x4096) bitsLt_bf16_f32

/-- A group's rows times one factor of a pair. -/
def refHalf (A : FVec Ideal S1x9216x4096 .bf16) (B : FVec Ideal S1x4096x128 .f32) : FVec Ideal S9216x128 .f32 :=
  Host.dotGeneral dot_S9216x4096_S4096x128_S9216x128_1_0_0_1_n_n none (refFlat A) (shapeCast S4096x128 B shapeCasts_S1x4096x128_S4096x128)

/-- A group's rows times both factors of a pair, padded with zeros. -/
def refPair (A : FVec Ideal S1x9216x4096 .bf16) (B : FVec Ideal S2x4096x128 .f32) : FVec Ideal S1x9216x512 .f32 :=
  broadcastInDim S1x9216x512 ![1, 2] bcast_S9216x512_S1x9216x512_1_2 (pad S9216x512 ![0, 0] ![0, 256] ![0, 0] (concatenate S9216x256 1
    [⟨S9216x128, refHalf A (extractStridedSlice S1x4096x128 ![0, 0, 0] B slices_S2x4096x128_S1x4096x128_0_0_0)⟩,
     ⟨S9216x128, refHalf A (extractStridedSlice S1x4096x128 ![1, 0, 0] B slices_S2x4096x128_S1x4096x128_1_0_0)⟩]
    concatenates_S9216x128_S9216x128_S9216x256_d1) (sitofp .f32 (constantI S_ 32 0#32)) pads_S9216x256_S9216x512_000_02560 h_S_)

/-- A group's rows times the gates' factor. -/
def refProduct (A : FVec Ideal S1x9216x4096 .bf16) (G : FVec Ideal S4096x480 .f32) : FVec Ideal S9216x480 .f32 :=
  Host.dotGeneral dot_S9216x4096_S4096x480_S9216x480_1_0_0_1_n_n none (refFlat A) G

/-- The same, padded with zeros. -/
def refGate (A : FVec Ideal S1x9216x4096 .bf16) (G : FVec Ideal S4096x480 .f32) : FVec Ideal S1x9216x512 .f32 :=
  broadcastInDim S1x9216x512 ![1, 2] bcast_S9216x512_S1x9216x512_1_2 (pad S9216x512 ![0, 0] ![0, 32] ![0, 0]
    (refProduct A G) (sitofp .f32 (constantI S_ 32 0#32)) pads_S9216x480_S9216x512_000_0320 h_S_)

theorem refHalf_point (A : FVec Ideal S1x9216x4096 .bf16) (B : FVec Ideal S1x4096x128 .f32) (r : Fin 9216) (d : Fin 128) :
    refHalf A B (ix2 r d) = ∑ k : Fin 4096, A (ix3 0 r k) * B (ix3 0 k d) := by
  pointwise [refHalf, refFlat]

theorem refProduct_point (A : FVec Ideal S1x9216x4096 .bf16) (G : FVec Ideal S4096x480 .f32) (r : Fin 9216) (d : Fin 480) :
    refProduct A G (ix2 r d) = ∑ k : Fin 4096, A (ix3 0 r k) * G (ix2 k d) := by
  pointwise [refProduct, refFlat]

theorem refPair_point (A : FVec Ideal S1x9216x4096 .bf16) (B : FVec Ideal S2x4096x128 .f32) (r : Fin 9216) (d : Fin 512) :
    refPair A B (ix3 0 r d) = ∑ k : Fin 4096, A (ix3 0 r k) * pairAt B k d := by
  unfold pairAt
  by_cases h1 : d.val < 128
  · have h2 : d.val < 256 := by omega
    pointwise [refPair, refHalf_point, h1, h2]
  · by_cases h2 : d.val < 256
    · pointwise [refPair, refHalf_point, h1, h2]
    · pointwise [refPair, refHalf_point, h1, h2]
      simp only [pad_zero, mul_zero, Finset.sum_const_zero]

theorem refGate_point (A : FVec Ideal S1x9216x4096 .bf16) (G : FVec Ideal S4096x480 .f32) (r : Fin 9216) (d : Fin 512) :
    refGate A G (ix3 0 r d) = ∑ k : Fin 4096, A (ix3 0 r k) * gateAt G k d := by
  unfold gateAt
  by_cases h : d.val < 480
  · pointwise [refGate, refProduct_point, h]
  · pointwise [refGate, refProduct_point, h]
    simp only [pad_zero, mul_zero, Finset.sum_const_zero]

/-- The three groups stacked. -/
def refStack (X : FVec Ideal S6x9216x4096 .bf16) (A B : FVec Ideal S2x4096x128 .f32) (G : FVec Ideal S4096x480 .f32) : FVec Ideal S3x9216x512 .f32 :=
  concatenate S3x9216x512 0
    [⟨S1x9216x512, refPair (extractStridedSlice S1x9216x4096 ![3, 0, 0] X slices_S6x9216x4096_S1x9216x4096_3_0_0) A⟩,
     ⟨S1x9216x512, refPair (extractStridedSlice S1x9216x4096 ![4, 0, 0] X slices_S6x9216x4096_S1x9216x4096_4_0_0) B⟩,
     ⟨S1x9216x512, refGate (extractStridedSlice S1x9216x4096 ![5, 0, 0] X slices_S6x9216x4096_S1x9216x4096_5_0_0) G⟩]
    concatenates_S1x9216x512_S1x9216x512_S1x9216x512_S3x9216x512_d0

/-- The stack holds the groups' products. -/
theorem refStack_point (X : FVec Ideal S6x9216x4096 .bf16) (A B : FVec Ideal S2x4096x128 .f32) (G : FVec Ideal S4096x480 .f32)
    (g : Fin 3) (r : Fin 9216) (d : Fin 512) : refStack X A B G (ix3 g r d) = lowAt X (factorAt A B G) g r d := by
  fin_cases g <;> pointwise [refStack, lowAt, factorAt, refPair_point, refGate_point]

end Cert.Proof.Low
end
-- ==== Proof.LowClaim.lean ====
/- The call of the narrow products and its reference end with equal results. -/
module

public import proofs.«01_k».proof.Defs
public import proofs.«01_k».proof.Proof.LowValue
public import proofs.«01_k».proof.Proof.LowReference

@[expose] public section

set_option maxRecDepth 16384

noncomputable section

open Idealize.ShloMosaic Idealize.ShloMosaic.TcCoe Idealize.SL.Sem
open Idealize.ShloMosaic.Pipeline (Dat)

namespace Cert.Proof.Low

section
open Cert.Kernel5Ideal Cert.Kernel5Ideal.Gen

/-- The kernel program's run: the result is the stacked products, the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 2).trans (array_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)
end

/-- From memories agreeing on the arguments the two programs end with the same array. -/
theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => target m c, kernel_run m g, ?_⟩
  refine (θ_run Cert.Reference5Ideal.defs _ _).mono (fun r h c => ⟨(h c).1.trans ?_, (h c).2⟩) (Cert.Reference5Ideal.Value.run (F := Ideal) m' g')
  obtain ⟨e0, e1, e2, e3⟩ := hag c
  funext y
  obtain ⟨a, p, d, rfl⟩ : ∃ (a : Fin 3) (p : Fin 9216) (d : Fin 512), y = ix3 a p d :=
    ⟨y 0, y 1, y 2, by funext a; match a with | ⟨0, _⟩ => rfl | ⟨1, _⟩ => rfl | ⟨2, _⟩ => rfl⟩
  refine (refStack_point _ _ _ _ a p d).trans ?_
  rw [e0, e1, e2, e3]
  rfl

end Cert.Proof.Low
end
-- ==== Proof.AdaSpec.lean ====
/- The adaptive modulation tables: each condition's activation times the layer's weight, with the layer's bias. -/
module

public import proofs.«01_k».proof.Proof.Gen.Kernel6Ideal.Frame
public import Idealize.ShloMosaic.Lib.Pipeline.ReadBack
public import Idealize.ShloMosaic.Lib.Pipeline.ValueKit
public import Idealize.ShloMosaic.Lib.Pointwise
public import Idealize.ShloMosaic.Lib.VecWindow
public import Idealize.ShloMosaic.Lib.StableHlo.Run

@[expose] public section

set_option maxRecDepth 16384

noncomputable section

open Idealize.ShloMosaic Idealize.ShloMosaic.TcCoe Idealize.SL.Sem

namespace Cert.Proof.Ada
open Cert.Kernel6Ideal Cert.Kernel6Ideal.Gen

/-- The activation `x / (1 + exp (-x))`. -/
def silu (x : EReal) : EReal := x * (FloatOps.logistic (F := Ideal) (φ := .f32) x : EReal)

/-- Row `r` of the eight conditions: the four samples', the context's, and three rows of zeros. -/
def condAt (C : FVec Ideal S4x4096 .f32) (x : FVec Ideal S4096 .f32) (r : Fin 8) (k : Fin 4096) : EReal :=
  if h : r.val < 4 then C (ix2 ⟨r.val, h⟩ k) else if r.val < 5 then x (ix1 k) else 0

/-- Layer `l`'s table at row `r`, column `d`. -/
def adaAt (u : Fin 8 → Fin 4096 → EReal) (W : FVec Ideal S2x4096x24576 .f32) (b : FVec Ideal S2x24576 .f32) (l : Fin 2) (r : Fin 8) (d : Fin 24576) : EReal :=
  (∑ k : Fin 4096, silu (u r k) * W (ix3 l k d)) + b (ix2 l d)

/-- A point's block, entry by entry. -/
theorem point (x : Vec Ideal S8x4096 .f32) (w : Vec Ideal S1x4096x512 .f32) (b : Vec Ideal S1x1x512 .f32) (r : Fin 8) (q : Fin 512) :
    k0_pay1 x w b (ix3 0 r q) = (∑ k : Fin 4096, silu (x (ix2 r k)) * w (ix3 0 k q)) + b (ix3 0 0 q) := by
  pointwise [k0_pay1, silu]

/-- The eight conditions as the call receives them. -/
def conds (C : FVec Ideal S4x4096 .f32) (x : FVec Ideal S4096 .f32) : FVec Ideal S8x4096 .f32 :=
  concatenate S8x4096 0
    [⟨S4x4096, C⟩, ⟨S1x4096, broadcastInDim S1x4096 ![1] bcast_S4096_S1x4096_1 x⟩,
     ⟨S3x4096, broadcastInDim S3x4096 ![] bcast_S_S3x4096 (constant S_ .f32 0x00000000#32)⟩]
    concatenates_S4x4096_S1x4096_S3x4096_S8x4096_d0

theorem conds_point (C : FVec Ideal S4x4096 .f32) (x : FVec Ideal S4096 .f32) (r : Fin 8) (k : Fin 4096) :
    conds C x (ix2 r k) = condAt C x r k := by
  fin_cases r <;> pointwise [conds, condAt]

/-- The biases as the call receives them. -/
def biases (b : FVec Ideal S2x24576 .f32) : FVec Ideal S2x1x24576 .f32 := shapeCast S2x1x24576 b shapeCasts_S2x24576_S2x1x24576

theorem biases_point (b : FVec Ideal S2x24576 .f32) (l : Fin 2) (d : Fin 24576) : biases b (ix3 l 0 d) = b (ix2 l d) := by
  pointwise [biases]

variable (m : (ℓ : Loc nD τ sig) → Buf (Elt Ideal) ℓ) (c : Dev nD)

theorem V_main_v2 : V m c main_v2 = conds (m ((c.tc : Thread nD τ).loc main_arg0)) (m ((c.tc : Thread nD τ).loc main_arg1)) := by
  simp only [V, hostOps0]
  after_results_simp <;> rfl

theorem V_main_v3 : V m c main_v3 = biases (m ((c.tc : Thread nD τ).loc main_arg3)) := by
  simp only [V, hostOps0]
  after_results_simp <;> rfl

end Cert.Proof.Ada
end
-- ==== Proof.AdaValue.lean ====
/- What the array of the tables holds after the last point. -/
module

public import proofs.«01_k».proof.Proof.AdaSpec

@[expose] public section

set_option maxRecDepth 16384

noncomputable section

open Idealize.ShloMosaic Idealize.ShloMosaic.TcCoe Idealize.SL.Sem
open Idealize.ShloMosaic.Pipeline (Dat)

namespace Cert.Proof.Ada
open Cert.Kernel6Ideal Cert.Kernel6Ideal.Gen

variable (m : (ℓ : Loc nD τ sig) → Buf (Elt Ideal) ℓ) (c : Dev nD)

/-- A point's layer is its quotient by 48, its column block the remainder. -/
theorem blockIdx : ∀ t : Fin cfg0.N,
    win0_0.index t = ![0, 0] ∧ win0_1.index t = ![t.val / 48, 0, t.val % 48] ∧
    win0_2.index t = ![t.val / 48, 0, t.val % 48] ∧ win0_3.index t = ![t.val / 48, 0, t.val % 48] :=
  (by decide +kernel : ∀ t : Fin grid0.N, _)

/-- The layer a point works on. -/
def layerOf (t : Fin cfg0.N) : Fin 2 := ⟨t.val / 48, by have h : t.val < 96 := t.isLt; omega⟩

/-- The column that column `q` of the point's block is. -/
def colOf (t : Fin cfg0.N) (q : Fin 512) : Fin 24576 := ⟨512 * (t.val % 48) + q.val, by have := q.isLt; omega⟩

/-- The conditions, from the arguments. -/
def condOf (r : Fin 8) (k : Fin 4096) : EReal :=
  condAt (m ((c.tc : Thread nD τ).loc main_arg0)) (m ((c.tc : Thread nD τ).loc main_arg1)) r k

theorem conds_at (t : Fin cfg0.N) (r : Fin 8) (k : Fin 4096) : iblk m c 0 t (ix2 r k) = condOf m c r k := by
  have e := (blockIdx t).1
  blk_simp [iblk, e]
  rw [show (win0_0.blk t).view.emb (ix2 r k) = ix2 r k by blk_ext [e]]
  exact (congrFun (V_main_v2 m c) _).trans (conds_point _ _ _ _)

theorem weights_at (t : Fin cfg0.N) (k : Fin 4096) (q : Fin 512) :
    iblk m c 1 t (ix3 0 k q) = m ((c.tc : Thread nD τ).loc main_arg2) (ix3 (layerOf t) k (colOf t q)) := by
  have e := (blockIdx t).2.1
  blk_simp [iblk, e]
  rw [show (win0_1.blk t).view.emb (ix3 0 k q) = ix3 (layerOf t) k (colOf t q) by blk_ext [e, layerOf, colOf]]
  exact congrFun (V_main_arg2 m c) _

theorem bias_at (t : Fin cfg0.N) (q : Fin 512) :
    iblk m c 2 t (ix3 0 0 q) = m ((c.tc : Thread nD τ).loc main_arg3) (ix2 (layerOf t) (colOf t q)) := by
  have e := (blockIdx t).2.2.1
  blk_simp [iblk, e]
  rw [show (win0_2.blk t).view.emb (ix3 0 0 q) = ix3 (layerOf t) 0 (colOf t q) by blk_ext [e, layerOf, colOf]]
  exact (congrFun (V_main_v3 m c) _).trans (biases_point _ _ _)

/-- The tables, from the arguments. -/
def target (y : S2x8x24576.Idx) : EReal :=
  adaAt (condOf m c) (m ((c.tc : Thread nD τ).loc main_arg2)) (m ((c.tc : Thread nD τ).loc main_arg3)) (y 0) (y 1) (y 2)

theorem array_eq : (dats m 0 c).arrAt 3 cfg0.N = target m c := by
  refine (dats m 0 c).arrAt_eq_of_covers 3 _ (by decide +kernel) fun t hf y => ?_
  obtain ⟨z, r, q, rfl⟩ : ∃ (z : Fin 1) (r : Fin 8) (q : Fin 512), y = ix3 z r q :=
    ⟨y 0, y 1, y 2, by funext a; match a with | ⟨0, _⟩ => rfl | ⟨1, _⟩ => rfl | ⟨2, _⟩ => rfl⟩
  obtain rfl : z = 0 := Subsingleton.elim _ _
  have e := (blockIdx t).2.2.2
  blk_simp
  rw [after0_3]
  rw [show (win0_3.blk t).view.emb (ix3 0 r q) = ix3 (layerOf t) r (colOf t q) by blk_ext [e, layerOf, colOf]]
  frame_out [out0_3]
  refine (point _ _ _ r q).trans ?_
  simp only [View.ld_unit_zero, conds_at, weights_at, bias_at]
  rfl

end Cert.Proof.Ada
end
-- ==== Proof.AdaReference.lean ====
module

public import proofs.«01_k».proof.Proof.AdaSpec
public import proofs.«01_k».proof.Proof.Gen.Reference6Ideal.Run

@[expose] public section

set_option maxRecDepth 16384

noncomputable section

open Idealize.ShloMosaic Idealize.ShloMosaic.TcCoe Idealize.SL.Sem

namespace Cert.Proof.Ada
open Cert.Reference6Ideal Cert.Reference6Ideal.Gen

/-- The samples' activations. -/
def refSilu (C : FVec Ideal S4x4096 .f32) : FVec Ideal S4x4096 .f32 :=
  mulf C (Host.divf (broadcastInDim S4x4096 ![] bcast_S_S4x4096 (constant S_ .f32 0x3F800000#32))
    (addf (broadcastInDim S4x4096 ![] bcast_S_S4x4096 (constant S_ .f32 0x3F800000#32)) (Host.exp (Host.negf C))))

/-- The context's activation. -/
def refSiluCtx (x : FVec Ideal S4096 .f32) : FVec Ideal S4096 .f32 :=
  mulf x (Host.divf (broadcastInDim S4096 ![] bcast_S_S4096 (constant S_ .f32 0x3F800000#32))
    (addf (broadcastInDim S4096 ![] bcast_S_S4096 (constant S_ .f32 0x3F800000#32)) (Host.exp (Host.negf x))))

/-- The eight rows. -/
def refConds (C : FVec Ideal S4x4096 .f32) (x : FVec Ideal S4096 .f32) : FVec Ideal S8x4096 .f32 :=
  concatenate S8x4096 0
    [⟨S4x4096, refSilu C⟩, ⟨S1x4096, broadcastInDim S1x4096 ![1] bcast_S4096_S1x4096_1 (refSiluCtx x)⟩,
     ⟨S3x4096, broadcastInDim S3x4096 ![] bcast_S_S3x4096 (constant S_ .f32 0x00000000#32)⟩]
    concatenates_S4x4096_S1x4096_S3x4096_S8x4096_d0

/-- One layer's table. -/
def refLayer (U : FVec Ideal S8x4096 .f32) (W : FVec Ideal S1x4096x24576 .f32) (b : FVec Ideal S1x24576 .f32) : FVec Ideal S1x8x24576 .f32 :=
  broadcastInDim S1x8x24576 ![1, 2] bcast_S8x24576_S1x8x24576_1_2 (addf
    (Host.dotGeneral dot_S8x4096_S4096x24576_S8x24576_1_0_0_1_n_n none U (shapeCast S4096x24576 W shapeCasts_S1x4096x24576_S4096x24576))
    (broadcastInDim S8x24576 ![0, 1] bcast_S1x24576_S8x24576_0_1 (broadcastInDim S1x24576 ![1] bcast_S24576_S1x24576_1 (shapeCast S24576 b shapeCasts_S1x24576_S24576))))

/-- Both layers' tables. -/
def refTables (C : FVec Ideal S4x4096 .f32) (x : FVec Ideal S4096 .f32) (W : FVec Ideal S2x4096x24576 .f32) (b : FVec Ideal S2x24576 .f32) : FVec Ideal S2x8x24576 .f32 :=
  concatenate S2x8x24576 0
    [⟨S1x8x24576, refLayer (refConds C x) (extractStridedSlice S1x4096x24576 ![0, 0, 0] W slices_S2x4096x24576_S1x4096x24576_0_0_0) (extractStridedSlice S1x24576 ![0, 0] b slices_S2x24576_S1x24576_0_0)⟩,
     ⟨S1x8x24576, refLayer (refConds C x) (extractStridedSlice S1x4096x24576 ![1, 0, 0] W slices_S2x4096x24576_S1x4096x24576_1_0_0) (extractStridedSlice S1x24576 ![1, 0] b slices_S2x24576_S1x24576_1_0)⟩]
    concatenates_S1x8x24576_S1x8x24576_S2x8x24576_d0

theorem refSilu_point (C : FVec Ideal S4x4096 .f32) (r : Fin 4) (k : Fin 4096) : refSilu C (ix2 r k) = silu (C (ix2 r k)) := by
  pointwise [refSilu, silu]
  rfl

theorem refSiluCtx_point (x : FVec Ideal S4096 .f32) (k : Fin 4096) : refSiluCtx x (ix1 k) = silu (x (ix1 k)) := by
  pointwise [refSiluCtx, silu]
  rfl

theorem silu_zero : silu 0 = 0 := zero_mul _

theorem refConds_point (C : FVec Ideal S4x4096 .f32) (x : FVec Ideal S4096 .f32) (r : Fin 8) (k : Fin 4096) :
    refConds C x (ix2 r k) = silu (condAt C x r k) := by
  fin_cases r <;> pointwise [refConds, condAt, refSilu_point, refSiluCtx_point, silu_zero]

theorem refLayer_point (U : FVec Ideal S8x4096 .f32) (W : FVec Ideal S1x4096x24576 .f32) (b : FVec Ideal S1x24576 .f32) (r : Fin 8) (d : Fin 24576) :
    refLayer U W b (ix3 0 r d) = (∑ k : Fin 4096, U (ix2 r k) * W (ix3 0 k d)) + b (ix2 0 d) := by
  pointwise [refLayer]

/-- Both programs' tables agree, entry by entry. -/
theorem refTables_point (C : FVec Ideal S4x4096 .f32) (x : FVec Ideal S4096 .f32) (W : FVec Ideal S2x4096x24576 .f32) (b : FVec Ideal S2x24576 .f32)
    (l : Fin 2) (r : Fin 8) (d : Fin 24576) : refTables C x W b (ix3 l r d) = adaAt (condAt C x) W b l r d := by
  fin_cases l <;> pointwise [refTables, adaAt, refLayer_point, refConds_point]

end Cert.Proof.Ada
end
-- ==== Proof.AdaClaim.lean ====
/- The call of the tables and its reference end with equal results. -/
module

public import proofs.«01_k».proof.Defs
public import proofs.«01_k».proof.Proof.AdaValue
public import proofs.«01_k».proof.Proof.AdaReference

@[expose] public section

set_option maxRecDepth 16384

noncomputable section

open Idealize.ShloMosaic Idealize.ShloMosaic.TcCoe Idealize.SL.Sem
open Idealize.ShloMosaic.Pipeline (Dat)

namespace Cert.Proof.Ada

section
open Cert.Kernel6Ideal Cert.Kernel6Ideal.Gen

/-- The kernel program's run: the result is the stacked products, the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 3).trans (array_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)
end

/-- From memories agreeing on the arguments the two programs end with the same array. -/
theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => target m c, kernel_run m g, ?_⟩
  refine (θ_run Cert.Reference6Ideal.defs _ _).mono (fun r h c => ⟨(h c).1.trans ?_, (h c).2⟩) (Cert.Reference6Ideal.Value.run (F := Ideal) m' g')
  obtain ⟨e0, e1, e2, e3⟩ := hag c
  funext y
  obtain ⟨a, p, d, rfl⟩ : ∃ (a : Fin 2) (p : Fin 8) (d : Fin 24576), y = ix3 a p d :=
    ⟨y 0, y 1, y 2, by funext a; match a with | ⟨0, _⟩ => rfl | ⟨1, _⟩ => rfl | ⟨2, _⟩ => rfl⟩
  refine (refTables_point _ _ _ _ a p d).trans ?_
  rw [e0, e1, e2, e3]
  rfl

end Cert.Proof.Ada
end
-- ==== Proof.MidSpec.lean ====
/- The second low-rank factors: the in-context rates and the output gate, entry by entry. -/
module

public import proofs.«01_k».proof.Proof.Gen.Kernel7Ideal.Frame
public import proofs.«01_k».proof.Proof.InpSpec
public import Idealize.ShloMosaic.Lib.Pipeline.ReadBack
public import Idealize.ShloMosaic.Lib.Pipeline.ValueKit
public import Idealize.ShloMosaic.Lib.Pointwise
public import Idealize.ShloMosaic.Lib.VecWindow
public import Idealize.ShloMosaic.Lib.StableHlo.Run

@[expose] public section

set_option maxRecDepth 16384

noncomputable section

open Idealize.ShloMosaic Idealize.ShloMosaic.TcCoe Idealize.SL.Sem

namespace Cert.Proof.Mid
open Cert.Kernel7Ideal Cert.Kernel7Ideal.Gen
open Cert.Proof.Inp (pad_zero)

/-- The logistic function. -/
def sigm (x : EReal) : EReal := Ideal.logistic x

/-- Column `128 e + k` of the 512 hidden columns. -/
def hidCol (e : Fin 2) (k : Fin 128) : Fin 512 := ⟨128 * e.val + k.val, by omega⟩

/-- Direction `e`'s rate at row `r`, column `d`. -/
def rateAt (H : FVec Ideal S3x9216x512 .f32) (A : FVec Ideal S2x128x4096 .f32) (b : FVec Ideal S2x4096 .f32) (e : Fin 2) (r : Fin 9216) (d : Fin 4096) : EReal :=
  sigm (b (ix2 e d) + ∑ k : Fin 128, H (ix3 1 r (hidCol e k)) * A (ix3 e k d))

/-- Row `k` of the gate's factor, zero past its 480 rows. -/
def gateRow (G : FVec Ideal S480x4096 .f32) (k : Fin 512) (d : Fin 4096) : EReal :=
  if h : k.val < 480 then G (ix2 ⟨k.val, h⟩ d) else 0

/-- The gate at row `r`, column `d`. -/
def gateAt (H : FVec Ideal S3x9216x512 .f32) (G : FVec Ideal S480x4096 .f32) (r : Fin 9216) (d : Fin 4096) : EReal :=
  ∑ k : Fin 512, sigm (H (ix3 2 r k)) * gateRow G k d

/-- The rows of zeros add nothing. -/
theorem gateAt_eq (H : FVec Ideal S3x9216x512 .f32) (G : FVec Ideal S480x4096 .f32) (r : Fin 9216) (d : Fin 4096) :
    gateAt H G r d = ∑ k : Fin 480, sigm (H (ix3 2 r ⟨k.val, by omega⟩)) * G (ix2 k d) := by
  unfold gateAt
  refine (Fin.sum_univ_add (a := 480) (b := 32) fun k : Fin 512 => sigm (H (ix3 2 r k)) * gateRow G k d).trans ?_
  have hz : ∀ k : Fin 32, sigm (H (ix3 2 r (Fin.natAdd 480 k))) * gateRow G (Fin.natAdd 480 k) d = 0 := fun k => by
    have hk : ¬(Fin.natAdd 480 k).val < 480 := by simp
    unfold gateRow
    rw [dif_neg hk, mul_zero]
  rw [Finset.sum_congr rfl fun k _ => hz k, Finset.sum_const_zero, add_zero]
  refine Finset.sum_congr rfl fun k _ => ?_
  unfold gateRow
  rw [dif_pos (show (Fin.castAdd 32 k).val < 480 from k.isLt)]
  rfl

/-- The first direction's stored rates. -/
theorem rate_first (h : Vec Ideal S1x256x512 .f32) (b : Vec Ideal S1x1x1024 .f32) (A : Vec Ideal S1x128x1024 .bf16) (p : Fin 256) (q : Fin 1024) :
    k0_pay14 (k0_pay12 b) (k0_pay13 h) A (ix3 0 p q) = sigm (b (ix3 0 0 q) + ∑ k : Fin 128, h (ix3 0 p (hidCol 0 k)) * A (ix3 0 k q)) := by
  pointwise [k0_pay14, k0_pay12, k0_pay13, k0_pay9, sigm, hidCol]
  done

/-- The second direction's stored rates. -/
theorem rate_second (h : Vec Ideal S1x256x512 .f32) (b : Vec Ideal S1x1x1024 .f32) (A : Vec Ideal S1x128x1024 .bf16) (p : Fin 256) (q : Fin 1024) :
    k0_pay18 (k0_pay16 b) (k0_pay17 (k0_pay9 h) A) (ix3 0 p q) = sigm (b (ix3 0 0 q) + ∑ k : Fin 128, h (ix3 0 p (hidCol 1 k)) * A (ix3 0 k q)) := by
  pointwise [k0_pay18, k0_pay16, k0_pay17, k0_pay9, sigm, hidCol]
  done

/-- The stored gate. -/
theorem gate_point (h : Vec Ideal S1x256x512 .f32) (G : Vec Ideal S512x1024 .bf16) (p : Fin 256) (q : Fin 1024) :
    k0_pay19 (k0_pay10 h) G (ix2 p q) = ∑ k : Fin 512, sigm (h (ix3 0 p k)) * G (ix2 k q) := by
  pointwise [k0_pay19, k0_pay10, sigm]
  done

/-- A point's block of rates. -/
def rateBlock (h : Vec Ideal S3x256x512 .f32) (A : Vec Ideal S2x128x1024 .bf16) (b : Vec Ideal S2x1x1024 .f32) : Vec Ideal S2x256x1024 .bf16 :=
  fun y => sigm (b (ix3 (y 0) 0 (y 2)) + ∑ k : Fin 128, h (ix3 1 (y 1) (hidCol (y 0) k)) * A (ix3 (y 0) k (y 2)))

theorem hid_rates (h : Vec Ideal S3x256x512 .f32) (p : Fin 256) (k : Fin 512) : View.ld h r0_1 (ix3 0 p k) = h (ix3 1 p k) :=
  congrArg h (funext fun a => Fin.ext (match a with | ⟨0, _⟩ => rfl | ⟨1, _⟩ => by simp [ix3] | ⟨2, _⟩ => by simp [ix3]))

theorem hid_gate (h : Vec Ideal S3x256x512 .f32) (p : Fin 256) (k : Fin 512) : View.ld h r0_2 (ix3 0 p k) = h (ix3 2 p k) :=
  congrArg h (funext fun a => Fin.ext (match a with | ⟨0, _⟩ => rfl | ⟨1, _⟩ => by simp [ix3] | ⟨2, _⟩ => by simp [ix3]))

theorem bias_first (b : Vec Ideal S2x1x1024 .f32) (q : Fin 1024) : View.ld b r0_3 (ix3 0 0 q) = b (ix3 0 0 q) :=
  congrArg b (funext fun a => Fin.ext (match a with | ⟨0, _⟩ => rfl | ⟨1, _⟩ => rfl | ⟨2, _⟩ => by simp [ix3]))

theorem bias_second (b : Vec Ideal S2x1x1024 .f32) (q : Fin 1024) : View.ld b r0_6 (ix3 0 0 q) = b (ix3 1 0 q) :=
  congrArg b (funext fun a => Fin.ext (match a with | ⟨0, _⟩ => rfl | ⟨1, _⟩ => rfl | ⟨2, _⟩ => by simp [ix3]))

theorem factor_first (A : Vec Ideal S2x128x1024 .bf16) (k : Fin 128) (q : Fin 1024) : View.ld A r0_4 (ix3 0 k q) = A (ix3 0 k q) :=
  congrArg A (funext fun a => Fin.ext (match a with | ⟨0, _⟩ => rfl | ⟨1, _⟩ => by simp [ix3] | ⟨2, _⟩ => by simp [ix3]))

theorem factor_second (A : Vec Ideal S2x128x1024 .bf16) (k : Fin 128) (q : Fin 1024) : View.ld A r0_7 (ix3 0 k q) = A (ix3 1 k q) :=
  congrArg A (funext fun a => Fin.ext (match a with | ⟨0, _⟩ => rfl | ⟨1, _⟩ => by simp [ix3] | ⟨2, _⟩ => by simp [ix3]))

/-- The two stores together hold the block of rates. -/
theorem rates_canon (x0 : Vec Ideal S1x256x1024 .bf16) (h : Vec Ideal S3x256x512 .f32) (x2 A : Vec Ideal S2x128x1024 .bf16)
    (x4 : Vec Ideal S512x1024 .bf16) (x5 b : Vec Ideal S2x1x1024 .f32) (x7 : Vec Ideal S1x1024 .f32) (y : S2x256x1024.Idx) :
    out0_9 x0 h x2 A x4 x5 b x7 y = rateBlock h A b y := by
  unfold out0_9
  have hp : View.PiecesOf (rateBlock h A b) [⟨r0_8, k0_pay18 (k0_pay16 (View.ld b r0_6)) (k0_pay17 (k0_pay9 (View.ld h r0_1)) (View.ld A r0_7))⟩,
      ⟨r0_5, k0_pay14 (k0_pay12 (View.ld b r0_3)) (k0_pay13 (View.ld h r0_1)) (View.ld A r0_4)⟩] := by
    refine ⟨fun x => ?_, fun x => ?_, trivial⟩
    all_goals
      obtain ⟨z, p, q, rfl⟩ : ∃ (z : Fin 1) (p : Fin 256) (q : Fin 1024), x = ix3 z p q :=
        ⟨x 0, x 1, x 2, by funext a; match a with | ⟨0, _⟩ => rfl | ⟨1, _⟩ => rfl | ⟨2, _⟩ => rfl⟩
      obtain rfl : z = 0 := Subsingleton.elim _ _
    · refine (rate_second _ _ _ p q).trans ?_
      refine (congrArg sigm (congrArg₂ (· + ·) (bias_second b q) (Finset.sum_congr rfl fun k _ => congrArg₂ (· * ·) (hid_rates h p (hidCol 1 k)) (factor_second A k q)))).trans ?_
      have e : r0_8.emb (ix3 0 p q) = ix3 1 p q := funext fun a => Fin.ext (match a with | ⟨0, _⟩ => rfl | ⟨1, _⟩ => by simp [ix3] | ⟨2, _⟩ => by simp [ix3])
      exact (congrArg (rateBlock h A b) e).symm
    · refine (rate_first _ _ _ p q).trans ?_
      refine (congrArg sigm (congrArg₂ (· + ·) (bias_first b q) (Finset.sum_congr rfl fun k _ => congrArg₂ (· * ·) (hid_rates h p (hidCol 0 k)) (factor_first A k q)))).trans ?_
      have e : r0_5.emb (ix3 0 p q) = ix3 0 p q := funext fun a => Fin.ext (match a with | ⟨0, _⟩ => rfl | ⟨1, _⟩ => by simp [ix3] | ⟨2, _⟩ => by simp [ix3])
      exact (congrArg (rateBlock h A b) e).symm
  have hc := View.canon_append_of_piecesOf (rateBlock h A b) [] _ hp y (cover0_9 _ _ y)
  rwa [List.append_nil] at hc

end Cert.Proof.Mid
end
-- ==== Proof.MidKey.lean ====
/- The normalized keys, entry by entry. -/
module

public import proofs.«01_k».proof.Proof.MidSpec

@[expose] public section

set_option maxRecDepth 16384

noncomputable section

open Idealize.ShloMosaic Idealize.ShloMosaic.TcCoe Idealize.SL.Sem

namespace Cert.Proof.Mid
open Cert.Kernel7Ideal Cert.Kernel7Ideal.Gen

/-- One where two lanes lie in the same head of 64, zero elsewhere. -/
def sameHead (a b : Fin 128) : EReal := if a.val / 64 = b.val / 64 then 1 else 0

/-- The word that the kernel compares the lanes' heads to. -/
def headWord : IVec S128x128 32 :=
  extui 32 (cmpi .eq k0_pay2 (select (andi k0_pay4 (cmpi .ne k0_pay5 k0_pay6)) (subi k0_pay3 (broadcast S128x128 1#32)) k0_pay3)) natLt_1_32

/-- The head of a column's lane, as the kernel computes it. -/
def colWord : IVec S128x128 32 := select (andi k0_pay4 (cmpi .ne k0_pay5 k0_pay6)) (subi k0_pay3 (broadcast S128x128 1#32)) k0_pay3

theorem rowWord_eq : ∀ a : Fin 128, k0_pay2 (ix2 a 0) = BitVec.ofNat 32 (a.val / 64) := by decide +kernel

theorem colWord_eq : ∀ b : Fin 128, colWord (ix2 0 b) = BitVec.ofNat 32 (b.val / 64) := by decide +kernel

theorem same_word : ∀ i j : Fin 2, (if BitVec.ofNat 32 i.val = BitVec.ofNat 32 j.val then 1#32 else 0#32) = if i.val = j.val then 1#32 else 0#32 := by
  decide +kernel

theorem headWord_cases (a b : Fin 128) : headWord (ix2 a b) = if k0_pay2 (ix2 a 0) = colWord (ix2 0 b) then 1#32 else 0#32 := by
  show Scalar.extui (Scalar.cmpi .eq (k0_pay2 (ix2 a 0)) (colWord (ix2 0 b))) = _
  by_cases h : k0_pay2 (ix2 a 0) = colWord (ix2 0 b)
  · rw [if_pos h, h]
    simp [Scalar.extui, Scalar.cmpi, IntOp.cmpi]
  · rw [if_neg h]
    have hb : (k0_pay2 (ix2 a 0) == colWord (ix2 0 b)) = false := beq_eq_false_iff_ne.mpr h
    simp only [Scalar.extui, Scalar.cmpi, IntOp.cmpi, hb]
    rfl

theorem headWord_eq (a b : Fin 128) : headWord (ix2 a b) = if a.val / 64 = b.val / 64 then 1#32 else 0#32 := by
  rw [headWord_cases, rowWord_eq, colWord_eq]
  exact same_word ⟨a.val / 64, by omega⟩ ⟨b.val / 64, by omega⟩

theorem word_one : (FloatOps.sitofp .f32 (1#32 : BitVec 32) : Ideal .f32) = (1 : EReal) := by
  show ((((1#32 : BitVec 32).toInt : ℝ)) : EReal) = 1
  norm_num

/-- The matrix that the squares are multiplied by. -/
theorem mask_point (a b : Fin 128) : (k0_pay7 (F := Ideal) k0_pay2 k0_pay3 k0_pay4 k0_pay5 k0_pay6) (ix2 a b) = sameHead a b := by
  have e : (k0_pay7 (F := Ideal) k0_pay2 k0_pay3 k0_pay4 k0_pay5 k0_pay6) (ix2 a b) = (FloatOps.sitofp .f32 (headWord (ix2 a b)) : Ideal .f32) := rfl
  rw [e, headWord_eq]
  unfold sameHead
  by_cases h : a.val / 64 = b.val / 64
  · rw [if_pos h, if_pos h, word_one]
  · rw [if_neg h, if_neg h]
    exact Cert.Proof.Inp.pad_zero _

/-- Column `128 l + b` of a block of 1024 columns. -/
def lane (l : Fin 8) (b : Fin 128) : Fin 1024 := ⟨128 * l.val + b.val, by omega⟩

/-- The key times its weight. -/
def scaled (x : Vec Ideal S1x256x1024 .bf16) (w : Vec Ideal S1x1024 .f32) (p : Fin 256) (q : Fin 1024) : EReal := x (ix3 0 p q) * w (ix2 0 q)

/-- The bound below a head's sum of squares. -/
def floorOf : EReal := Ideal.ofBits .f32 0x179ABE15#32

/-- Eight arrays side by side. -/
theorem concat_point (A0 A1 A2 A3 A4 A5 A6 A7 : FVec Ideal S256x128 .f32) (p : Fin 256) (l : Fin 8) (b : Fin 128) :
    (concatenate S256x1024 1 [⟨S256x128, A0⟩, ⟨S256x128, A1⟩, ⟨S256x128, A2⟩, ⟨S256x128, A3⟩, ⟨S256x128, A4⟩, ⟨S256x128, A5⟩, ⟨S256x128, A6⟩, ⟨S256x128, A7⟩]
      concatenates_S256x128_S256x128_S256x128_S256x128_S256x128_S256x128_S256x128_S256x128_S256x1024_d1 : FVec Ideal S256x1024 .f32) (ix2 p (lane l b))
      = (![A0, A1, A2, A3, A4, A5, A6, A7] : Fin 8 → FVec Ideal S256x128 .f32) l (ix2 p b) := by
  have hb := b.isLt
  fin_cases l
  · first
    | (pointwise [lane]; done)
    | (pointwise [lane]; rw [dif_pos (by omega)]; exact congrArg (fun z => A0 (ix2 p z)) (Fin.ext (by simp only []; omega)))
  · first
    | (pointwise [lane]; done)
    | (pointwise [lane]; rw [dif_neg (by omega)]; rw [dif_pos (by omega)]; exact congrArg (fun z => A1 (ix2 p z)) (Fin.ext (by simp only []; omega)))
  · first
    | (pointwise [lane]; done)
    | (pointwise [lane]; rw [dif_neg (by omega)]; rw [dif_neg (by omega)]; rw [dif_pos (by omega)]; exact congrArg (fun z => A2 (ix2 p z)) (Fin.ext (by simp only []; omega)))
  · first
    | (pointwise [lane]; done)
    | (pointwise [lane]; rw [dif_neg (by omega)]; rw [dif_neg (by omega)]; rw [dif_neg (by omega)]; rw [dif_pos (by omega)]; exact congrArg (fun z => A3 (ix2 p z)) (Fin.ext (by simp only []; omega)))
  · first
    | (pointwise [lane]; done)
    | (pointwise [lane]; rw [dif_neg (by omega)]; rw [dif_neg (by omega)]; rw [dif_neg (by omega)]; rw [dif_neg (by omega)]; rw [dif_pos (by omega)]; exact congrArg (fun z => A4 (ix2 p z)) (Fin.ext (by simp only []; omega)))
  · first
    | (pointwise [lane]; done)
    | (pointwise [lane]; rw [dif_neg (by omega)]; rw [dif_neg (by omega)]; rw [dif_neg (by omega)]; rw [dif_neg (by omega)]; rw [dif_neg (by omega)]; rw [dif_pos (by omega)]; exact congrArg (fun z => A5 (ix2 p z)) (Fin.ext (by simp only []; omega)))
  · first
    | (pointwise [lane]; done)
    | (pointwise [lane]; rw [dif_neg (by omega)]; rw [dif_neg (by omega)]; rw [dif_neg (by omega)]; rw [dif_neg (by omega)]; rw [dif_neg (by omega)]; rw [dif_neg (by omega)]; rw [dif_pos (by omega)]; exact congrArg (fun z => A6 (ix2 p z)) (Fin.ext (by simp only []; omega)))
  · first
    | (pointwise [lane]; done)
    | (pointwise [lane]; rw [dif_neg (by omega)]; rw [dif_neg (by omega)]; rw [dif_neg (by omega)]; rw [dif_neg (by omega)]; rw [dif_neg (by omega)]; rw [dif_neg (by omega)]; rw [dif_neg (by omega)]; exact congrArg (fun z => A7 (ix2 p z)) (Fin.ext (by simp only []; omega)))

/-- The sums of one of the eight groups of lanes. -/
theorem group_point (x : Vec Ideal S1x256x1024 .bf16) (w : Vec Ideal S1x1024 .f32) (M : FVec Ideal S128x128 .bf16) (p : Fin 256) (l : Fin 8) (b : Fin 128) :
    (![k0_pay22 M x w, k0_pay23 M x w, k0_pay24 M x w, k0_pay25 M x w, k0_pay26 M x w,
        matmul dot_S256x128_S128x128_S256x128_1_0_0_1_n_n none (k0_pay27 x w) M (constant S256x128 .f32 0x00000000#32),
        matmul dot_S256x128_S128x128_S256x128_1_0_0_1_n_n none (truncf .bf16 (extractStridedSlice S256x128 ![0, 768] (k0_pay21 x w) slices_S256x1024_o0_768_S256x128) bitsLt_bf16_f32) M (constant S256x128 .f32 0x00000000#32),
        matmul dot_S256x128_S128x128_S256x128_1_0_0_1_n_n none (truncf .bf16 (extractStridedSlice S256x128 ![0, 896] (k0_pay21 x w) slices_S256x1024_o0_896_S256x128) bitsLt_bf16_f32) M (constant S256x128 .f32 0x00000000#32)]
        : Fin 8 → FVec Ideal S256x128 .f32) l (ix2 p b)
      = ∑ k : Fin 128, (scaled x w p (lane l k) * scaled x w p (lane l k)) * M (ix2 k b) := by
  fin_cases l <;> pointwise [k0_pay20, k0_pay21, k0_pay22, k0_pay23, k0_pay24, k0_pay25, k0_pay26, k0_pay27, scaled, lane]

theorem scaled_point (x : Vec Ideal S1x256x1024 .bf16) (w : Vec Ideal S1x1024 .f32) (p : Fin 256) (q : Fin 1024) :
    k0_pay20 x w (ix2 p q) = scaled x w p q := by
  pointwise [k0_pay20, scaled]

/-- The stored keys, for any matrix the squares are multiplied by. -/
theorem key_point (x : Vec Ideal S1x256x1024 .bf16) (w : Vec Ideal S1x1024 .f32) (M : FVec Ideal S128x128 .bf16) (p : Fin 256) (l : Fin 8) (b : Fin 128) :
    k0_pay1 M (k0_pay20 x w) (k0_pay21 x w) (k0_pay22 M x w) (k0_pay23 M x w) (k0_pay24 M x w) (k0_pay25 M x w) (k0_pay26 M x w)
        (k0_pay27 x w) (constant S256x128 .f32 0x00000000#32) (ix2 p (lane l b))
      = scaled x w p (lane l b) * Ideal.rsqrt (max (∑ k : Fin 128, (scaled x w p (lane l k) * scaled x w p (lane l k)) * M (ix2 k b)) floorOf) :=
  congrArg₂ (fun u z : EReal => u * Ideal.rsqrt (max z floorOf)) (scaled_point x w p (lane l b))
    ((concat_point _ _ _ _ _ _ _ _ p l b).trans (group_point x w M p l b))

/-- The lanes of one head are the ones the matrix keeps. -/
theorem head_sum (f : Fin 128 → EReal) (h : Fin 2) (j : Fin 64) :
    ∑ k : Fin 128, f k * sameHead k ⟨64 * h.val + j.val, by omega⟩ = ∑ i : Fin 64, f ⟨64 * h.val + i.val, by omega⟩ := by
  refine (Fin.sum_univ_add (a := 64) (b := 64) fun k : Fin 128 => f k * sameHead k ⟨64 * h.val + j.val, by omega⟩).trans ?_
  have hj := j.isLt
  have hin : ∀ (k k' : Fin 128), k.val / 64 = k'.val / 64 → f k * sameHead k k' = f k := fun k k' e => by
    unfold sameHead
    rw [if_pos e, mul_one]
  have hout : ∀ (k k' : Fin 128), k.val / 64 ≠ k'.val / 64 → f k * sameHead k k' = 0 := fun k k' e => by
    unfold sameHead
    rw [if_neg e, mul_zero]
  fin_cases h
  · exact (congrArg₂ (· + ·)
      (Finset.sum_congr rfl fun (i : Fin 64) _ => (hin ⟨i.val, by omega⟩ _ (by have := i.isLt; simp only []; omega)).trans (congrArg f (Fin.ext (by simp))))
      ((Finset.sum_congr rfl fun (i : Fin 64) _ => hout ⟨64 + i.val, by omega⟩ _ (by have := i.isLt; simp only []; omega)).trans Finset.sum_const_zero)).trans (add_zero _)
  · exact (congrArg₂ (· + ·)
      ((Finset.sum_congr rfl fun (i : Fin 64) _ => hout ⟨i.val, by omega⟩ _ (by have := i.isLt; simp only []; omega)).trans Finset.sum_const_zero)
      (Finset.sum_congr rfl fun (i : Fin 64) _ => (hin ⟨64 + i.val, by omega⟩ _ (by have := i.isLt; simp only []; omega)).trans (congrArg f (Fin.ext (by simp))))).trans (zero_add _)

/-- Column `i` of column `d`'s head. -/
def mate (d : Fin 4096) (i : Fin 64) : Fin 4096 := ⟨64 * (d.val / 64) + i.val, by omega⟩

/-- A key times its weight, from the arguments. -/
def keyScaled (K : FVec Ideal S3x9216x4096 .bf16) (w : FVec Ideal S4096 .f32) (r : Fin 9216) (d : Fin 4096) : EReal := K (ix3 1 r d) * w (ix1 d)

/-- The normalized key at row `r`, column `d`. -/
def keyAt (K : FVec Ideal S3x9216x4096 .bf16) (w : FVec Ideal S4096 .f32) (r : Fin 9216) (d : Fin 4096) : EReal :=
  keyScaled K w r d * Ideal.rsqrt (max (∑ i : Fin 64, keyScaled K w r (mate d i) * keyScaled K w r (mate d i)) floorOf)

end Cert.Proof.Mid
end
-- ==== Proof.MidValue.lean ====
/- What the arrays of the rates and of the gate hold after the last point. -/
module

public import proofs.«01_k».proof.Proof.MidKey

@[expose] public section

set_option maxRecDepth 16384

noncomputable section

open Idealize.ShloMosaic Idealize.ShloMosaic.TcCoe Idealize.SL.Sem
open Idealize.ShloMosaic.Pipeline (Dat)

namespace Cert.Proof.Mid
open Cert.Kernel7Ideal Cert.Kernel7Ideal.Gen
open Cert.Proof.Inp (pad_zero)

/-- The rates' factor as the kernel's window reads it. -/
def rateFactor (A : FVec Ideal S2x128x4096 .f32) : FVec Ideal S2x128x4096 .bf16 :=
  truncf .bf16 (pad S2x128x4096 ![0, 0, 0] ![0, 0, 0] ![0, 0, 0] A (sitofp .f32 (constantI S_ 32 0#32))
    pads_S2x128x4096_S2x128x4096_000_000_000 h_S_) bitsLt_bf16_f32

/-- The gate's factor, padded with rows of zeros. -/
def gateFactor (G : FVec Ideal S480x4096 .f32) : FVec Ideal S512x4096 .bf16 :=
  truncf .bf16 (pad S512x4096 ![0, 0] ![32, 0] ![0, 0] G (sitofp .f32 (constantI S_ 32 0#32))
    pads_S480x4096_S512x4096_0320_000 h_S_) bitsLt_bf16_f32

/-- The rates' biases as the kernel's window reads them. -/
def rateBias (b : FVec Ideal S2x4096 .f32) : FVec Ideal S2x1x4096 .f32 := shapeCast S2x1x4096 b shapeCasts_S2x4096_S2x1x4096

theorem rateFactor_point (A : FVec Ideal S2x128x4096 .f32) (e : Fin 2) (k : Fin 128) (d : Fin 4096) :
    rateFactor A (ix3 e k d) = A (ix3 e k d) := by
  pointwise [rateFactor]

theorem gateFactor_point (G : FVec Ideal S480x4096 .f32) (k : Fin 512) (d : Fin 4096) :
    gateFactor G (ix2 k d) = gateRow G k d := by
  unfold gateRow
  by_cases h : k.val < 480
  · rw [dif_pos h]
    pointwise [gateFactor, h]
  · rw [dif_neg h]
    pointwise [gateFactor, h]
    exact pad_zero _

theorem rateBias_point (b : FVec Ideal S2x4096 .f32) (e : Fin 2) (d : Fin 4096) : rateBias b (ix3 e 0 d) = b (ix2 e d) := by
  pointwise [rateBias]

variable (m : (ℓ : Loc nD τ sig) → Buf (Elt Ideal) ℓ) (c : Dev nD)

theorem V_main_v3 : V m c main_v3 = rateFactor (m ((c.tc : Thread nD τ).loc main_arg3)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp <;> rfl

theorem V_main_v5 : V m c main_v5 = gateFactor (m ((c.tc : Thread nD τ).loc main_arg4)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp <;> rfl

theorem V_main_v7 : V m c main_v7 = rateBias (m ((c.tc : Thread nD τ).loc main_arg6)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp <;> rfl

/-- A point's block of rows is its quotient by 4, its block of columns the remainder. -/
theorem blockIdx : ∀ t : Fin cfg0.N,
    win0_1.index t = ![0, t.val / 4, 0] ∧ win0_3.index t = ![0, 0, t.val % 4] ∧ win0_4.index t = ![0, t.val % 4] ∧
    win0_6.index t = ![0, 0, t.val % 4] ∧ win0_9.index t = ![0, t.val / 4, t.val % 4] ∧ win0_11.index t = ![t.val / 4, t.val % 4] :=
  (by decide +kernel : ∀ t : Fin grid0.N, _)

/-- The row that row `p` of the point's block is. -/
def rowOf (t : Fin cfg0.N) (p : Fin 256) : Fin 9216 := ⟨256 * (t.val / 4) + p.val, by have h : t.val < 144 := t.isLt; have := p.isLt; omega⟩

/-- The column that column `q` of the point's block is. -/
def colOf (t : Fin cfg0.N) (q : Fin 1024) : Fin 4096 := ⟨1024 * (t.val % 4) + q.val, by have := q.isLt; omega⟩

theorem hid_at (t : Fin cfg0.N) (g : Fin 3) (p : Fin 256) (k : Fin 512) :
    iblk m c 1 t (ix3 g p k) = m ((c.tc : Thread nD τ).loc main_arg1) (ix3 g (rowOf t p) k) := by
  have e := (blockIdx t).1
  blk_simp [iblk, e]
  rw [show (win0_1.blk t).view.emb (ix3 g p k) = ix3 g (rowOf t p) k by blk_ext [e, rowOf]]
  exact congrFun (V_main_arg1 m c) _

theorem factor_at (t : Fin cfg0.N) (e : Fin 2) (k : Fin 128) (q : Fin 1024) :
    iblk m c 3 t (ix3 e k q) = m ((c.tc : Thread nD τ).loc main_arg3) (ix3 e k (colOf t q)) := by
  have e' := (blockIdx t).2.1
  blk_simp [iblk, e']
  rw [show (win0_3.blk t).view.emb (ix3 e k q) = ix3 e k (colOf t q) by blk_ext [e', colOf]]
  exact (congrFun (V_main_v3 m c) _).trans (rateFactor_point _ _ _ _)

theorem gateFactor_at (t : Fin cfg0.N) (k : Fin 512) (q : Fin 1024) :
    iblk m c 4 t (ix2 k q) = gateRow (m ((c.tc : Thread nD τ).loc main_arg4)) k (colOf t q) := by
  have e := (blockIdx t).2.2.1
  blk_simp [iblk, e]
  rw [show (win0_4.blk t).view.emb (ix2 k q) = ix2 k (colOf t q) by blk_ext [e, colOf]]
  exact (congrFun (V_main_v5 m c) _).trans (gateFactor_point _ _ _)

theorem bias_at (t : Fin cfg0.N) (e : Fin 2) (q : Fin 1024) :
    iblk m c 6 t (ix3 e 0 q) = m ((c.tc : Thread nD τ).loc main_arg6) (ix2 e (colOf t q)) := by
  have e' := (blockIdx t).2.2.2.1
  blk_simp [iblk, e']
  rw [show (win0_6.blk t).view.emb (ix3 e 0 q) = ix3 e 0 (colOf t q) by blk_ext [e', colOf]]
  exact (congrFun (V_main_v7 m c) _).trans (rateBias_point _ _ _)

/-- The rates, from the arguments. -/
def targetRates (y : S2x9216x4096.Idx) : EReal :=
  rateAt (m ((c.tc : Thread nD τ).loc main_arg1)) (m ((c.tc : Thread nD τ).loc main_arg3)) (m ((c.tc : Thread nD τ).loc main_arg6)) (y 0) (y 1) (y 2)

/-- The gate, from the arguments. -/
def targetGate (y : S9216x4096.Idx) : EReal :=
  gateAt (m ((c.tc : Thread nD τ).loc main_arg1)) (m ((c.tc : Thread nD τ).loc main_arg4)) (y 0) (y 1)

theorem array_rates : (dats m 0 c).arrAt 9 cfg0.N = targetRates m c := by
  refine (dats m 0 c).arrAt_eq_of_covers 9 _ (by decide +kernel) fun t hf y => ?_
  obtain ⟨z, p, q, rfl⟩ : ∃ (z : Fin 2) (p : Fin 256) (q : Fin 1024), y = ix3 z p q :=
    ⟨y 0, y 1, y 2, by funext a; match a with | ⟨0, _⟩ => rfl | ⟨1, _⟩ => rfl | ⟨2, _⟩ => rfl⟩
  have e := (blockIdx t).2.2.2.2.1
  blk_simp
  rw [after0_9]
  rw [show (win0_9.blk t).view.emb (ix3 z p q) = ix3 z (rowOf t p) (colOf t q) by blk_ext [e, rowOf, colOf]]
  refine (rates_canon _ _ _ _ _ _ _ _ _).trans ?_
  exact congrArg sigm (congrArg₂ (· + ·) (bias_at m c t z q)
    (Finset.sum_congr rfl fun k _ => congrArg₂ (· * ·) (hid_at m c t 1 p (hidCol z k)) (factor_at m c t z k q)))

theorem array_gate : (dats m 0 c).arrAt 11 cfg0.N = targetGate m c := by
  refine (dats m 0 c).arrAt_eq_of_covers 11 _ (by decide +kernel) fun t hf y => ?_
  obtain ⟨p, q, rfl⟩ : ∃ (p : Fin 256) (q : Fin 1024), y = ix2 p q := ⟨y 0, y 1, by funext a; match a with | ⟨0, _⟩ => rfl | ⟨1, _⟩ => rfl⟩
  have e := (blockIdx t).2.2.2.2.2
  blk_simp
  rw [after0_11]
  rw [show (win0_11.blk t).view.emb (ix2 p q) = ix2 (rowOf t p) (colOf t q) by blk_ext [e, rowOf, colOf]]
  frame_out [out0_11]
  refine (gate_point _ _ p q).trans ?_
  exact Finset.sum_congr rfl fun k _ => congrArg₂ (· * ·)
    (congrArg sigm ((hid_gate _ p k).trans (hid_at m c t 2 p k))) (gateFactor_at m c t k q)

/-- The keys' weight as the kernel's window reads it. -/
def keyWeight (w : FVec Ideal S4096 .f32) : FVec Ideal S1x4096 .f32 := shapeCast S1x4096 w shapeCasts_S4096_S1x4096

theorem keyWeight_point (w : FVec Ideal S4096 .f32) (d : Fin 4096) : keyWeight w (ix2 0 d) = w (ix1 d) := by
  pointwise [keyWeight]

theorem V_main_v8 : V m c main_v8 = keyWeight (m ((c.tc : Thread nD τ).loc main_arg7)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp <;> rfl

theorem keyBlockIdx : ∀ t : Fin cfg0.N,
    win0_0.index t = ![1, t.val / 4, t.val % 4] ∧ win0_7.index t = ![0, t.val % 4] ∧ win0_10.index t = ![t.val / 4, t.val % 4] :=
  (by decide +kernel : ∀ t : Fin grid0.N, _)

theorem key_at (t : Fin cfg0.N) (p : Fin 256) (q : Fin 1024) :
    iblk m c 0 t (ix3 0 p q) = m ((c.tc : Thread nD τ).loc main_arg0) (ix3 1 (rowOf t p) (colOf t q)) := by
  have e := (keyBlockIdx t).1
  blk_simp [iblk, e]
  rw [show (win0_0.blk t).view.emb (ix3 0 p q) = ix3 1 (rowOf t p) (colOf t q) by blk_ext [e, rowOf, colOf]]
  exact congrFun (V_main_arg0 m c) _

theorem weight_at (t : Fin cfg0.N) (q : Fin 1024) :
    iblk m c 7 t (ix2 0 q) = m ((c.tc : Thread nD τ).loc main_arg7) (ix1 (colOf t q)) := by
  have e := (keyBlockIdx t).2.1
  blk_simp [iblk, e]
  rw [show (win0_7.blk t).view.emb (ix2 0 q) = ix2 0 (colOf t q) by blk_ext [e, colOf]]
  exact (congrFun (V_main_v8 m c) _).trans (keyWeight_point _ _)

theorem scaled_at (t : Fin cfg0.N) (p : Fin 256) (q : Fin 1024) :
    scaled (iblk m c 0 t) (iblk m c 7 t) p q
      = keyScaled (m ((c.tc : Thread nD τ).loc main_arg0)) (m ((c.tc : Thread nD τ).loc main_arg7)) (rowOf t p) (colOf t q) :=
  congrArg₂ (· * ·) (key_at m c t p q) (weight_at m c t q)

/-- The keys, from the arguments. -/
def targetKeys (y : S9216x4096.Idx) : EReal :=
  keyAt (m ((c.tc : Thread nD τ).loc main_arg0)) (m ((c.tc : Thread nD τ).loc main_arg7)) (y 0) (y 1)

theorem array_keys : (dats m 0 c).arrAt 10 cfg0.N = targetKeys m c := by
  refine (dats m 0 c).arrAt_eq_of_covers 10 _ (by decide +kernel) fun t hf y => ?_
  obtain ⟨p, q, rfl⟩ : ∃ (p : Fin 256) (q : Fin 1024), y = ix2 p q := ⟨y 0, y 1, by funext a; match a with | ⟨0, _⟩ => rfl | ⟨1, _⟩ => rfl⟩
  obtain ⟨l, h, j, rfl⟩ : ∃ (l : Fin 8) (h : Fin 2) (j : Fin 64), q = lane l ⟨64 * h.val + j.val, by omega⟩ := by
    have hq := q.isLt
    exact ⟨⟨q.val / 128, by omega⟩, ⟨q.val % 128 / 64, by omega⟩, ⟨q.val % 64, by omega⟩, Fin.ext (by simp only [lane]; omega)⟩
  have e := (keyBlockIdx t).2.2
  blk_simp
  rw [after0_10]
  rw [show (win0_10.blk t).view.emb (ix2 p (lane l ⟨64 * h.val + j.val, by omega⟩)) = ix2 (rowOf t p) (colOf t (lane l ⟨64 * h.val + j.val, by omega⟩))
    by blk_ext [e, rowOf, colOf]]
  frame_out [out0_10]
  refine (key_point _ _ _ p l _).trans ?_
  have hs : ∀ (f : Fin 128 → EReal), ∑ k : Fin 128, f k * (k0_pay7 (F := Ideal) k0_pay2 k0_pay3 k0_pay4 k0_pay5 k0_pay6) (ix2 k ⟨64 * h.val + j.val, by omega⟩)
      = ∑ i : Fin 64, f ⟨64 * h.val + i.val, by omega⟩ := fun f =>
    (Finset.sum_congr rfl fun k _ => congrArg (f k * ·) (mask_point k _)).trans (head_sum f h j)
  refine (congrArg (fun z => scaled (iblk m c 0 t) (iblk m c 7 t) p (lane l ⟨64 * h.val + j.val, by omega⟩) * Ideal.rsqrt (max z floorOf))
    (hs fun k => scaled (iblk m c 0 t) (iblk m c 7 t) p (lane l k) * scaled (iblk m c 0 t) (iblk m c 7 t) p (lane l k))).trans ?_
  simp only [scaled_at]
  have hm : ∀ i : Fin 64, colOf t (lane l ⟨64 * h.val + i.val, by omega⟩) = mate (colOf t (lane l ⟨64 * h.val + j.val, by omega⟩)) i := fun i =>
    Fin.ext (by have := j.isLt; simp only [colOf, lane, mate]; omega)
  exact congrArg (fun z => keyScaled (m ((c.tc : Thread nD τ).loc main_arg0)) (m ((c.tc : Thread nD τ).loc main_arg7)) (rowOf t p)
      (colOf t (lane l ⟨64 * h.val + j.val, by omega⟩)) * Ideal.rsqrt (max z floorOf))
    (Finset.sum_congr rfl fun i _ => congrArg (fun d => keyScaled (m ((c.tc : Thread nD τ).loc main_arg0)) (m ((c.tc : Thread nD τ).loc main_arg7)) (rowOf t p) d
      * keyScaled (m ((c.tc : Thread nD τ).loc main_arg0)) (m ((c.tc : Thread nD τ).loc main_arg7)) (rowOf t p) d) (hm i))

end Cert.Proof.Mid
end
-- ==== Proof.MidReference.lean ====
/- The reference's rates and gate, entry by entry. -/
module

public import proofs.«01_k».proof.Proof.MidKey
public import proofs.«01_k».proof.Proof.Gen.Reference7Ideal.Run

@[expose] public section

set_option maxRecDepth 16384

noncomputable section

open Idealize.ShloMosaic Idealize.ShloMosaic.TcCoe Idealize.SL.Sem

namespace Cert.Proof.Mid
open Cert.Reference7Ideal Cert.Reference7Ideal.Gen

/-- The logistic function of an array. -/
def refSigm (x : FVec Ideal S9216x4096 .f32) : FVec Ideal S9216x4096 .f32 :=
  Host.divf (broadcastInDim S9216x4096 ![] bcast_S_S9216x4096 (constant S_ .f32 0x3F800000#32))
    (addf (broadcastInDim S9216x4096 ![] bcast_S_S9216x4096 (constant S_ .f32 0x3F800000#32)) (Host.exp (Host.negf x)))

/-- A direction's rates before the logistic function. -/
def refPre (h : FVec Ideal S9216x128 .f32) (A : FVec Ideal S1x128x4096 .f32) (b : FVec Ideal S1x4096 .f32) : FVec Ideal S9216x4096 .f32 :=
  addf (broadcastInDim S9216x4096 ![0, 1] bcast_S1x4096_S9216x4096_0_1 (broadcastInDim S1x4096 ![1] bcast_S4096_S1x4096_1 (shapeCast S4096 b shapeCasts_S1x4096_S4096)))
    (Host.dotGeneral dot_S9216x128_S128x4096_S9216x4096_1_0_0_1_n_n none h (shapeCast S128x4096 A shapeCasts_S1x128x4096_S128x4096))

/-- The hidden columns of one group. -/
def refHid (h : FVec Ideal S1x9216x512 .f32) : FVec Ideal S9216x512 .f32 := shapeCast S9216x512 h shapeCasts_S1x9216x512_S9216x512

/-- Both directions' rates. -/
def refRates (H : FVec Ideal S3x9216x512 .f32) (A : FVec Ideal S2x128x4096 .f32) (b : FVec Ideal S2x4096 .f32) : FVec Ideal S2x9216x4096 .bf16 :=
  truncf .bf16 (concatenate S2x9216x4096 0
    [⟨S1x9216x4096, broadcastInDim S1x9216x4096 ![1, 2] bcast_S9216x4096_S1x9216x4096_1_2 (refSigm (refPre
      (extractStridedSlice S9216x128 ![0, 0] (refHid (extractStridedSlice S1x9216x512 ![1, 0, 0] H slices_S3x9216x512_S1x9216x512_1_0_0)) slices_S9216x512_S9216x128_0_0)
      (extractStridedSlice S1x128x4096 ![0, 0, 0] A slices_S2x128x4096_S1x128x4096_0_0_0) (extractStridedSlice S1x4096 ![0, 0] b slices_S2x4096_S1x4096_0_0)))⟩,
     ⟨S1x9216x4096, broadcastInDim S1x9216x4096 ![1, 2] bcast_S9216x4096_S1x9216x4096_1_2 (refSigm (refPre
      (extractStridedSlice S9216x128 ![0, 128] (refHid (extractStridedSlice S1x9216x512 ![1, 0, 0] H slices_S3x9216x512_S1x9216x512_1_0_0)) slices_S9216x512_S9216x128_0_128)
      (extractStridedSlice S1x128x4096 ![1, 0, 0] A slices_S2x128x4096_S1x128x4096_1_0_0) (extractStridedSlice S1x4096 ![1, 0] b slices_S2x4096_S1x4096_1_0)))⟩]
    concatenates_S1x9216x4096_S1x9216x4096_S2x9216x4096_d0) bitsLt_bf16_f32

/-- The gate. -/
def refGate (H : FVec Ideal S3x9216x512 .f32) (G : FVec Ideal S480x4096 .f32) : FVec Ideal S9216x4096 .bf16 :=
  truncf .bf16 (Host.dotGeneral dot_S9216x480_S480x4096_S9216x4096_1_0_0_1_n_n none
    (Host.divf (broadcastInDim S9216x480 ![] bcast_S_S9216x480 (constant S_ .f32 0x3F800000#32))
      (addf (broadcastInDim S9216x480 ![] bcast_S_S9216x480 (constant S_ .f32 0x3F800000#32)) (Host.exp (Host.negf
        (extractStridedSlice S9216x480 ![0, 0] (refHid (extractStridedSlice S1x9216x512 ![2, 0, 0] H slices_S3x9216x512_S1x9216x512_2_0_0)) slices_S9216x512_S9216x480_0_0))))) G) bitsLt_bf16_f32

theorem refSigm_point (x : FVec Ideal S9216x4096 .f32) (r : Fin 9216) (d : Fin 4096) : refSigm x (ix2 r d) = sigm (x (ix2 r d)) := by
  pointwise [refSigm]
  rfl

theorem refPre_point (h : FVec Ideal S9216x128 .f32) (A : FVec Ideal S1x128x4096 .f32) (b : FVec Ideal S1x4096 .f32) (r : Fin 9216) (d : Fin 4096) :
    refPre h A b (ix2 r d) = b (ix2 0 d) + ∑ k : Fin 128, h (ix2 r k) * A (ix3 0 k d) := by
  pointwise [refPre]

theorem refHid_point (h : FVec Ideal S1x9216x512 .f32) (r : Fin 9216) (k : Fin 512) : refHid h (ix2 r k) = h (ix3 0 r k) := by
  pointwise [refHid]

theorem refRates_point (H : FVec Ideal S3x9216x512 .f32) (A : FVec Ideal S2x128x4096 .f32) (b : FVec Ideal S2x4096 .f32)
    (e : Fin 2) (r : Fin 9216) (d : Fin 4096) : refRates H A b (ix3 e r d) = rateAt H A b e r d := by
  fin_cases e <;> pointwise [refRates, rateAt, refSigm_point, refPre_point, refHid_point, hidCol]

theorem refGate_point (H : FVec Ideal S3x9216x512 .f32) (G : FVec Ideal S480x4096 .f32) (r : Fin 9216) (d : Fin 4096) :
    refGate H G (ix2 r d) = gateAt H G r d := by
  rw [gateAt_eq]
  pointwise [refGate, refHid_point]
  rfl

/-- The keys times their weight, head by head. -/
def refScaled (K : FVec Ideal S3x9216x4096 .bf16) (w : FVec Ideal S4096 .f32) : FVec Ideal S9216x64x64 .f32 :=
  shapeCast S9216x64x64 (mulf (extf .f32 (shapeCast S9216x4096 (extractStridedSlice S1x9216x4096 ![1, 0, 0] K slices_S3x9216x4096_S1x9216x4096_1_0_0)
      shapeCasts_S1x9216x4096_S9216x4096) bitsLt_bf16_f32)
    (broadcastInDim S9216x4096 ![0, 1] bcast_S1x4096_S9216x4096_0_1 (broadcastInDim S1x4096 ![1] bcast_S4096_S1x4096_1 w))) shapeCasts_S9216x4096_S9216x64x64

/-- The reciprocal norms of the heads. -/
def refNorm (X : FVec Ideal S9216x64x64 .f32) : FVec Ideal S9216x64x1 .f32 :=
  Host.rsqrt (maximumf (broadcastInDim S9216x64x1 ![0, 1] bcast_S9216x64_S9216x64x1_0_1
      (Host.reduceAdd (mulf X X) (constant S_ .f32 0x00000000#32) reducesTo_S9216x64x64_S9216x64_d2 h_S_))
    (broadcastInDim S9216x64x1 ![] bcast_S_S9216x64x1 (constant S_ .f32 0x179ABE15#32)))

/-- The normalized keys. -/
def refKeys (X : FVec Ideal S9216x64x64 .f32) : FVec Ideal S9216x4096 .bf16 :=
  truncf .bf16 (shapeCast S9216x4096 (mulf X (broadcastInDim S9216x64x64 ![0, 1, 2] bcast_S9216x64x1_S9216x64x64_0_1_2 (refNorm X)))
    shapeCasts_S9216x64x64_S9216x4096) bitsLt_bf16_f32

/-- Column `64 g + j`. -/
def headCol (g j : Fin 64) : Fin 4096 := ⟨g.val * 64 + j.val, by omega⟩

theorem refScaled_point (K : FVec Ideal S3x9216x4096 .bf16) (w : FVec Ideal S4096 .f32) (r : Fin 9216) (g j : Fin 64) :
    refScaled K w (ix3 r g j) = keyScaled K w r (headCol g j) := by
  pointwise [refScaled, keyScaled, headCol]

theorem refNorm_point (X : FVec Ideal S9216x64x64 .f32) (r : Fin 9216) (g : Fin 64) :
    refNorm X (ix3 r g 0) = Ideal.rsqrt (max (∑ i : Fin 64, X (ix3 r g i) * X (ix3 r g i)) floorOf) := by
  pointwise [refNorm, floorOf]

theorem refKeys_split (X : FVec Ideal S9216x64x64 .f32) (r : Fin 9216) (g j : Fin 64) :
    refKeys X (ix2 r (headCol g j)) = X (ix3 r g j) * refNorm X (ix3 r g 0) := by
  pointwise [refKeys, headCol]

theorem refKeys_point (K : FVec Ideal S3x9216x4096 .bf16) (w : FVec Ideal S4096 .f32) (r : Fin 9216) (d : Fin 4096) :
    refKeys (refScaled K w) (ix2 r d) = keyAt K w r d := by
  obtain ⟨g, j, rfl⟩ : ∃ g j : Fin 64, d = headCol g j :=
    ⟨⟨d.val / 64, by omega⟩, ⟨d.val % 64, by omega⟩, Fin.ext (by simp only [headCol]; omega)⟩
  have hm : ∀ i : Fin 64, headCol g i = mate (headCol g j) i := fun i => Fin.ext (by have := j.isLt; simp only [headCol, mate]; omega)
  rw [refKeys_split, refNorm_point]
  simp only [refScaled_point]
  exact congrArg (fun z => keyScaled K w r (headCol g j) * Ideal.rsqrt (max z floorOf))
    (Finset.sum_congr rfl fun i _ => congrArg (fun d => keyScaled K w r d * keyScaled K w r d) (hm i))

end Cert.Proof.Mid
end
-- ==== Proof.MidClaim.lean ====
/- The call of the second low-rank factors and its reference end with equal rates, keys and gates. -/
module

public import proofs.«01_k».proof.Defs
public import proofs.«01_k».proof.Proof.MidValue
public import proofs.«01_k».proof.Proof.MidReference

@[expose] public section

set_option maxRecDepth 16384

noncomputable section

open Idealize.ShloMosaic Idealize.ShloMosaic.TcCoe Idealize.SL.Sem
open Idealize.ShloMosaic.Pipeline (Dat)

namespace Cert.Proof.Mid

section
open Cert.Kernel7Ideal Cert.Kernel7Ideal.Gen

/-- The kernel program's run: the results are the rates, the keys and the gate, the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9_1) = targetRates m c
      ∧ r.2.mem ((c.tc : Thread nD τ).loc main_v9_2) = targetKeys m c
      ∧ r.2.mem ((c.tc : Thread nD τ).loc main_v9_3) = targetGate m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).1 9).trans (array_rates m c),
      ((h c).1 10).trans (array_keys m c),
      ((h c).1 11).trans (array_gate m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)
end

/-- From memories agreeing on the arguments the two programs end with the same rates, the same keys and the same gate. -/
theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => targetRates m c, fun c => targetKeys m c, fun c => targetGate m c, kernel_run m g, ?_⟩
  refine (θ_run Cert.Reference7Ideal.defs _ _).mono (fun r h c => ⟨(h c).1.trans ?_, (h c).2.1.trans ?_, (h c).2.2.1.trans ?_, (h c).2.2.2⟩)
    (Cert.Reference7Ideal.Value.run (F := Ideal) m' g')
  · obtain ⟨e0, e1, e2, e3, e4, e5, e6, e7⟩ := hag c
    funext y
    obtain ⟨a, p, d, rfl⟩ : ∃ (a : Fin 2) (p : Fin 9216) (d : Fin 4096), y = ix3 a p d :=
      ⟨y 0, y 1, y 2, by funext a; match a with | ⟨0, _⟩ => rfl | ⟨1, _⟩ => rfl | ⟨2, _⟩ => rfl⟩
    refine (refRates_point _ _ _ a p d).trans ?_
    rw [e1, e3, e6]
    rfl
  · obtain ⟨e0, e1, e2, e3, e4, e5, e6, e7⟩ := hag c
    funext y
    obtain ⟨p, d, rfl⟩ : ∃ (p : Fin 9216) (d : Fin 4096), y = ix2 p d := ⟨y 0, y 1, by funext a; match a with | ⟨0, _⟩ => rfl | ⟨1, _⟩ => rfl⟩
    refine (refKeys_point _ _ p d).trans ?_
    rw [e0, e7]
    rfl
  · obtain ⟨e0, e1, e2, e3, e4, e5, e6, e7⟩ := hag c
    funext y
    obtain ⟨p, d, rfl⟩ : ∃ (p : Fin 9216) (d : Fin 4096), y = ix2 p d := ⟨y 0, y 1, by funext a; match a with | ⟨0, _⟩ => rfl | ⟨1, _⟩ => rfl⟩
    refine (refGate_point _ _ p d).trans ?_
    rw [e1, e4]
    rfl

end Cert.Proof.Mid
end
-- ==== Proof.lean ====
/- The certificate's claims, assembled from the generated frames and the value modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.RetClaim
public import proofs.«01_k».proof.Proof.MlpClaim
public import proofs.«01_k».proof.Proof.RkvClaim
public import proofs.«01_k».proof.Proof.InpSame
public import proofs.«01_k».proof.Proof.InpClaim
public import proofs.«01_k».proof.Proof.LowClaim
public import proofs.«01_k».proof.Proof.AdaClaim
public import proofs.«01_k».proof.Proof.MidClaim
public import Idealize.ShloMosaic.Lib.Quiescent
public import Idealize.ShloMosaic.Adequacy
public import Idealize.ShloMosaic.Init

@[expose] public section

noncomputable section

namespace Cert.Proof

open Idealize.ShloMosaic Idealize.SL.Sem

/-- The retention reference terminates with its argument unchanged and its counters at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The MLP reference terminates with its arguments unchanged and its counters at zero. -/
theorem frame_reference2 : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩) (Cert.Reference2Ideal.Value.run (F := Ideal) m ρ)

/-- The reference of the three products terminates with its arguments unchanged and its counters at zero. -/
theorem frame_reference3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

/-- The input projection's reference terminates with its arguments unchanged and its counters at zero. -/
theorem frame_reference4 : Cert.quiescent_Reference4Ideal (hReference4Ideal := Cert.Reference4Ideal.Gen.facts) := fun m ρ _ =>
  (θ_run Cert.Reference4Ideal.defs _ _).mono
    (fun r h => ⟨fun c => (h c).2.2, Idealize.ShloMosaic.sem_eq_zero_of_no_sems (by decide) r.2⟩) (Cert.Reference4Ideal.Value.run (F := Ideal) m ρ)

/-- The reference of the narrow products terminates with its arguments unchanged and its counters at zero. -/
theorem frame_reference5 : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

/-- The tables' reference terminates with its arguments unchanged and its counters at zero. -/
theorem frame_reference6 : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩) (Cert.Reference6Ideal.Value.run (F := Ideal) m ρ)

/-- The reference of the second factors terminates with its arguments unchanged and its counters at zero. -/
theorem frame_reference7 : Cert.quiescent_Reference7Ideal (hReference7Ideal := Cert.Reference7Ideal.Gen.facts) := fun m ρ _ =>
  (θ_run Cert.Reference7Ideal.defs _ _).mono
    (fun r h => ⟨fun c => (h c).2.2.2, Idealize.ShloMosaic.sem_eq_zero_of_no_sems (by decide) r.2⟩) (Cert.Reference7Ideal.Value.run (F := Ideal) m ρ)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ,
    fun m ρ _ => Cert.KernelIdeal.Gen.frame m ρ,
    frame_reference,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    Cert.Proof.Inp.frame_kernel4,
    fun m ρ _ => Cert.Proof.Inp.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    trivial,
    Cert.Proof.Ret.algebraic,
    trivial,
    Cert.Proof.Mlp.algebraic,
    trivial,
    Cert.Proof.Rkv.algebraic,
    trivial,
    Cert.Proof.Inp.algebraic,
    trivial,
    Cert.Proof.Low.algebraic,
    trivial,
    Cert.Proof.Ada.algebraic,
    trivial,
    Cert.Proof.Mid.algebraic⟩

end Cert.Proof

end
